-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v38_0)) (v1 : (c : Dev Cert.Kernel4Ideal.nD) → Buf (Elt Ideal) ((c.tc : Thread Cert.Kernel4Ideal.nD Cert.Kernel4Ideal.τ).loc Cert.Kernel4Ideal.main_v38_1)) (v2 : (c : Dev Cert.Kernel4Ideal.nD) → Buf (Elt Ideal) ((c.tc : Thread Cert.Kernel4Ideal.nD Cert.Kernel4Ideal.τ).loc Cert.Kernel4Ideal.main_v38_2)) (v3 : (c : Dev Cert.Kernel4Ideal.nD) → Buf (Elt Ideal) ((c.tc : Thread Cert.Kernel4Ideal.nD Cert.Kernel4Ideal.τ).loc Cert.Kernel4Ideal.main_v38_3)) (v4 : (c : Dev Cert.Kernel4Ideal.nD) → Buf (Elt Ideal) ((c.tc : Thread Cert.Kernel4Ideal.nD Cert.Kernel4Ideal.τ).loc Cert.Kernel4Ideal.main_v38_4)) (v5 : (c : Dev Cert.Kernel4Ideal.nD) → Buf (Elt Ideal) ((c.tc : Thread Cert.Kernel4Ideal.nD Cert.Kernel4Ideal.τ).loc Cert.Kernel4Ideal.main_v38_5)) (v6 : (c : Dev Cert.Kernel4Ideal.nD) → Buf (Elt Ideal) ((c.tc : Thread Cert.Kernel4Ideal.nD Cert.Kernel4Ideal.τ).loc Cert.Kernel4Ideal.main_v38_6)) (v7 : (c : Dev Cert.Kernel4Ideal.nD) → Buf (Elt Ideal) ((c.tc : Thread Cert.Kernel4Ideal.nD Cert.Kernel4Ideal.τ).loc Cert.Kernel4Ideal.main_v38_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v38_0) = v0 c
          ∧ r.2.mem ((c.tc : Thread Cert.Kernel4Ideal.nD Cert.Kernel4Ideal.τ).loc Cert.Kernel4Ideal.main_v38_1) = v1 c
          ∧ r.2.mem ((c.tc : Thread Cert.Kernel4Ideal.nD Cert.Kernel4Ideal.τ).loc Cert.Kernel4Ideal.main_v38_2) = v2 c
          ∧ r.2.mem ((c.tc : Thread Cert.Kernel4Ideal.nD Cert.Kernel4Ideal.τ).loc Cert.Kernel4Ideal.main_v38_3) = v3 c
          ∧ r.2.mem ((c.tc : Thread Cert.Kernel4Ideal.nD Cert.Kernel4Ideal.τ).loc Cert.Kernel4Ideal.main_v38_4) = v4 c
          ∧ r.2.mem ((c.tc : Thread Cert.Kernel4Ideal.nD Cert.Kernel4Ideal.τ).loc Cert.Kernel4Ideal.main_v38_5) = v5 c
          ∧ r.2.mem ((c.tc : Thread Cert.Kernel4Ideal.nD Cert.Kernel4Ideal.τ).loc Cert.Kernel4Ideal.main_v38_6) = v6 c
          ∧ r.2.mem ((c.tc : Thread Cert.Kernel4Ideal.nD Cert.Kernel4Ideal.τ).loc Cert.Kernel4Ideal.main_v38_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_v71) = v4 c
          ∧ r.2.mem ((c.tc : Thread Cert.Reference4Ideal.nD Cert.Reference4Ideal.τ).loc Cert.Reference4Ideal.main_v72) = v5 c
          ∧ r.2.mem ((c.tc : Thread Cert.Reference4Ideal.nD Cert.Reference4Ideal.τ).loc Cert.Reference4Ideal.main_v73) = v6 c
          ∧ r.2.mem ((c.tc : Thread Cert.Reference4Ideal.nD Cert.Reference4Ideal.τ).loc Cert.Reference4Ideal.main_v75) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v39_0)) (v1 : (c : Dev Cert.Kernel5Ideal.nD) → Buf (Elt Ideal) ((c.tc : Thread Cert.Kernel5Ideal.nD Cert.Kernel5Ideal.τ).loc Cert.Kernel5Ideal.main_v39_1)) (v2 : (c : Dev Cert.Kernel5Ideal.nD) → Buf (Elt Ideal) ((c.tc : Thread Cert.Kernel5Ideal.nD Cert.Kernel5Ideal.τ).loc Cert.Kernel5Ideal.main_v39_2)) (v3 : (c : Dev Cert.Kernel5Ideal.nD) → Buf (Elt Ideal) ((c.tc : Thread Cert.Kernel5Ideal.nD Cert.Kernel5Ideal.τ).loc Cert.Kernel5Ideal.main_v39_3)) (v4 : (c : Dev Cert.Kernel5Ideal.nD) → Buf (Elt Ideal) ((c.tc : Thread Cert.Kernel5Ideal.nD Cert.Kernel5Ideal.τ).loc Cert.Kernel5Ideal.main_v39_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v39_0) = v0 c
          ∧ r.2.mem ((c.tc : Thread Cert.Kernel5Ideal.nD Cert.Kernel5Ideal.τ).loc Cert.Kernel5Ideal.main_v39_1) = v1 c
          ∧ r.2.mem ((c.tc : Thread Cert.Kernel5Ideal.nD Cert.Kernel5Ideal.τ).loc Cert.Kernel5Ideal.main_v39_2) = v2 c
          ∧ r.2.mem ((c.tc : Thread Cert.Kernel5Ideal.nD Cert.Kernel5Ideal.τ).loc Cert.Kernel5Ideal.main_v39_3) = v3 c
          ∧ r.2.mem ((c.tc : Thread Cert.Kernel5Ideal.nD Cert.Kernel5Ideal.τ).loc Cert.Kernel5Ideal.main_v39_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_v72) = v3 c
          ∧ r.2.mem ((c.tc : Thread Cert.Reference5Ideal.nD Cert.Reference5Ideal.τ).loc Cert.Reference5Ideal.main_v73) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) →
    ∃ (v0 : (c : Dev Cert.Kernel6Ideal.nD) → Buf (Elt Ideal) ((c.tc : Thread Cert.Kernel6Ideal.nD Cert.Kernel6Ideal.τ).loc Cert.Kernel6Ideal.main_v37_0)) (v1 : (c : Dev Cert.Kernel6Ideal.nD) → Buf (Elt Ideal) ((c.tc : Thread Cert.Kernel6Ideal.nD Cert.Kernel6Ideal.τ).loc Cert.Kernel6Ideal.main_v37_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37_0) = v0 c
          ∧ r.2.mem ((c.tc : Thread Cert.Kernel6Ideal.nD Cert.Kernel6Ideal.τ).loc Cert.Kernel6Ideal.main_v37_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v156) = v0 c
          ∧ r.2.mem ((c.tc : Thread Cert.Reference6Ideal.nD Cert.Reference6Ideal.τ).loc Cert.Reference6Ideal.main_v158) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2x16640x1024 : Shape := ⟨3, ![2, 16640, 1024]⟩
abbrev S2x16640x128 : Shape := ⟨3, ![2, 16640, 128]⟩
abbrev S16x1024x2048 : Shape := ⟨3, ![16, 1024, 2048]⟩
abbrev S16x2048x1024 : Shape := ⟨3, ![16, 2048, 1024]⟩
abbrev S2x16384x16 : Shape := ⟨3, ![2, 16384, 16]⟩
abbrev S2x16x16384 : Shape := ⟨3, ![2, 16, 16384]⟩
abbrev S2x16x2048 : Shape := ⟨3, ![2, 16, 2048]⟩
abbrev S_ : Shape := ⟨0, ![]⟩
abbrev S2 : Shape := ⟨1, ![2]⟩
abbrev S2x1x1 : Shape := ⟨3, ![2, 1, 1]⟩
abbrev S16x2x2048 : Shape := ⟨3, ![16, 2, 2048]⟩
abbrev S16x4096 : Shape := ⟨2, ![16, 4096]⟩
abbrev S16x4096x1 : Shape := ⟨3, ![16, 4096, 1]⟩
abbrev S33280x1024 : Shape := ⟨2, ![33280, 1024]⟩
abbrev S1 : Shape := ⟨1, ![1]⟩
abbrev S1x1x1 : Shape := ⟨3, ![1, 1, 1]⟩
abbrev S16x4096x1024 : Shape := ⟨3, ![16, 4096, 1024]⟩
abbrev S1x512x1024 : Shape := ⟨3, ![1, 512, 1024]⟩
abbrev S1x512x1 : Shape := ⟨3, ![1, 512, 1]⟩
abbrev S1x1024x2048 : Shape := ⟨3, ![1, 1024, 2048]⟩
abbrev S1x2048x1024 : Shape := ⟨3, ![1, 2048, 1024]⟩
abbrev S512x1024 : Shape := ⟨2, ![512, 1024]⟩
abbrev S1024x2048 : Shape := ⟨2, ![1024, 2048]⟩
abbrev S512x2048 : Shape := ⟨2, ![512, 2048]⟩
abbrev S2048x1024 : Shape := ⟨2, ![2048, 1024]⟩
abbrev S512x1 : Shape := ⟨2, ![512, 1]⟩
abbrev S65536 : Shape := ⟨1, ![65536]⟩
abbrev S65536x1024 : Shape := ⟨2, ![65536, 1024]⟩
abbrev S65536x1 : Shape := ⟨2, ![65536, 1]⟩

abbrev nBuf : Space → Nat
  | .hbm => 65
  | .vmem => 12
  | .smem => 0
  | _ => 0

abbrev bufTy : (tb : Table) → Fin (tcTables nBuf tb) → BufTy
  | .hbm, ⟨0, _⟩ => ⟨S2x16640x1024, .bf16⟩
  | .hbm, ⟨1, _⟩ => ⟨S2x16640x128, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S16x1024x2048, .bf16⟩
  | .hbm, ⟨6, _⟩ => ⟨S16x1024x2048, .bf16⟩
  | .hbm, ⟨7, _⟩ => ⟨S16x2048x1024, .bf16⟩
  | .hbm, ⟨8, _⟩ => ⟨S2x16384x16, .f32⟩
  | .hbm, ⟨9, _⟩ => ⟨S2x16x16384, .f32⟩
  | .hbm, ⟨10, _⟩ => ⟨S2x16x2048, .f32⟩
  | .hbm, ⟨11, _⟩ => ⟨S2x16x2048, .i32⟩
  | .hbm, ⟨12, _⟩ => ⟨S_, .i32⟩
  | .hbm, ⟨13, _⟩ => ⟨S2x16x2048, .i32⟩
  | .hbm, ⟨14, _⟩ => ⟨S2x16x2048, .i32⟩
  | .hbm, ⟨15, _⟩ => ⟨S2, .i32⟩
  | .hbm, ⟨16, _⟩ => ⟨S_, .i32⟩
  | .hbm, ⟨17, _⟩ => ⟨S2, .i32⟩
  | .hbm, ⟨18, _⟩ => ⟨S2, .i32⟩
  | .hbm, ⟨19, _⟩ => ⟨S2x1x1, .i32⟩
  | .hbm, ⟨20, _⟩ => ⟨S2x16x2048, .i32⟩
  | .hbm, ⟨21, _⟩ => ⟨S2x16x2048, .i32⟩
  | .hbm, ⟨22, _⟩ => ⟨S16x2x2048, .i32⟩
  | .hbm, ⟨23, _⟩ => ⟨S16x4096, .i32⟩
  | .hbm, ⟨24, _⟩ => ⟨S16x2x2048, .f32⟩
  | .hbm, ⟨25, _⟩ => ⟨S16x4096x1, .f32⟩
  | .hbm, ⟨26, _⟩ => ⟨S33280x1024, .bf16⟩
  | .hbm, ⟨27, _⟩ => ⟨S_, .i32⟩
  | .hbm, ⟨28, _⟩ => ⟨S16x4096, .i32⟩
  | .hbm, ⟨29, _⟩ => ⟨S16x4096, .i1⟩
  | .hbm, ⟨30, _⟩ => ⟨S_, .i32⟩
  | .hbm, ⟨31, _⟩ => ⟨S16x4096, .i32⟩
  | .hbm, ⟨32, _⟩ => ⟨S16x4096, .i32⟩
  | .hbm, ⟨33, _⟩ => ⟨S16x4096, .i32⟩
  | .hbm, ⟨34, _⟩ => ⟨S16x4096x1, .i32⟩
  | .hbm, ⟨35, _⟩ => ⟨S1, .i32⟩
  | .hbm, ⟨36, _⟩ => ⟨S_, .i32⟩
  | .hbm, ⟨37, _⟩ => ⟨S16x4096x1, .i32⟩
  | .hbm, ⟨38, _⟩ => ⟨S16x4096x1, .i1⟩
  | .hbm, ⟨39, _⟩ => ⟨S1x1x1, .i32⟩
  | .hbm, ⟨40, _⟩ => ⟨S16x4096x1, .i32⟩
  | .hbm, ⟨41, _⟩ => ⟨S16x4096x1, .i1⟩
  | .hbm, ⟨42, _⟩ => ⟨S16x4096x1, .i1⟩
  | .hbm, ⟨43, _⟩ => ⟨S_, .i1⟩
  | .hbm, ⟨44, _⟩ => ⟨S16x4096, .i1⟩
  | .hbm, ⟨45, _⟩ => ⟨S16x4096x1024, .bf16⟩
  | .hbm, ⟨46, _⟩ => ⟨S16x4096x1024, .i1⟩
  | .hbm, ⟨47, _⟩ => ⟨S_, .bf16⟩
  | .hbm, ⟨48, _⟩ => ⟨S16x4096x1024, .bf16⟩
  | .hbm, ⟨49, _⟩ => ⟨S16x4096x1024, .bf16⟩
  | .hbm, ⟨50, _⟩ => ⟨S16x4096x1024, .f32⟩
  | .hbm, ⟨51, _⟩ => ⟨S65536, .i32⟩
  | .hbm, ⟨52, _⟩ => ⟨S65536x1024, .f32⟩
  | .hbm, ⟨53, _⟩ => ⟨S_, .f32⟩
  | .hbm, ⟨54, _⟩ => ⟨S33280x1024, .f32⟩
  | .hbm, ⟨55, _⟩ => ⟨S_, .i32⟩
  | .hbm, ⟨56, _⟩ => ⟨S65536, .i32⟩
  | .hbm, ⟨57, _⟩ => ⟨S65536, .i1⟩
  | .hbm, ⟨58, _⟩ => ⟨S_, .i32⟩
  | .hbm, ⟨59, _⟩ => ⟨S65536, .i32⟩
  | .hbm, ⟨60, _⟩ => ⟨S65536, .i32⟩
  | .hbm, ⟨61, _⟩ => ⟨S65536, .i32⟩
  | .hbm, ⟨62, _⟩ => ⟨S65536x1, .i32⟩
  | .hbm, ⟨63, _⟩ => ⟨S33280x1024, .f32⟩
  | .hbm, ⟨64, _⟩ => ⟨S2x16640x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1, .f32⟩
  | .local _ .vmem, ⟨3, _⟩ => ⟨S1x512x1, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x512x1024, .f32⟩
  | .local _ .vmem, ⟨11, _⟩ => ⟨S1x512x1024, .f32⟩
  | _, _ => ⟨S2x16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_values : Ref sig .tc := ⟨.hbm, 10, rfl⟩
abbrev main_indices : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst : Ref sig .tc := ⟨.hbm, 53, rfl⟩
abbrev main_v22 : Ref sig .tc := ⟨.hbm, 54, rfl⟩
abbrev main_c_1 : Ref sig .tc := ⟨.hbm, 55, rfl⟩
abbrev main_v23 : Ref sig .tc := ⟨.hbm, 56, rfl⟩
abbrev main_v24 : Ref sig .tc := ⟨.hbm, 57, rfl⟩
abbrev main_c_2 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x16640x1024 : Shape := ⟨3, ![2, 16640, 1024]⟩
abbrev S2x16640x128 : Shape := ⟨3, ![2, 16640, 128]⟩
abbrev S16x1024x2048 : Shape := ⟨3, ![16, 1024, 2048]⟩
abbrev S16x2048x1024 : Shape := ⟨3, ![16, 2048, 1024]⟩
abbrev S2x16384x1024 : Shape := ⟨3, ![2, 16384, 1024]⟩
abbrev S2x16384x16 : Shape := ⟨3, ![2, 16384, 16]⟩
abbrev S2x16x16384 : Shape := ⟨3, ![2, 16, 16384]⟩
abbrev S2x16x2048 : Shape := ⟨3, ![2, 16, 2048]⟩
abbrev S_ : Shape := ⟨0, ![]⟩
abbrev S2x16x2048x1 : Shape := ⟨4, ![2, 16, 2048, 1]⟩
abbrev S2x16x2048x1024 : Shape := ⟨4, ![2, 16, 2048, 1024]⟩
abbrev S16x2048x2x2048 : Shape := ⟨4, ![16, 2048, 2, 2048]⟩
abbrev S2x16x2048x2048 : Shape := ⟨4, ![2, 16, 2048, 2048]⟩
abbrev S16x1024x2x2048 : Shape := ⟨4, ![16, 1024, 2, 2048]⟩
abbrev S2 : Shape := ⟨1, ![2]⟩
abbrev S2x1 : Shape := ⟨2, ![2, 1]⟩
abbrev S2x32768 : Shape := ⟨2, ![2, 32768]⟩
abbrev S2x32768x1024 : Shape := ⟨3, ![2, 32768, 1024]⟩
abbrev S2x32768x1 : Shape := ⟨3, ![2, 32768, 1]⟩
abbrev S2x32768x2 : Shape := ⟨3, ![2, 32768, 2]⟩

abbrev nBuf : Space → Nat
  | .hbm => 67
  | .vmem => 0
  | .smem => 0
  | _ => 0

abbrev bufTy : (tb : Table) → Fin (tcTables nBuf tb) → BufTy
  | .hbm, ⟨0, _⟩ => ⟨S2x16640x1024, .bf16⟩
  | .hbm, ⟨1, _⟩ => ⟨S2x16640x128, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S2x16384x1024, .bf16⟩
  | .hbm, ⟨6, _⟩ => ⟨S2x16384x1024, .f32⟩
  | .hbm, ⟨7, _⟩ => ⟨S2x16384x16, .f32⟩
  | .hbm, ⟨8, _⟩ => ⟨S2x16x16384, .f32⟩
  | .hbm, ⟨9, _⟩ => ⟨S2x16x2048, .f32⟩
  | .hbm, ⟨10, _⟩ => ⟨S2x16x2048, .i32⟩
  | .hbm, ⟨11, _⟩ => ⟨S_, .i32⟩
  | .hbm, ⟨12, _⟩ => ⟨S2x16x2048, .i32⟩
  | .hbm, ⟨13, _⟩ => ⟨S2x16x2048, .i1⟩
  | .hbm, ⟨14, _⟩ => ⟨S_, .i32⟩
  | .hbm, ⟨15, _⟩ => ⟨S2x16x2048, .i32⟩
  | .hbm, ⟨16, _⟩ => ⟨S2x16x2048, .i32⟩
  | .hbm, ⟨17, _⟩ => ⟨S2x16x2048, .i32⟩
  | .hbm, ⟨18, _⟩ => ⟨S2x16x2048x1, .i32⟩
  | .hbm, ⟨19, _⟩ => ⟨S2x16x2048x1024, .f32⟩
  | .hbm, ⟨20, _⟩ => ⟨S16x2048x2x2048, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S16x2048x2x2048, .f32⟩
  | .hbm, ⟨32, _⟩ => ⟨S2x16x2048x2048, .f32⟩
  | .hbm, ⟨33, _⟩ => ⟨S2x16x2048x2048, .f32⟩
  | .hbm, ⟨34, _⟩ => ⟨S16x1024x2x2048, .f32⟩
  | .hbm, ⟨35, _⟩ => ⟨S2x16x2048x1024, .f32⟩
  | .hbm, ⟨36, _⟩ => ⟨S2x16x2048x1, .f32⟩
  | .hbm, ⟨37, _⟩ => ⟨S2x16x2048x1024, .f32⟩
  | .hbm, ⟨38, _⟩ => ⟨S2x16x2048x1024, .f32⟩
  | .hbm, ⟨39, _⟩ => ⟨S_, .f32⟩
  | .hbm, ⟨40, _⟩ => ⟨S2x16384x1024, .f32⟩
  | .hbm, ⟨41, _⟩ => ⟨S2, .i32⟩
  | .hbm, ⟨42, _⟩ => ⟨S2x1, .i32⟩
  | .hbm, ⟨43, _⟩ => ⟨S2x32768, .i32⟩
  | .hbm, ⟨44, _⟩ => ⟨S2x32768x1024, .f32⟩
  | .hbm, ⟨45, _⟩ => ⟨S_, .i32⟩
  | .hbm, ⟨46, _⟩ => ⟨S2x1, .i32⟩
  | .hbm, ⟨47, _⟩ => ⟨S2x1, .i1⟩
  | .hbm, ⟨48, _⟩ => ⟨S_, .i32⟩
  | .hbm, ⟨49, _⟩ => ⟨S2x1, .i32⟩
  | .hbm, ⟨50, _⟩ => ⟨S2x1, .i32⟩
  | .hbm, ⟨51, _⟩ => ⟨S2x1, .i32⟩
  | .hbm, ⟨52, _⟩ => ⟨S_, .i32⟩
  | .hbm, ⟨53, _⟩ => ⟨S2x32768, .i32⟩
  | .hbm, ⟨54, _⟩ => ⟨S2x32768, .i1⟩
  | .hbm, ⟨55, _⟩ => ⟨S_, .i32⟩
  | .hbm, ⟨56, _⟩ => ⟨S2x32768, .i32⟩
  | .hbm, ⟨57, _⟩ => ⟨S2x32768, .i32⟩
  | .hbm, ⟨58, _⟩ => ⟨S2x32768, .i32⟩
  | .hbm, ⟨59, _⟩ => ⟨S2x32768, .i32⟩
  | .hbm, ⟨60, _⟩ => ⟨S2x32768x1, .i32⟩
  | .hbm, ⟨61, _⟩ => ⟨S2x32768x1, .i32⟩
  | .hbm, ⟨62, _⟩ => ⟨S2x32768x2, .i32⟩
  | .hbm, ⟨63, _⟩ => ⟨S2x16384x1024, .f32⟩
  | .hbm, ⟨64, _⟩ => ⟨S_, .i32⟩
  | .hbm, ⟨65, _⟩ => ⟨S_, .f32⟩
  | .hbm, ⟨66, _⟩ => ⟨S2x16640x1024, .f32⟩
  | _, _ => ⟨S2x16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_1 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_3 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_call1_v0 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Kernel2.lean ====
abbrev S2x16640x1024 : Shape := ⟨3, ![2, 16640, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x2x6144 : Shape := ⟨3, ![2, 2, 6144]⟩
abbrev S2x2x6x1x1024 : Shape := ⟨5, ![2, 2, 6, 1, 1024]⟩
abbrev S2x2x1x1x1024 : Shape := ⟨5, ![2, 2, 1, 1, 1024]⟩
abbrev S2x2x1x1024 : Shape := ⟨4, ![2, 2, 1, 1024]⟩
abbrev S1x1024 : Shape := ⟨2, ![1, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩
abbrev S2x16384x1024 : Shape := ⟨3, ![2, 16384, 1024]⟩

abbrev nBuf : Space → Nat
  | .hbm => 51
  | .vmem => 9
  | .smem => 0
  | _ => 0

abbrev bufTy : (tb : Table) → Fin (tcTables nBuf tb) → BufTy
  | .hbm, ⟨0, _⟩ => ⟨S2x16640x1024, .f32⟩
  | .hbm, ⟨1, _⟩ => ⟨S2x16640x1024, .f32⟩
  | .hbm, ⟨2, _⟩ => ⟨S2x1024, .f32⟩
  | .hbm, ⟨3, _⟩ => ⟨S1024, .f32⟩
  | .hbm, ⟨4, _⟩ => ⟨S1024x6144, .f32⟩
  | .hbm, ⟨5, _⟩ => ⟨S6144, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x6144, .f32⟩
  | .hbm, ⟨17, _⟩ => ⟨S1x6144, .f32⟩
  | .hbm, ⟨18, _⟩ => ⟨S2x6144, .f32⟩
  | .hbm, ⟨19, _⟩ => ⟨S2x6144, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S6144, .f32⟩
  | .hbm, ⟨30, _⟩ => ⟨S6144, .f32⟩
  | .hbm, ⟨31, _⟩ => ⟨S2x6144, .f32⟩
  | .hbm, ⟨32, _⟩ => ⟨S2x1x6144, .f32⟩
  | .hbm, ⟨33, _⟩ => ⟨S2x1x6144, .f32⟩
  | .hbm, ⟨34, _⟩ => ⟨S2x2x6144, .f32⟩
  | .hbm, ⟨35, _⟩ => ⟨S2x2x6x1x1024, .f32⟩
  | .hbm, ⟨36, _⟩ => ⟨S2x2x1x1x1024, .f32⟩
  | .hbm, ⟨37, _⟩ => ⟨S2x2x1x1024, .f32⟩
  | .hbm, ⟨38, _⟩ => ⟨S2x2x1x1x1024, .f32⟩
  | .hbm, ⟨39, _⟩ => ⟨S2x2x1x1024, .f32⟩
  | .hbm, ⟨40, _⟩ => ⟨S2x2x1x1x1024, .f32⟩
  | .hbm, ⟨41, _⟩ => ⟨S2x2x1x1024, .f32⟩
  | .hbm, ⟨42, _⟩ => ⟨S2x2x1x1x1024, .f32⟩
  | .hbm, ⟨43, _⟩ => ⟨S2x2x1x1024, .f32⟩
  | .hbm, ⟨44, _⟩ => ⟨S2x2x1x1x1024, .f32⟩
  | .hbm, ⟨45, _⟩ => ⟨S2x2x1x1024, .f32⟩
  | .hbm, ⟨46, _⟩ => ⟨S2x2x1x1x1024, .f32⟩
  | .hbm, ⟨47, _⟩ => ⟨S2x2x1x1024, .f32⟩
  | .hbm, ⟨48, _⟩ => ⟨S1x1024, .f32⟩
  | .hbm, ⟨49, _⟩ => ⟨S2x16640x1024, .f32⟩
  | .hbm, ⟨50, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | _, _ => ⟨S2x16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x16640x1024 : Shape := ⟨3, ![2, 16640, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x1x1024 : Shape := ⟨3, ![2, 1, 1024]⟩
abbrev S2x16384x1024 : Shape := ⟨3, ![2, 16384, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x16640x1024, .f32⟩
  | .hbm, ⟨1, _⟩ => ⟨S2x16640x1024, .f32⟩
  | .hbm, ⟨2, _⟩ => ⟨S2x1024, .f32⟩
  | .hbm, ⟨3, _⟩ => ⟨S1024, .f32⟩
  | .hbm, ⟨4, _⟩ => ⟨S1024x6144, .f32⟩
  | .hbm, ⟨5, _⟩ => ⟨S6144, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x6144, .f32⟩
  | .hbm, ⟨17, _⟩ => ⟨S1x6144, .f32⟩
  | .hbm, ⟨18, _⟩ => ⟨S2x6144, .f32⟩
  | .hbm, ⟨19, _⟩ => ⟨S2x6144, .f32⟩
  | .hbm, ⟨20, _⟩ => ⟨S2x1x6144, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1x1024, .f32⟩
  | .hbm, ⟨26, _⟩ => ⟨S2x1x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S_, .f32⟩
  | .hbm, ⟨34, _⟩ => ⟨S2x16384, .f32⟩
  | .hbm, ⟨35, _⟩ => ⟨S2x16384x1, .f32⟩
  | .hbm, ⟨36, _⟩ => ⟨S_, .f32⟩
  | .hbm, ⟨37, _⟩ => ⟨S2x16384x1, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S2x16384x1, .f32⟩
  | .hbm, ⟨43, _⟩ => ⟨S2x16384x1024, .f32⟩
  | .hbm, ⟨44, _⟩ => ⟨S2x16384x1024, .f32⟩
  | .hbm, ⟨45, _⟩ => ⟨S1x1x1024, .f32⟩
  | .hbm, ⟨46, _⟩ => ⟨S2x16384x1024, .f32⟩
  | .hbm, ⟨47, _⟩ => ⟨S2x16384x1024, .f32⟩
  | _, _ => ⟨S2x16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x256x1024 : Shape := ⟨3, ![2, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x11552 : Shape := ⟨2, ![1024, 11552]⟩
abbrev S2x16640x1024 : Shape := ⟨3, ![2, 16640, 1024]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x2x6144 : Shape := ⟨3, ![2, 2, 6144]⟩
abbrev S2x2x6x1x1024 : Shape := ⟨5, ![2, 2, 6, 1, 1024]⟩
abbrev S2x2x1x1x1024 : Shape := ⟨5, ![2, 2, 1, 1, 1024]⟩
abbrev S2x2x1x1024 : Shape := ⟨4, ![2, 2, 1, 1024]⟩
abbrev S1024x1536 : Shape := ⟨2, ![1024, 1536]⟩
abbrev S1024x4096 : Shape := ⟨2, ![1024, 4096]⟩
abbrev S1x1024 : Shape := ⟨2, ![1, 1024]⟩
abbrev S2x16640x1536 : Shape := ⟨3, ![2, 16640, 1536]⟩
abbrev S2x16640x4096 : Shape := ⟨3, ![2, 16640, 4096]⟩
abbrev S1x256x1024 : Shape := ⟨3, ![1, 256, 1024]⟩
abbrev S1x1x1x1024 : Shape := ⟨4, ![1, 1, 1, 1024]⟩
abbrev S1x256x1536 : Shape := ⟨3, ![1, 256, 1536]⟩
abbrev S1x256x4096 : Shape := ⟨3, ![1, 256, 4096]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x4096 : Shape := ⟨2, ![256, 4096]⟩

abbrev nBuf : Space → Nat
  | .hbm => 56
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x1024, .f32⟩
  | .hbm, ⟨3, _⟩ => ⟨S1024, .f32⟩
  | .hbm, ⟨4, _⟩ => ⟨S1024x6144, .f32⟩
  | .hbm, ⟨5, _⟩ => ⟨S6144, .f32⟩
  | .hbm, ⟨6, _⟩ => ⟨S1024, .f32⟩
  | .hbm, ⟨7, _⟩ => ⟨S1024x11552, .f32⟩
  | .hbm, ⟨8, _⟩ => ⟨S2x16640x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S_, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x6144, .f32⟩
  | .hbm, ⟨19, _⟩ => ⟨S1x6144, .f32⟩
  | .hbm, ⟨20, _⟩ => ⟨S2x6144, .f32⟩
  | .hbm, ⟨21, _⟩ => ⟨S2x6144, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S6144, .f32⟩
  | .hbm, ⟨32, _⟩ => ⟨S6144, .f32⟩
  | .hbm, ⟨33, _⟩ => ⟨S2x6144, .f32⟩
  | .hbm, ⟨34, _⟩ => ⟨S2x1x6144, .f32⟩
  | .hbm, ⟨35, _⟩ => ⟨S2x1x6144, .f32⟩
  | .hbm, ⟨36, _⟩ => ⟨S2x2x6144, .f32⟩
  | .hbm, ⟨37, _⟩ => ⟨S2x2x6x1x1024, .f32⟩
  | .hbm, ⟨38, _⟩ => ⟨S2x2x1x1x1024, .f32⟩
  | .hbm, ⟨39, _⟩ => ⟨S2x2x1x1024, .f32⟩
  | .hbm, ⟨40, _⟩ => ⟨S2x2x1x1x1024, .f32⟩
  | .hbm, ⟨41, _⟩ => ⟨S2x2x1x1024, .f32⟩
  | .hbm, ⟨42, _⟩ => ⟨S2x2x1x1x1024, .f32⟩
  | .hbm, ⟨43, _⟩ => ⟨S2x2x1x1024, .f32⟩
  | .hbm, ⟨44, _⟩ => ⟨S2x2x1x1x1024, .f32⟩
  | .hbm, ⟨45, _⟩ => ⟨S2x2x1x1024, .f32⟩
  | .hbm, ⟨46, _⟩ => ⟨S2x2x1x1x1024, .f32⟩
  | .hbm, ⟨47, _⟩ => ⟨S2x2x1x1024, .f32⟩
  | .hbm, ⟨48, _⟩ => ⟨S2x2x1x1x1024, .f32⟩
  | .hbm, ⟨49, _⟩ => ⟨S2x2x1x1024, .f32⟩
  | .hbm, ⟨50, _⟩ => ⟨S1024x11552, .bf16⟩
  | .hbm, ⟨51, _⟩ => ⟨S1024x1536, .bf16⟩
  | .hbm, ⟨52, _⟩ => ⟨S1024x4096, .bf16⟩
  | .hbm, ⟨53, _⟩ => ⟨S1x1024, .f32⟩
  | .hbm, ⟨54, _⟩ => ⟨S2x16640x1536, .f32⟩
  | .hbm, ⟨55, _⟩ => ⟨S2x16640x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x4096, .bf16⟩
  | .local _ .vmem, ⟨9, _⟩ => ⟨S1x256x1536, .f32⟩
  | .local _ .vmem, ⟨10, _⟩ => ⟨S1x256x1536, .f32⟩
  | .local _ .vmem, ⟨11, _⟩ => ⟨S1x256x4096, .f32⟩
  | .local _ .vmem, ⟨12, _⟩ => ⟨S1x256x4096, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S2x16384x1024 : Shape := ⟨3, ![2, 16384, 1024]⟩
abbrev S2x256x1024 : Shape := ⟨3, ![2, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x11552 : Shape := ⟨2, ![1024, 11552]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S2x256 : Shape := ⟨2, ![2, 256]⟩
abbrev S2x256x1 : Shape := ⟨3, ![2, 256, 1]⟩
abbrev S2x16384x11552 : Shape := ⟨3, ![2, 16384, 11552]⟩
abbrev S2x256x11552 : Shape := ⟨3, ![2, 256, 11552]⟩
abbrev S2x16640x11552 : Shape := ⟨3, ![2, 16640, 11552]⟩
abbrev S2x16640x1536 : Shape := ⟨3, ![2, 16640, 1536]⟩
abbrev S2x16640x4096 : Shape := ⟨3, ![2, 16640, 4096]⟩

abbrev nBuf : Space → Nat
  | .hbm => 98
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x1024, .f32⟩
  | .hbm, ⟨3, _⟩ => ⟨S1024, .f32⟩
  | .hbm, ⟨4, _⟩ => ⟨S1024x6144, .f32⟩
  | .hbm, ⟨5, _⟩ => ⟨S6144, .f32⟩
  | .hbm, ⟨6, _⟩ => ⟨S1024, .f32⟩
  | .hbm, ⟨7, _⟩ => ⟨S1024x11552, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x6144, .f32⟩
  | .hbm, ⟨18, _⟩ => ⟨S1x6144, .f32⟩
  | .hbm, ⟨19, _⟩ => ⟨S2x6144, .f32⟩
  | .hbm, ⟨20, _⟩ => ⟨S2x6144, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S6144, .f32⟩
  | .hbm, ⟨31, _⟩ => ⟨S6144, .f32⟩
  | .hbm, ⟨32, _⟩ => ⟨S2x1x6144, .f32⟩
  | .hbm, ⟨33, _⟩ => ⟨S2x1x1024, .f32⟩
  | .hbm, ⟨34, _⟩ => ⟨S2x1x1024, .f32⟩
  | .hbm, ⟨35, _⟩ => ⟨S2x1x1024, .f32⟩
  | .hbm, ⟨36, _⟩ => ⟨S2x1x1024, .f32⟩
  | .hbm, ⟨37, _⟩ => ⟨S2x1x1024, .f32⟩
  | .hbm, ⟨38, _⟩ => ⟨S2x1x1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S2x16384x1024, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x1024, .f32⟩
  | .hbm, ⟨57, _⟩ => ⟨S2x16384x1024, .f32⟩
  | .hbm, ⟨58, _⟩ => ⟨S1x1x1024, .f32⟩
  | .hbm, ⟨59, _⟩ => ⟨S2x16384x1024, .f32⟩
  | .hbm, ⟨60, _⟩ => ⟨S2x16384x1024, .f32⟩
  | .hbm, ⟨61, _⟩ => ⟨S_, .f32⟩
  | .hbm, ⟨62, _⟩ => ⟨S2x1x1024, .f32⟩
  | .hbm, ⟨63, _⟩ => ⟨S2x1x1024, .f32⟩
  | .hbm, ⟨64, _⟩ => ⟨S2x16384x1024, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S2x256x1024, .f32⟩
  | .hbm, ⟨69, _⟩ => ⟨S_, .f32⟩
  | .hbm, ⟨70, _⟩ => ⟨S2x256, .f32⟩
  | .hbm, ⟨71, _⟩ => ⟨S2x256x1, .f32⟩
  | .hbm, ⟨72, _⟩ => ⟨S_, .f32⟩
  | .hbm, ⟨73, _⟩ => ⟨S2x256x1, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S2x256x1, .f32⟩
  | .hbm, ⟨79, _⟩ => ⟨S2x256x1024, .f32⟩
  | .hbm, ⟨80, _⟩ => ⟨S2x256x1024, .f32⟩
  | .hbm, ⟨81, _⟩ => ⟨S1x1x1024, .f32⟩
  | .hbm, ⟨82, _⟩ => ⟨S2x256x1024, .f32⟩
  | .hbm, ⟨83, _⟩ => ⟨S2x256x1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S1x1x1024, .f32⟩
  | .hbm, ⟨88, _⟩ => ⟨S2x256x1024, .f32⟩
  | .hbm, ⟨89, _⟩ => ⟨S2x256x1024, .f32⟩
  | .hbm, ⟨90, _⟩ => ⟨S1x1x1024, .f32⟩
  | .hbm, ⟨91, _⟩ => ⟨S2x256x1024, .f32⟩
  | .hbm, ⟨92, _⟩ => ⟨S2x256x1024, .f32⟩
  | .hbm, ⟨93, _⟩ => ⟨S2x16384x11552, .f32⟩
  | .hbm, ⟨94, _⟩ => ⟨S2x256x11552, .f32⟩
  | .hbm, ⟨95, _⟩ => ⟨S2x16640x11552, .f32⟩
  | .hbm, ⟨96, _⟩ => ⟨S2x16640x1536, .f32⟩
  | .hbm, ⟨97, _⟩ => ⟨S2x16640x4096, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x256x1024 : Shape := ⟨3, ![2, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x11552 : Shape := ⟨2, ![1024, 11552]⟩
abbrev S2x16640x1024 : Shape := ⟨3, ![2, 16640, 1024]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x2x6144 : Shape := ⟨3, ![2, 2, 6144]⟩
abbrev S2x2x6x1x1024 : Shape := ⟨5, ![2, 2, 6, 1, 1024]⟩
abbrev S2x2x1x1x1024 : Shape := ⟨5, ![2, 2, 1, 1, 1024]⟩
abbrev S2x2x1x1024 : Shape := ⟨4, ![2, 2, 1, 1024]⟩
abbrev S1024x512 : Shape := ⟨2, ![1024, 512]⟩
abbrev S1024x256 : Shape := ⟨2, ![1024, 256]⟩
abbrev S1024x16 : Shape := ⟨2, ![1024, 16]⟩
abbrev S1024x128 : Shape := ⟨2, ![1024, 128]⟩
abbrev S1024x1024 : Shape := ⟨2, ![1024, 1024]⟩
abbrev S1x1024 : Shape := ⟨2, ![1, 1024]⟩
abbrev S2x16640x512 : Shape := ⟨3, ![2, 16640, 512]⟩
abbrev S2x16640x256 : Shape := ⟨3, ![2, 16640, 256]⟩
abbrev S2x16640x128 : Shape := ⟨3, ![2, 16640, 128]⟩
abbrev S1x256x1024 : Shape := ⟨3, ![1, 256, 1024]⟩
abbrev S1x1x1x1024 : Shape := ⟨4, ![1, 1, 1, 1024]⟩
abbrev S1x256x512 : Shape := ⟨3, ![1, 256, 512]⟩
abbrev S1x256x256 : Shape := ⟨3, ![1, 256, 256]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S256x128 : Shape := ⟨2, ![256, 128]⟩

abbrev nBuf : Space → Nat
  | .hbm => 74
  | .vmem => 31
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x1024, .f32⟩
  | .hbm, ⟨3, _⟩ => ⟨S1024, .f32⟩
  | .hbm, ⟨4, _⟩ => ⟨S1024x6144, .f32⟩
  | .hbm, ⟨5, _⟩ => ⟨S6144, .f32⟩
  | .hbm, ⟨6, _⟩ => ⟨S1024, .f32⟩
  | .hbm, ⟨7, _⟩ => ⟨S1024x11552, .f32⟩
  | .hbm, ⟨8, _⟩ => ⟨S2x16640x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S_, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x6144, .f32⟩
  | .hbm, ⟨19, _⟩ => ⟨S1x6144, .f32⟩
  | .hbm, ⟨20, _⟩ => ⟨S2x6144, .f32⟩
  | .hbm, ⟨21, _⟩ => ⟨S2x6144, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S6144, .f32⟩
  | .hbm, ⟨32, _⟩ => ⟨S6144, .f32⟩
  | .hbm, ⟨33, _⟩ => ⟨S2x6144, .f32⟩
  | .hbm, ⟨34, _⟩ => ⟨S2x1x6144, .f32⟩
  | .hbm, ⟨35, _⟩ => ⟨S2x1x6144, .f32⟩
  | .hbm, ⟨36, _⟩ => ⟨S2x2x6144, .f32⟩
  | .hbm, ⟨37, _⟩ => ⟨S2x2x6x1x1024, .f32⟩
  | .hbm, ⟨38, _⟩ => ⟨S2x2x1x1x1024, .f32⟩
  | .hbm, ⟨39, _⟩ => ⟨S2x2x1x1024, .f32⟩
  | .hbm, ⟨40, _⟩ => ⟨S2x2x1x1x1024, .f32⟩
  | .hbm, ⟨41, _⟩ => ⟨S2x2x1x1024, .f32⟩
  | .hbm, ⟨42, _⟩ => ⟨S2x2x1x1x1024, .f32⟩
  | .hbm, ⟨43, _⟩ => ⟨S2x2x1x1024, .f32⟩
  | .hbm, ⟨44, _⟩ => ⟨S2x2x1x1x1024, .f32⟩
  | .hbm, ⟨45, _⟩ => ⟨S2x2x1x1024, .f32⟩
  | .hbm, ⟨46, _⟩ => ⟨S2x2x1x1x1024, .f32⟩
  | .hbm, ⟨47, _⟩ => ⟨S2x2x1x1024, .f32⟩
  | .hbm, ⟨48, _⟩ => ⟨S2x2x1x1x1024, .f32⟩
  | .hbm, ⟨49, _⟩ => ⟨S2x2x1x1024, .f32⟩
  | .hbm, ⟨50, _⟩ => ⟨S1024x11552, .bf16⟩
  | .hbm, ⟨51, _⟩ => ⟨S1024x512, .bf16⟩
  | .hbm, ⟨52, _⟩ => ⟨S1024x512, .bf16⟩
  | .hbm, ⟨53, _⟩ => ⟨S1024x256, .bf16⟩
  | .hbm, ⟨54, _⟩ => ⟨S1024x16, .bf16⟩
  | .hbm, ⟨55, _⟩ => ⟨S_, .i32⟩
  | .hbm, ⟨56, _⟩ => ⟨S_, .bf16⟩
  | .hbm, ⟨57, _⟩ => ⟨S1024x128, .bf16⟩
  | .hbm, ⟨58, _⟩ => ⟨S1024x1024, .bf16⟩
  | .hbm, ⟨59, _⟩ => ⟨S1024x512, .bf16⟩
  | .hbm, ⟨60, _⟩ => ⟨S1024x512, .bf16⟩
  | .hbm, ⟨61, _⟩ => ⟨S1024x16, .bf16⟩
  | .hbm, ⟨62, _⟩ => ⟨S_, .i32⟩
  | .hbm, ⟨63, _⟩ => ⟨S_, .bf16⟩
  | .hbm, ⟨64, _⟩ => ⟨S1024x128, .bf16⟩
  | .hbm, ⟨65, _⟩ => ⟨S1x1024, .f32⟩
  | .hbm, ⟨66, _⟩ => ⟨S2x16640x512, .f32⟩
  | .hbm, ⟨67, _⟩ => ⟨S2x16640x512, .f32⟩
  | .hbm, ⟨68, _⟩ => ⟨S2x16640x256, .f32⟩
  | .hbm, ⟨69, _⟩ => ⟨S2x16640x128, .f32⟩
  | .hbm, ⟨70, _⟩ => ⟨S2x16640x1024, .f32⟩
  | .hbm, ⟨71, _⟩ => ⟨S2x16640x512, .f32⟩
  | .hbm, ⟨72, _⟩ => ⟨S2x16640x512, .f32⟩
  | .hbm, ⟨73, _⟩ => ⟨S2x16640x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x256, .bf16⟩
  | .local _ .vmem, ⟨10, _⟩ => ⟨S1024x128, .bf16⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x128, .bf16⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x256, .f32⟩
  | .local _ .vmem, ⟨20, _⟩ => ⟨S1x256x256, .f32⟩
  | .local _ .vmem, ⟨21, _⟩ => ⟨S1x256x128, .f32⟩
  | .local _ .vmem, ⟨22, _⟩ => ⟨S1x256x128, .f32⟩
  | .local _ .vmem, ⟨23, _⟩ => ⟨S1x256x1024, .f32⟩
  | .local _ .vmem, ⟨24, _⟩ => ⟨S1x256x1024, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x128, .f32⟩
  | .local _ .vmem, ⟨30, _⟩ => ⟨S1x256x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c : Ref sig .tc := ⟨.hbm, 55, rfl⟩
abbrev main_call2_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_0 : Ref sig .tc := ⟨.hbm, 62, rfl⟩
abbrev main_call3_v0 : Ref sig .tc := ⟨.hbm, 63, rfl⟩
abbrev main_v36 : Ref sig .tc := ⟨.hbm, 64, rfl⟩
abbrev main_v37 : Ref sig .tc := ⟨.hbm, 65, rfl⟩
abbrev main_v38_0 : Ref sig .tc := ⟨.hbm, 66, rfl⟩
abbrev main_v38_1 : Ref sig .tc := ⟨.hbm, 67, rfl⟩
abbrev main_v38_2 : Ref sig .tc := ⟨.hbm, 68, rfl⟩
abbrev main_v38_3 : Ref sig .tc := ⟨.hbm, 69, rfl⟩
abbrev main_v38_4 : Ref sig .tc := ⟨.hbm, 70, rfl⟩
abbrev main_v38_5 : Ref sig .tc := ⟨.hbm, 71, rfl⟩
abbrev main_v38_6 : Ref sig .tc := ⟨.hbm, 72, rfl⟩
abbrev main_v38_7 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S2x16384x1024 : Shape := ⟨3, ![2, 16384, 1024]⟩
abbrev S2x256x1024 : Shape := ⟨3, ![2, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x11552 : Shape := ⟨2, ![1024, 11552]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S2x256 : Shape := ⟨2, ![2, 256]⟩
abbrev S2x256x1 : Shape := ⟨3, ![2, 256, 1]⟩
abbrev S2x16384x11552 : Shape := ⟨3, ![2, 16384, 11552]⟩
abbrev S2x256x11552 : Shape := ⟨3, ![2, 256, 11552]⟩
abbrev S2x16640x11552 : Shape := ⟨3, ![2, 16640, 11552]⟩
abbrev S2x16640x1296 : Shape := ⟨3, ![2, 16640, 1296]⟩
abbrev S2x16640x2064 : Shape := ⟨3, ![2, 16640, 2064]⟩
abbrev S2x16640x512 : Shape := ⟨3, ![2, 16640, 512]⟩
abbrev S2x16640x256 : Shape := ⟨3, ![2, 16640, 256]⟩
abbrev S2x16640x16 : Shape := ⟨3, ![2, 16640, 16]⟩
abbrev S2x16640x128 : Shape := ⟨3, ![2, 16640, 128]⟩
abbrev S2x16640x1024 : Shape := ⟨3, ![2, 16640, 1024]⟩

abbrev nBuf : Space → Nat
  | .hbm => 112
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x1024, .f32⟩
  | .hbm, ⟨3, _⟩ => ⟨S1024, .f32⟩
  | .hbm, ⟨4, _⟩ => ⟨S1024x6144, .f32⟩
  | .hbm, ⟨5, _⟩ => ⟨S6144, .f32⟩
  | .hbm, ⟨6, _⟩ => ⟨S1024, .f32⟩
  | .hbm, ⟨7, _⟩ => ⟨S1024x11552, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x6144, .f32⟩
  | .hbm, ⟨18, _⟩ => ⟨S1x6144, .f32⟩
  | .hbm, ⟨19, _⟩ => ⟨S2x6144, .f32⟩
  | .hbm, ⟨20, _⟩ => ⟨S2x6144, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S6144, .f32⟩
  | .hbm, ⟨31, _⟩ => ⟨S6144, .f32⟩
  | .hbm, ⟨32, _⟩ => ⟨S2x1x6144, .f32⟩
  | .hbm, ⟨33, _⟩ => ⟨S2x1x1024, .f32⟩
  | .hbm, ⟨34, _⟩ => ⟨S2x1x1024, .f32⟩
  | .hbm, ⟨35, _⟩ => ⟨S2x1x1024, .f32⟩
  | .hbm, ⟨36, _⟩ => ⟨S2x1x1024, .f32⟩
  | .hbm, ⟨37, _⟩ => ⟨S2x1x1024, .f32⟩
  | .hbm, ⟨38, _⟩ => ⟨S2x1x1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S2x16384x1024, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x1024, .f32⟩
  | .hbm, ⟨57, _⟩ => ⟨S2x16384x1024, .f32⟩
  | .hbm, ⟨58, _⟩ => ⟨S1x1x1024, .f32⟩
  | .hbm, ⟨59, _⟩ => ⟨S2x16384x1024, .f32⟩
  | .hbm, ⟨60, _⟩ => ⟨S2x16384x1024, .f32⟩
  | .hbm, ⟨61, _⟩ => ⟨S_, .f32⟩
  | .hbm, ⟨62, _⟩ => ⟨S2x1x1024, .f32⟩
  | .hbm, ⟨63, _⟩ => ⟨S2x1x1024, .f32⟩
  | .hbm, ⟨64, _⟩ => ⟨S2x16384x1024, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S2x256x1024, .f32⟩
  | .hbm, ⟨69, _⟩ => ⟨S_, .f32⟩
  | .hbm, ⟨70, _⟩ => ⟨S2x256, .f32⟩
  | .hbm, ⟨71, _⟩ => ⟨S2x256x1, .f32⟩
  | .hbm, ⟨72, _⟩ => ⟨S_, .f32⟩
  | .hbm, ⟨73, _⟩ => ⟨S2x256x1, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S2x256x1, .f32⟩
  | .hbm, ⟨79, _⟩ => ⟨S2x256x1024, .f32⟩
  | .hbm, ⟨80, _⟩ => ⟨S2x256x1024, .f32⟩
  | .hbm, ⟨81, _⟩ => ⟨S1x1x1024, .f32⟩
  | .hbm, ⟨82, _⟩ => ⟨S2x256x1024, .f32⟩
  | .hbm, ⟨83, _⟩ => ⟨S2x256x1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S1x1x1024, .f32⟩
  | .hbm, ⟨88, _⟩ => ⟨S2x256x1024, .f32⟩
  | .hbm, ⟨89, _⟩ => ⟨S2x256x1024, .f32⟩
  | .hbm, ⟨90, _⟩ => ⟨S1x1x1024, .f32⟩
  | .hbm, ⟨91, _⟩ => ⟨S2x256x1024, .f32⟩
  | .hbm, ⟨92, _⟩ => ⟨S2x256x1024, .f32⟩
  | .hbm, ⟨93, _⟩ => ⟨S2x16384x11552, .f32⟩
  | .hbm, ⟨94, _⟩ => ⟨S2x256x11552, .f32⟩
  | .hbm, ⟨95, _⟩ => ⟨S2x16640x11552, .f32⟩
  | .hbm, ⟨96, _⟩ => ⟨S2x16640x1296, .f32⟩
  | .hbm, ⟨97, _⟩ => ⟨S2x16640x2064, .f32⟩
  | .hbm, ⟨98, _⟩ => ⟨S2x16640x512, .f32⟩
  | .hbm, ⟨99, _⟩ => ⟨S2x16640x512, .f32⟩
  | .hbm, ⟨100, _⟩ => ⟨S2x16640x256, .f32⟩
  | .hbm, ⟨101, _⟩ => ⟨S2x16640x16, .f32⟩
  | .hbm, ⟨102, _⟩ => ⟨S_, .i32⟩
  | .hbm, ⟨103, _⟩ => ⟨S_, .f32⟩
  | .hbm, ⟨104, _⟩ => ⟨S2x16640x128, .f32⟩
  | .hbm, ⟨105, _⟩ => ⟨S2x16640x1024, .f32⟩
  | .hbm, ⟨106, _⟩ => ⟨S2x16640x512, .f32⟩
  | .hbm, ⟨107, _⟩ => ⟨S2x16640x512, .f32⟩
  | .hbm, ⟨108, _⟩ => ⟨S2x16640x16, .f32⟩
  | .hbm, ⟨109, _⟩ => ⟨S_, .i32⟩
  | .hbm, ⟨110, _⟩ => ⟨S_, .f32⟩
  | .hbm, ⟨111, _⟩ => ⟨S2x16640x128, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c : Ref sig .tc := ⟨.hbm, 102, rfl⟩
abbrev main_call2_v0 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_7 : Ref sig .tc := ⟨.hbm, 109, rfl⟩
abbrev main_call3_v0 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x256x1024 : Shape := ⟨3, ![2, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x11552 : Shape := ⟨2, ![1024, 11552]⟩
abbrev S2x16640x1024 : Shape := ⟨3, ![2, 16640, 1024]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x2x6144 : Shape := ⟨3, ![2, 2, 6144]⟩
abbrev S2x2x6x1x1024 : Shape := ⟨5, ![2, 2, 6, 1, 1024]⟩
abbrev S2x2x1x1x1024 : Shape := ⟨5, ![2, 2, 1, 1, 1024]⟩
abbrev S2x2x1x1024 : Shape := ⟨4, ![2, 2, 1, 1024]⟩
abbrev S2x256x64x1024 : Shape := ⟨4, ![2, 256, 64, 1024]⟩
abbrev S2x64x256x1024 : Shape := ⟨4, ![2, 64, 256, 1024]⟩
abbrev S1024x512 : Shape := ⟨2, ![1024, 512]⟩
abbrev S1x1024 : Shape := ⟨2, ![1, 1024]⟩
abbrev S2x16640x512 : Shape := ⟨3, ![2, 16640, 512]⟩
abbrev S1x256x1024 : Shape := ⟨3, ![1, 256, 1024]⟩
abbrev S1x1x1x1024 : Shape := ⟨4, ![1, 1, 1, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 68
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x1024, .f32⟩
  | .hbm, ⟨3, _⟩ => ⟨S1024, .f32⟩
  | .hbm, ⟨4, _⟩ => ⟨S1024x6144, .f32⟩
  | .hbm, ⟨5, _⟩ => ⟨S6144, .f32⟩
  | .hbm, ⟨6, _⟩ => ⟨S1024, .f32⟩
  | .hbm, ⟨7, _⟩ => ⟨S1024x11552, .f32⟩
  | .hbm, ⟨8, _⟩ => ⟨S2x16640x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S_, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x6144, .f32⟩
  | .hbm, ⟨19, _⟩ => ⟨S1x6144, .f32⟩
  | .hbm, ⟨20, _⟩ => ⟨S2x6144, .f32⟩
  | .hbm, ⟨21, _⟩ => ⟨S2x6144, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S6144, .f32⟩
  | .hbm, ⟨32, _⟩ => ⟨S6144, .f32⟩
  | .hbm, ⟨33, _⟩ => ⟨S2x6144, .f32⟩
  | .hbm, ⟨34, _⟩ => ⟨S2x1x6144, .f32⟩
  | .hbm, ⟨35, _⟩ => ⟨S2x1x6144, .f32⟩
  | .hbm, ⟨36, _⟩ => ⟨S2x2x6144, .f32⟩
  | .hbm, ⟨37, _⟩ => ⟨S2x2x6x1x1024, .f32⟩
  | .hbm, ⟨38, _⟩ => ⟨S2x2x1x1x1024, .f32⟩
  | .hbm, ⟨39, _⟩ => ⟨S2x2x1x1024, .f32⟩
  | .hbm, ⟨40, _⟩ => ⟨S2x2x1x1x1024, .f32⟩
  | .hbm, ⟨41, _⟩ => ⟨S2x2x1x1024, .f32⟩
  | .hbm, ⟨42, _⟩ => ⟨S2x2x1x1x1024, .f32⟩
  | .hbm, ⟨43, _⟩ => ⟨S2x2x1x1024, .f32⟩
  | .hbm, ⟨44, _⟩ => ⟨S2x2x1x1x1024, .f32⟩
  | .hbm, ⟨45, _⟩ => ⟨S2x2x1x1024, .f32⟩
  | .hbm, ⟨46, _⟩ => ⟨S2x2x1x1x1024, .f32⟩
  | .hbm, ⟨47, _⟩ => ⟨S2x2x1x1024, .f32⟩
  | .hbm, ⟨48, _⟩ => ⟨S2x2x1x1x1024, .f32⟩
  | .hbm, ⟨49, _⟩ => ⟨S2x2x1x1024, .f32⟩
  | .hbm, ⟨50, _⟩ => ⟨S1024x11552, .bf16⟩
  | .hbm, ⟨51, _⟩ => ⟨S2x256x1024, .f32⟩
  | .hbm, ⟨52, _⟩ => ⟨S2x16384x1024, .f32⟩
  | .hbm, ⟨53, _⟩ => ⟨S2x256x64x1024, .f32⟩
  | .hbm, ⟨54, _⟩ => ⟨S2x64x256x1024, .f32⟩
  | .hbm, ⟨55, _⟩ => ⟨S2x16384x1024, .f32⟩
  | .hbm, ⟨56, _⟩ => ⟨S2x16640x1024, .f32⟩
  | .hbm, ⟨57, _⟩ => ⟨S1024x512, .bf16⟩
  | .hbm, ⟨58, _⟩ => ⟨S1024x512, .bf16⟩
  | .hbm, ⟨59, _⟩ => ⟨S1024x512, .bf16⟩
  | .hbm, ⟨60, _⟩ => ⟨S1024x512, .bf16⟩
  | .hbm, ⟨61, _⟩ => ⟨S1024x512, .bf16⟩
  | .hbm, ⟨62, _⟩ => ⟨S1x1024, .f32⟩
  | .hbm, ⟨63, _⟩ => ⟨S2x16640x512, .f32⟩
  | .hbm, ⟨64, _⟩ => ⟨S2x16640x512, .f32⟩
  | .hbm, ⟨65, _⟩ => ⟨S2x16640x512, .f32⟩
  | .hbm, ⟨66, _⟩ => ⟨S2x16640x512, .f32⟩
  | .hbm, ⟨67, _⟩ => ⟨S2x16640x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39_0 : Ref sig .tc := ⟨.hbm, 63, rfl⟩
abbrev main_v39_1 : Ref sig .tc := ⟨.hbm, 64, rfl⟩
abbrev main_v39_2 : Ref sig .tc := ⟨.hbm, 65, rfl⟩
abbrev main_v39_3 : Ref sig .tc := ⟨.hbm, 66, rfl⟩
abbrev main_v39_4 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S2x16384x1024 : Shape := ⟨3, ![2, 16384, 1024]⟩
abbrev S2x256x1024 : Shape := ⟨3, ![2, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x11552 : Shape := ⟨2, ![1024, 11552]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S2x256 : Shape := ⟨2, ![2, 256]⟩
abbrev S2x256x1 : Shape := ⟨3, ![2, 256, 1]⟩
abbrev S2x16384x11552 : Shape := ⟨3, ![2, 16384, 11552]⟩
abbrev S2x256x11552 : Shape := ⟨3, ![2, 256, 11552]⟩
abbrev S2x16384x2560 : Shape := ⟨3, ![2, 16384, 2560]⟩
abbrev S2x256x2560 : Shape := ⟨3, ![2, 256, 2560]⟩
abbrev S2x256x64x2560 : Shape := ⟨4, ![2, 256, 64, 2560]⟩
abbrev S2x64x256x2560 : Shape := ⟨4, ![2, 64, 256, 2560]⟩
abbrev S2x16640x2560 : Shape := ⟨3, ![2, 16640, 2560]⟩
abbrev S2x16640x512 : Shape := ⟨3, ![2, 16640, 512]⟩

abbrev nBuf : Space → Nat
  | .hbm => 106
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x1024, .f32⟩
  | .hbm, ⟨3, _⟩ => ⟨S1024, .f32⟩
  | .hbm, ⟨4, _⟩ => ⟨S1024x6144, .f32⟩
  | .hbm, ⟨5, _⟩ => ⟨S6144, .f32⟩
  | .hbm, ⟨6, _⟩ => ⟨S1024, .f32⟩
  | .hbm, ⟨7, _⟩ => ⟨S1024x11552, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x6144, .f32⟩
  | .hbm, ⟨18, _⟩ => ⟨S1x6144, .f32⟩
  | .hbm, ⟨19, _⟩ => ⟨S2x6144, .f32⟩
  | .hbm, ⟨20, _⟩ => ⟨S2x6144, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S6144, .f32⟩
  | .hbm, ⟨31, _⟩ => ⟨S6144, .f32⟩
  | .hbm, ⟨32, _⟩ => ⟨S2x1x6144, .f32⟩
  | .hbm, ⟨33, _⟩ => ⟨S2x1x1024, .f32⟩
  | .hbm, ⟨34, _⟩ => ⟨S2x1x1024, .f32⟩
  | .hbm, ⟨35, _⟩ => ⟨S2x1x1024, .f32⟩
  | .hbm, ⟨36, _⟩ => ⟨S2x1x1024, .f32⟩
  | .hbm, ⟨37, _⟩ => ⟨S2x1x1024, .f32⟩
  | .hbm, ⟨38, _⟩ => ⟨S2x1x1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S2x16384x1024, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x1024, .f32⟩
  | .hbm, ⟨57, _⟩ => ⟨S2x16384x1024, .f32⟩
  | .hbm, ⟨58, _⟩ => ⟨S1x1x1024, .f32⟩
  | .hbm, ⟨59, _⟩ => ⟨S2x16384x1024, .f32⟩
  | .hbm, ⟨60, _⟩ => ⟨S2x16384x1024, .f32⟩
  | .hbm, ⟨61, _⟩ => ⟨S_, .f32⟩
  | .hbm, ⟨62, _⟩ => ⟨S2x1x1024, .f32⟩
  | .hbm, ⟨63, _⟩ => ⟨S2x1x1024, .f32⟩
  | .hbm, ⟨64, _⟩ => ⟨S2x16384x1024, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S2x256x1024, .f32⟩
  | .hbm, ⟨69, _⟩ => ⟨S_, .f32⟩
  | .hbm, ⟨70, _⟩ => ⟨S2x256, .f32⟩
  | .hbm, ⟨71, _⟩ => ⟨S2x256x1, .f32⟩
  | .hbm, ⟨72, _⟩ => ⟨S_, .f32⟩
  | .hbm, ⟨73, _⟩ => ⟨S2x256x1, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S2x256x1, .f32⟩
  | .hbm, ⟨79, _⟩ => ⟨S2x256x1024, .f32⟩
  | .hbm, ⟨80, _⟩ => ⟨S2x256x1024, .f32⟩
  | .hbm, ⟨81, _⟩ => ⟨S1x1x1024, .f32⟩
  | .hbm, ⟨82, _⟩ => ⟨S2x256x1024, .f32⟩
  | .hbm, ⟨83, _⟩ => ⟨S2x256x1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S1x1x1024, .f32⟩
  | .hbm, ⟨88, _⟩ => ⟨S2x256x1024, .f32⟩
  | .hbm, ⟨89, _⟩ => ⟨S2x256x1024, .f32⟩
  | .hbm, ⟨90, _⟩ => ⟨S1x1x1024, .f32⟩
  | .hbm, ⟨91, _⟩ => ⟨S2x256x1024, .f32⟩
  | .hbm, ⟨92, _⟩ => ⟨S2x256x1024, .f32⟩
  | .hbm, ⟨93, _⟩ => ⟨S2x16384x11552, .f32⟩
  | .hbm, ⟨94, _⟩ => ⟨S2x256x11552, .f32⟩
  | .hbm, ⟨95, _⟩ => ⟨S2x16384x2560, .f32⟩
  | .hbm, ⟨96, _⟩ => ⟨S2x256x2560, .f32⟩
  | .hbm, ⟨97, _⟩ => ⟨S2x256x64x2560, .f32⟩
  | .hbm, ⟨98, _⟩ => ⟨S2x64x256x2560, .f32⟩
  | .hbm, ⟨99, _⟩ => ⟨S2x16384x2560, .f32⟩
  | .hbm, ⟨100, _⟩ => ⟨S2x16640x2560, .f32⟩
  | .hbm, ⟨101, _⟩ => ⟨S2x16640x512, .f32⟩
  | .hbm, ⟨102, _⟩ => ⟨S2x16640x512, .f32⟩
  | .hbm, ⟨103, _⟩ => ⟨S2x16640x512, .f32⟩
  | .hbm, ⟨104, _⟩ => ⟨S2x16640x512, .f32⟩
  | .hbm, ⟨105, _⟩ => ⟨S2x16640x512, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]
-- ==== Kernel6.lean ====
abbrev S2x16640x512 : Shape := ⟨3, ![2, 16640, 512]⟩
abbrev S2x16640x4096 : Shape := ⟨3, ![2, 16640, 4096]⟩
abbrev S2x16384x1024 : Shape := ⟨3, ![2, 16384, 1024]⟩
abbrev S2x256x1024 : Shape := ⟨3, ![2, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S4x512x1024 : Shape := ⟨3, ![4, 512, 1024]⟩
abbrev S1024x1024 : Shape := ⟨2, ![1024, 1024]⟩
abbrev S1024x16 : Shape := ⟨2, ![1024, 16]⟩
abbrev S2x16640x1024 : Shape := ⟨3, ![2, 16640, 1024]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x2x6144 : Shape := ⟨3, ![2, 2, 6144]⟩
abbrev S2x2x6x1x1024 : Shape := ⟨5, ![2, 2, 6, 1, 1024]⟩
abbrev S2x2x1x1x1024 : Shape := ⟨5, ![2, 2, 1, 1, 1024]⟩
abbrev S2x2x1x1024 : Shape := ⟨4, ![2, 2, 1, 1024]⟩
abbrev S1024x128 : Shape := ⟨2, ![1024, 128]⟩
abbrev S1x1024x128 : Shape := ⟨3, ![1, 1024, 128]⟩
abbrev S2x1024x128 : Shape := ⟨3, ![2, 1024, 128]⟩
abbrev S1x1024 : Shape := ⟨2, ![1, 1024]⟩
abbrev S2x16640x128 : Shape := ⟨3, ![2, 16640, 128]⟩
abbrev S1x256x512 : Shape := ⟨3, ![1, 256, 512]⟩
abbrev S1x256x4096 : Shape := ⟨3, ![1, 256, 4096]⟩
abbrev S1x256x1024 : Shape := ⟨3, ![1, 256, 1024]⟩
abbrev S1x1x1x1024 : Shape := ⟨4, ![1, 1, 1, 1024]⟩
abbrev S1x256x128 : Shape := ⟨3, ![1, 256, 128]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S256x128 : Shape := ⟨2, ![256, 128]⟩

abbrev nBuf : Space → Nat
  | .hbm => 73
  | .vmem => 28
  | .smem => 0
  | _ => 0

abbrev bufTy : (tb : Table) → Fin (tcTables nBuf tb) → BufTy
  | .hbm, ⟨0, _⟩ => ⟨S2x16640x512, .bf16⟩
  | .hbm, ⟨1, _⟩ => ⟨S2x16640x512, .bf16⟩
  | .hbm, ⟨2, _⟩ => ⟨S2x16640x512, .bf16⟩
  | .hbm, ⟨3, _⟩ => ⟨S2x16640x512, .bf16⟩
  | .hbm, ⟨4, _⟩ => ⟨S2x16640x4096, .f32⟩
  | .hbm, ⟨5, _⟩ => ⟨S2x16384x1024, .f32⟩
  | .hbm, ⟨6, _⟩ => ⟨S2x256x1024, .f32⟩
  | .hbm, ⟨7, _⟩ => ⟨S2x1024, .f32⟩
  | .hbm, ⟨8, _⟩ => ⟨S1024, .f32⟩
  | .hbm, ⟨9, _⟩ => ⟨S1024x6144, .f32⟩
  | .hbm, ⟨10, _⟩ => ⟨S6144, .f32⟩
  | .hbm, ⟨11, _⟩ => ⟨S1024, .f32⟩
  | .hbm, ⟨12, _⟩ => ⟨S4x512x1024, .f32⟩
  | .hbm, ⟨13, _⟩ => ⟨S1024x1024, .f32⟩
  | .hbm, ⟨14, _⟩ => ⟨S1024x16, .f32⟩
  | .hbm, ⟨15, _⟩ => ⟨S2x16640x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S2x1024, .f32⟩
  | .hbm, ⟨23, _⟩ => ⟨S2x1024, .f32⟩
  | .hbm, ⟨24, _⟩ => ⟨S2x1024, .f32⟩
  | .hbm, ⟨25, _⟩ => ⟨S2x6144, .f32⟩
  | .hbm, ⟨26, _⟩ => ⟨S1x6144, .f32⟩
  | .hbm, ⟨27, _⟩ => ⟨S2x6144, .f32⟩
  | .hbm, ⟨28, _⟩ => ⟨S2x6144, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S6144, .f32⟩
  | .hbm, ⟨39, _⟩ => ⟨S6144, .f32⟩
  | .hbm, ⟨40, _⟩ => ⟨S2x6144, .f32⟩
  | .hbm, ⟨41, _⟩ => ⟨S2x1x6144, .f32⟩
  | .hbm, ⟨42, _⟩ => ⟨S2x1x6144, .f32⟩
  | .hbm, ⟨43, _⟩ => ⟨S2x2x6144, .f32⟩
  | .hbm, ⟨44, _⟩ => ⟨S2x2x6x1x1024, .f32⟩
  | .hbm, ⟨45, _⟩ => ⟨S2x2x1x1x1024, .f32⟩
  | .hbm, ⟨46, _⟩ => ⟨S2x2x1x1024, .f32⟩
  | .hbm, ⟨47, _⟩ => ⟨S2x2x1x1x1024, .f32⟩
  | .hbm, ⟨48, _⟩ => ⟨S2x2x1x1024, .f32⟩
  | .hbm, ⟨49, _⟩ => ⟨S2x2x1x1x1024, .f32⟩
  | .hbm, ⟨50, _⟩ => ⟨S2x2x1x1024, .f32⟩
  | .hbm, ⟨51, _⟩ => ⟨S2x2x1x1x1024, .f32⟩
  | .hbm, ⟨52, _⟩ => ⟨S2x2x1x1024, .f32⟩
  | .hbm, ⟨53, _⟩ => ⟨S2x2x1x1x1024, .f32⟩
  | .hbm, ⟨54, _⟩ => ⟨S2x2x1x1024, .f32⟩
  | .hbm, ⟨55, _⟩ => ⟨S2x2x1x1x1024, .f32⟩
  | .hbm, ⟨56, _⟩ => ⟨S2x2x1x1024, .f32⟩
  | .hbm, ⟨57, _⟩ => ⟨S_, .i32⟩
  | .hbm, ⟨58, _⟩ => ⟨S_, .f32⟩
  | .hbm, ⟨59, _⟩ => ⟨S1024x128, .f32⟩
  | .hbm, ⟨60, _⟩ => ⟨S1024x128, .bf16⟩
  | .hbm, ⟨61, _⟩ => ⟨S1024x128, .f32⟩
  | .hbm, ⟨62, _⟩ => ⟨S1024x128, .f32⟩
  | .hbm, ⟨63, _⟩ => ⟨S1024x128, .bf16⟩
  | .hbm, ⟨64, _⟩ => ⟨S1x1024x128, .bf16⟩
  | .hbm, ⟨65, _⟩ => ⟨S1x1024x128, .bf16⟩
  | .hbm, ⟨66, _⟩ => ⟨S2x1024x128, .bf16⟩
  | .hbm, ⟨67, _⟩ => ⟨S4x512x1024, .bf16⟩
  | .hbm, ⟨68, _⟩ => ⟨S1024x1024, .bf16⟩
  | .hbm, ⟨69, _⟩ => ⟨S1x1024, .f32⟩
  | .hbm, ⟨70, _⟩ => ⟨S2x16640x1024, .f32⟩
  | .hbm, ⟨71, _⟩ => ⟨S2x16640x1024, .bf16⟩
  | .hbm, ⟨72, _⟩ => ⟨S2x16640x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x4096, .f32⟩
  | .local _ .vmem, ⟨9, _⟩ => ⟨S1x256x4096, .f32⟩
  | .local _ .vmem, ⟨10, _⟩ => ⟨S1x256x1024, .f32⟩
  | .local _ .vmem, ⟨11, _⟩ => ⟨S1x256x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1024, .f32⟩
  | .local _ .vmem, ⟨19, _⟩ => ⟨S4x512x1024, .bf16⟩
  | .local _ .vmem, ⟨20, _⟩ => ⟨S1024x1024, .bf16⟩
  | .local _ .vmem, ⟨21, _⟩ => ⟨S2x1024x128, .bf16⟩
  | .local _ .vmem, ⟨22, _⟩ => ⟨S1x256x1024, .f32⟩
  | .local _ .vmem, ⟨23, _⟩ => ⟨S1x256x1024, .f32⟩
  | .local _ .vmem, ⟨24, _⟩ => ⟨S1x256x1024, .bf16⟩
  | .local _ .vmem, ⟨25, _⟩ => ⟨S1x256x1024, .bf16⟩
  | .local _ .vmem, ⟨26, _⟩ => ⟨S1x256x128, .f32⟩
  | .local _ .vmem, ⟨27, _⟩ => ⟨S1x256x128, .f32⟩
  | _, _ => ⟨S2x16640x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c : Ref sig .tc := ⟨.hbm, 57, rfl⟩
abbrev main_call2_v0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37_0 : Ref sig .tc := ⟨.hbm, 70, rfl⟩
abbrev main_v37_1 : Ref sig .tc := ⟨.hbm, 71, rfl⟩
abbrev main_v37_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference6Ideal.lean ====
abbrev S2x16640x512 : Shape := ⟨3, ![2, 16640, 512]⟩
abbrev S2x16640x4096 : Shape := ⟨3, ![2, 16640, 4096]⟩
abbrev S2x16384x1024 : Shape := ⟨3, ![2, 16384, 1024]⟩
abbrev S2x256x1024 : Shape := ⟨3, ![2, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S4x512x1024 : Shape := ⟨3, ![4, 512, 1024]⟩
abbrev S1024x1024 : Shape := ⟨2, ![1024, 1024]⟩
abbrev S1024x16 : Shape := ⟨2, ![1024, 16]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x1x1024 : Shape := ⟨3, ![2, 1, 1024]⟩
abbrev S2x16384x512 : Shape := ⟨3, ![2, 16384, 512]⟩
abbrev S2x16384x4096 : Shape := ⟨3, ![2, 16384, 4096]⟩
abbrev S2x16384x4x1024 : Shape := ⟨4, ![2, 16384, 4, 1024]⟩
abbrev S2x16384x1x1024 : Shape := ⟨4, ![2, 16384, 1, 1024]⟩
abbrev S1x512x1024 : Shape := ⟨3, ![1, 512, 1024]⟩
abbrev S512x1024 : Shape := ⟨2, ![512, 1024]⟩
abbrev S2x256x512 : Shape := ⟨3, ![2, 256, 512]⟩
abbrev S2x256x4096 : Shape := ⟨3, ![2, 256, 4096]⟩
abbrev S2x256x4x1024 : Shape := ⟨4, ![2, 256, 4, 1024]⟩
abbrev S2x256x1x1024 : Shape := ⟨4, ![2, 256, 1, 1024]⟩
abbrev S1x1x1024 : Shape := ⟨3, ![1, 1, 1024]⟩
abbrev S2x16384 : Shape := ⟨2, ![2, 16384]⟩
abbrev S2x16384x1 : Shape := ⟨3, ![2, 16384, 1]⟩
abbrev S2x256 : Shape := ⟨2, ![2, 256]⟩
abbrev S2x256x1 : Shape := ⟨3, ![2, 256, 1]⟩
abbrev S2x16640x1024 : Shape := ⟨3, ![2, 16640, 1024]⟩

abbrev nBuf : Space → Nat
  | .hbm => 202
  | .vmem => 0
  | .smem => 0
  | _ => 0

abbrev hbmTy0_0 (i : Nat) : BufTy := match i % 128 with
  | 0 => ⟨S2x16640x512, .bf16⟩
  | 1 => ⟨S2x16640x512, .bf16⟩
  | 2 => ⟨S2x16640x512, .bf16⟩
  | 3 => ⟨S2x16640x512, .bf16⟩
  | 4 => ⟨S2x16640x4096, .f32⟩
  | 5 => ⟨S2x16384x1024, .f32⟩
  | 6 => ⟨S2x256x1024, .f32⟩
  | 7 => ⟨S2x1024, .f32⟩
  | 8 => ⟨S1024, .f32⟩
  | 9 => ⟨S1024x6144, .f32⟩
  | 10 => ⟨S6144, .f32⟩
  | 11 => ⟨S1024, .f32⟩
  | 12 => ⟨S4x512x1024, .f32⟩
  | 13 => ⟨S1024x1024, .f32⟩
  | 14 => ⟨S1024x16, .f32⟩
  | 15 => ⟨S2x1024, .f32⟩
  | 16 => ⟨S2x1024, .f32⟩
  | 17 => ⟨S_, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S2x6144, .f32⟩
  | 25 => ⟨S1x6144, .f32⟩
  | 26 => ⟨S2x6144, .f32⟩
  | 27 => ⟨S2x6144, .f32⟩
  | 28 => ⟨S1024, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S6144, .f32⟩
  | 38 => ⟨S6144, .f32⟩
  | 39 => ⟨S2x1x6144, .f32⟩
  | 40 => ⟨S2x1x1024, .f32⟩
  | 41 => ⟨S2x1x1024, .f32⟩
  | 42 => ⟨S2x1x1024, .f32⟩
  | 43 => ⟨S2x1x1024, .f32⟩
  | 44 => ⟨S2x1x1024, .f32⟩
  | 45 => ⟨S2x1x1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S2x16384x512, .bf16⟩
  | 53 => ⟨S2x16384x512, .bf16⟩
  | 54 => ⟨S2x16384x512, .bf16⟩
  | 55 => ⟨S2x16384x512, .bf16⟩
  | 56 => ⟨S2x16384x4096, .f32⟩
  | 57 => ⟨S2x16384x4096, .f32⟩
  | 58 => ⟨S2x16384x4096, .f32⟩
  | 59 => ⟨S_, .f32⟩
  | 60 => ⟨S2x16384x4096, .f32⟩
  | 61 => ⟨S2x16384x4096, .f32⟩
  | 62 => ⟨S_, .f32⟩
  | 63 => ⟨S2x16384x4096, .f32⟩
  | 64 => ⟨S2x16384x4096, .f32⟩
  | 65 => ⟨S2x16384x4x1024, .f32⟩
  | 66 => ⟨S2x16384x1x1024, .f32⟩
  | 67 => ⟨S2x16384x1024, .f32⟩
  | 68 => ⟨S2x16384x512, .f32⟩
  | 69 => ⟨S1x512x1024, .f32⟩
  | 70 => ⟨S512x1024, .f32⟩
  | 71 => ⟨S2x16384x1024, .f32⟩
  | 72 => ⟨S2x16384x1024, .f32⟩
  | 73 => ⟨S2x16384x1x1024, .f32⟩
  | 74 => ⟨S2x16384x1024, .f32⟩
  | 75 => ⟨S2x16384x512, .f32⟩
  | 76 => ⟨S1x512x1024, .f32⟩
  | 77 => ⟨S512x1024, .f32⟩
  | 78 => ⟨S2x16384x1024, .f32⟩
  | 79 => ⟨S2x16384x1024, .f32⟩
  | 80 => ⟨S2x16384x1024, .f32⟩
  | 81 => ⟨S2x16384x1x1024, .f32⟩
  | 82 => ⟨S2x16384x1024, .f32⟩
  | 83 => ⟨S2x16384x512, .f32⟩
  | 84 => ⟨S1x512x1024, .f32⟩
  | 85 => ⟨S512x1024, .f32⟩
  | 86 => ⟨S2x16384x1024, .f32⟩
  | 87 => ⟨S2x16384x1024, .f32⟩
  | 88 => ⟨S2x16384x1024, .f32⟩
  | 89 => ⟨S2x16384x1x1024, .f32⟩
  | 90 => ⟨S2x16384x1024, .f32⟩
  | 91 => ⟨S2x16384x512, .f32⟩
  | 92 => ⟨S1x512x1024, .f32⟩
  | 93 => ⟨S512x1024, .f32⟩
  | 94 => ⟨S2x16384x1024, .f32⟩
  | 95 => ⟨S2x16384x1024, .f32⟩
  | 96 => ⟨S2x16384x1024, .f32⟩
  | 97 => ⟨S2x16384x1024, .f32⟩
  | 98 => ⟨S2x256x512, .bf16⟩
  | 99 => ⟨S2x256x512, .bf16⟩
  | 100 => ⟨S2x256x512, .bf16⟩
  | 101 => ⟨S2x256x512, .bf16⟩
  | 102 => ⟨S2x256x4096, .f32⟩
  | 103 => ⟨S2x256x4096, .f32⟩
  | 104 => ⟨S2x256x4096, .f32⟩
  | 105 => ⟨S_, .f32⟩
  | 106 => ⟨S2x256x4096, .f32⟩
  | 107 => ⟨S2x256x4096, .f32⟩
  | 108 => ⟨S_, .f32⟩
  | 109 => ⟨S2x256x4096, .f32⟩
  | 110 => ⟨S2x256x4096, .f32⟩
  | 111 => ⟨S2x256x4x1024, .f32⟩
  | 112 => ⟨S2x256x1x1024, .f32⟩
  | 113 => ⟨S2x256x1024, .f32⟩
  | 114 => ⟨S2x256x512, .f32⟩
  | 115 => ⟨S1x512x1024, .f32⟩
  | 116 => ⟨S512x1024, .f32⟩
  | 117 => ⟨S2x256x1024, .f32⟩
  | 118 => ⟨S2x256x1024, .f32⟩
  | 119 => ⟨S2x256x1x1024, .f32⟩
  | 120 => ⟨S2x256x1024, .f32⟩
  | 121 => ⟨S2x256x512, .f32⟩
  | 122 => ⟨S1x512x1024, .f32⟩
  | 123 => ⟨S512x1024, .f32⟩
  | 124 => ⟨S2x256x1024, .f32⟩
  | 125 => ⟨S2x256x1024, .f32⟩
  | 126 => ⟨S2x256x1024, .f32⟩
  | 127 => ⟨S2x256x1x1024, .f32⟩
  | _ => ⟨S2x16640x512, .bf16⟩

abbrev hbmTy0_1 (i : Nat) : BufTy := match i % 128 with
  | 0 => ⟨S2x256x1024, .f32⟩
  | 1 => ⟨S2x256x512, .f32⟩
  | 2 => ⟨S1x512x1024, .f32⟩
  | 3 => ⟨S512x1024, .f32⟩
  | 4 => ⟨S2x256x1024, .f32⟩
  | 5 => ⟨S2x256x1024, .f32⟩
  | 6 => ⟨S2x256x1024, .f32⟩
  | 7 => ⟨S2x256x1x1024, .f32⟩
  | 8 => ⟨S2x256x1024, .f32⟩
  | 9 => ⟨S2x256x512, .f32⟩
  | 10 => ⟨S1x512x1024, .f32⟩
  | 11 => ⟨S512x1024, .f32⟩
  | 12 => ⟨S2x256x1024, .f32⟩
  | 13 => ⟨S2x256x1024, .f32⟩
  | 14 => ⟨S2x256x1024, .f32⟩
  | 15 => ⟨S2x256x1024, .f32⟩
  | 16 => ⟨S2x16384x1024, .f32⟩
  | 17 => ⟨S2x16384x1024, .f32⟩
  | 18 => ⟨S2x16384x1024, .f32⟩
  | 19 => ⟨S1x1x1024, .f32⟩
  | 20 => ⟨S2x256x1024, .f32⟩
  | 21 => ⟨S2x256x1024, .f32⟩
  | 22 => ⟨S2x256x1024, .f32⟩
  | 23 => ⟨S2x16384x1024, .f32⟩
  | 24 => ⟨S_, .f32⟩
  | 25 => ⟨S2x16384, .f32⟩
  | 26 => ⟨S2x16384x1, .f32⟩
  | 27 => ⟨S_, .f32⟩
  | 28 => ⟨S2x16384x1, .f32⟩
  | 29 => ⟨S2x16384x1, .f32⟩
  | 30 => ⟨S_, .f32⟩
  | 31 => ⟨S2x16384x1, .f32⟩
  | 32 => ⟨S2x16384x1, .f32⟩
  | 33 => ⟨S2x16384x1, .f32⟩
  | 34 => ⟨S2x16384x1024, .f32⟩
  | 35 => ⟨S2x16384x1024, .f32⟩
  | 36 => ⟨S1x1x1024, .f32⟩
  | 37 => ⟨S2x16384x1024, .f32⟩
  | 38 => ⟨S2x16384x1024, .f32⟩
  | 39 => ⟨S_, .f32⟩
  | 40 => ⟨S2x1x1024, .f32⟩
  | 41 => ⟨S2x1x1024, .f32⟩
  | 42 => ⟨S2x16384x1024, .f32⟩
  | 43 => ⟨S2x16384x1024, .f32⟩
  | 44 => ⟨S2x16384x1024, .f32⟩
  | 45 => ⟨S2x16384x1024, .f32⟩
  | 46 => ⟨S2x256x1024, .f32⟩
  | 47 => ⟨S_, .f32⟩
  | 48 => ⟨S2x256, .f32⟩
  | 49 => ⟨S2x256x1, .f32⟩
  | 50 => ⟨S_, .f32⟩
  | 51 => ⟨S2x256x1, .f32⟩
  | 52 => ⟨S2x256x1, .f32⟩
  | 53 => ⟨S_, .f32⟩
  | 54 => ⟨S2x256x1, .f32⟩
  | 55 => ⟨S2x256x1, .f32⟩
  | 56 => ⟨S2x256x1, .f32⟩
  | 57 => ⟨S2x256x1024, .f32⟩
  | 58 => ⟨S2x256x1024, .f32⟩
  | 59 => ⟨S1x1x1024, .f32⟩
  | 60 => ⟨S2x256x1024, .f32⟩
  | 61 => ⟨S2x256x1024, .f32⟩
  | 62 => ⟨S_, .f32⟩
  | 63 => ⟨S1024, .f32⟩
  | 64 => ⟨S1024, .f32⟩
  | 65 => ⟨S1x1x1024, .f32⟩
  | 66 => ⟨S2x256x1024, .f32⟩
  | 67 => ⟨S2x256x1024, .f32⟩
  | 68 => ⟨S1x1x1024, .f32⟩
  | 69 => ⟨S2x256x1024, .f32⟩
  | 70 => ⟨S2x256x1024, .f32⟩
  | 71 => ⟨S2x16640x1024, .f32⟩
  | 72 => ⟨S2x16640x1024, .f32⟩
  | 73 => ⟨S2x16640x1024, .bf16⟩
  | _ => ⟨S2x16640x512, .bf16⟩

abbrev hbmTy (i : Nat) : BufTy := match i / 128 with
  | 0 => hbmTy0_0 i
  | 1 => hbmTy0_1 i
  | _ => ⟨S2x16640x512, .bf16⟩

abbrev bufTy : (tb : Table) → Fin (tcTables nBuf tb) → BufTy
  | .hbm, ⟨i, _⟩ => hbmTy i
  | _, _ => ⟨S2x16640x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst : Ref sig .tc := ⟨.hbm, 59, rfl⟩
abbrev main_v28 : Ref sig .tc := ⟨.hbm, 60, rfl⟩
abbrev main_v29 : Ref sig .tc := ⟨.hbm, 61, rfl⟩
abbrev main_cst_0 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_1 : Ref sig .tc := ⟨.hbm, 105, rfl⟩
abbrev main_v72 : Ref sig .tc := ⟨.hbm, 106, rfl⟩
abbrev main_v73 : Ref sig .tc := ⟨.hbm, 107, rfl⟩
abbrev main_cst_2 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_3 : Ref sig .tc := ⟨.hbm, 152, rfl⟩
abbrev main_v117 : Ref sig .tc := ⟨.hbm, 153, rfl⟩
abbrev main_v118 : Ref sig .tc := ⟨.hbm, 154, rfl⟩
abbrev main_cst_4 : Ref sig .tc := ⟨.hbm, 155, rfl⟩
abbrev main_v119 : Ref sig .tc := ⟨.hbm, 156, rfl⟩
abbrev main_v120 : Ref sig .tc := ⟨.hbm, 157, rfl⟩
abbrev main_cst_5 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_6 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_7 : Ref sig .tc := ⟨.hbm, 175, rfl⟩
abbrev main_v136 : Ref sig .tc := ⟨.hbm, 176, rfl⟩
abbrev main_v137 : Ref sig .tc := ⟨.hbm, 177, rfl⟩
abbrev main_cst_8 : Ref sig .tc := ⟨.hbm, 178, rfl⟩
abbrev main_v138 : Ref sig .tc := ⟨.hbm, 179, rfl⟩
abbrev main_v139 : Ref sig .tc := ⟨.hbm, 180, rfl⟩
abbrev main_cst_9 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_10 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩

abbrev nD : Nat := 1
abbrev τ : Topo := Topo.v7x

variable {F : FTy → Type} [FloatOps F]
-- ==== Proof.Scalars.lean ====
/- Facts about single extended reals that the layer's kernels and the plain mathematics spell differently: the logistic
   function written with a hyperbolic tangent, and the constants one half and one. -/
module

public import Idealize.ShloMosaic.PureOps.Ideal
public import Idealize.ShloMosaic.PureOps.Ideal.Laws
public import Idealize.ShloMosaic.Lib.Pointwise

@[expose] public section

noncomputable section

namespace Cert.Layer

open Idealize.ShloMosaic

/-- The bit pattern of the f32 one half reads as the real one half. -/
theorem half_bits : Ideal.ofBits .f32 0x3F000000#32 = (((1 / 2 : ℝ)) : EReal) := by
  simp [Ideal.ofBits, Ideal.ieee]
  rw [← EReal.coe_mul]
  congr 1
  norm_num

/-- `x` times its logistic function. -/
def silu (x : EReal) : EReal := x * Ideal.div 1 (1 + Ideal.exp (-x))

/-- On the reals, half of `tanh (x / 2)` plus one half is `1 / (1 + e^(-x))`. -/
theorem real_logistic (x : ℝ) : 1 / 2 * Real.tanh (1 / 2 * x) + 1 / 2 = (1 + Real.exp (-x))⁻¹ := by
  rw [Real.tanh_eq_sinh_div_cosh, Real.sinh_eq, Real.cosh_eq]
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have p1 := Real.exp_pos (1 / 2 * x)
  have p2 := Real.exp_pos (-(1 / 2 * x))
  rw [h1]
  generalize Real.exp (1 / 2 * x) = a at *
  generalize Real.exp (-(1 / 2 * x)) = b at *
  have : a = b⁻¹ := eq_inv_of_mul_eq_one_left h2
  subst this
  field_simp
  ring

/-- The logistic function: `½ tanh(½ x) + ½` is `1 / (1 + e^(-x))` at every extended real, the infinities included. -/
theorem logistic_tanh (x : EReal) :
    (((1 / 2 : ℝ)) : EReal) * Ideal.tanh ((((1 / 2 : ℝ)) : EReal) * x) + (((1 / 2 : ℝ)) : EReal)
      = Ideal.div 1 (1 + Ideal.exp (-x)) := by
  induction x using EReal.rec with
  | bot =>
    rw [EReal.coe_mul_bot_of_pos (by norm_num)]
    show (((1 / 2 : ℝ)) : EReal) * (-1) + _ = Ideal.div 1 (1 + Ideal.exp (- ⊥))
    rw [EReal.neg_bot]
    show _ = Ideal.div 1 (1 + ⊤)
    rw [EReal.add_top_of_ne_bot (by decide), Ideal.div, if_neg (by decide), EReal.inv_top, mul_zero]
    rw [show (-1 : EReal) = (((-1 : ℝ)) : EReal) by norm_num, ← EReal.coe_mul, ← EReal.coe_add]
    norm_num
  | top =>
    rw [EReal.coe_mul_top_of_pos (by norm_num)]
    show (((1 / 2 : ℝ)) : EReal) * 1 + _ = Ideal.div 1 (1 + Ideal.exp (- ⊤))
    rw [EReal.neg_top]
    show _ = Ideal.div 1 (1 + 0)
    rw [add_zero, Ideal.div, if_neg (by norm_num), mul_one, ← EReal.coe_add]
    norm_num
  | coe r =>
    rw [← EReal.coe_mul]
    show (((1 / 2 : ℝ)) : EReal) * ((Real.tanh (1 / 2 * r) : ℝ) : EReal) + _ = Ideal.div 1 (1 + Ideal.exp (- (r : EReal)))
    rw [← EReal.coe_neg]
    show _ = Ideal.div 1 (1 + ((Real.exp (-r) : ℝ) : EReal))
    have hp : (1 + Real.exp (-r)) ≠ 0 := by positivity
    rw [← EReal.coe_one, ← EReal.coe_add, Ideal.div, if_neg (by exact_mod_cast hp), EReal.coe_one, one_mul,
      ← EReal.coe_mul, ← EReal.coe_add, real_logistic, EReal.coe_inv]

/-- The same with the factors as the kernel's constants print. -/
theorem logistic_bits (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_bits, logistic_tanh]

/-- An index below the signed range's middle is not wrapped. -/
theorem wrap_eq (r n : BitVec 32) (h : r.toNat < 2147483648) :
    Scalar.select (IntOp.cmpi .slt r 0#32) (IntOp.addi r n) r = r := by
  have e : r.slt 0#32 = false := by
    rw [BitVec.slt_eq_decide, decide_eq_false_iff_not, BitVec.toInt_eq_toNat_cond]
    simp
    omega
  simp [IntOp.cmpi, e, Scalar.select]

/-- Read as a signed number, such an index is itself. -/
theorem toInt_toNat (r : BitVec 32) (h : r.toNat < 2147483648) : r.toInt.toNat = r.toNat := by
  rw [BitVec.toInt_eq_toNat_cond, if_pos (by omega)]; rfl

end Cert.Layer

end
-- ==== Proof.Routing.lean ====
/- The routing on the host: the positions the experts take, and the rows they gather. -/
module

public import proofs.«01_k».proof.Proof.Scalars
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem Cert.Layer
open Cert.KernelIdeal Cert.KernelIdeal.Gen

/-- The affinities of the latent tokens, expert by expert. -/
def affinity (a : FVec Ideal S2x16640x128 .f32) : FVec Ideal S2x16x16384 .f32 :=
  transpose S2x16x16384 [0, 2, 1] (extractStridedSlice S2x16384x16 ![0, 256, 0] a slices_S2x16640x128_S2x16384x16_0_256_0)
    transposes_S2x16384x16_S2x16x16384_0_2_1

/-- Each expert's best scores, -/
def scores (a : FVec Ideal S2x16640x128 .f32) : FVec Ideal S2x16x2048 .f32 :=
  (Host.topK S2x16x2048 2 (FloatOps.cmpfTotal (F := Ideal) (φ := .f32) .gt) (affinity a) sliceFits_S2x16x16384_S2x16x2048).1

/-- and the positions of the tokens that have them. -/
def picks (a : FVec Ideal S2x16640x128 .f32) : IVec S2x16x2048 32 :=
  (Host.topK S2x16x2048 2 (FloatOps.cmpfTotal (F := Ideal) (φ := .f32) .gt) (affinity a) sliceFits_S2x16x16384_S2x16x2048).2

/-- A position is a token's. -/
theorem picks_lt (a : FVec Ideal S2x16640x128 .f32) (j : S2x16x2048.Idx) : (picks a j).toNat < 16384 := by
  unfold picks Host.topK Host.sort2
  simp only [extractStridedSlice, iotaInDim]
  rw [dif_pos (by decide : 2 < S2x16x16384.rank)]
  dsimp only
  rw [dif_pos (by decide : 2 < S2x16x16384.rank)]
  rw [BitVec.toNat_ofNat]
  have hi : ∀ i : S2x16x16384.Idx, (i 2).val < 16384 := fun i => (i 2).isLt
  exact lt_of_le_of_lt (Nat.mod_le _ _) (hi _)

/-- The rows of the flattened tokens the kernel's host code takes from the positions. -/
def rowTable (p : IVec S2x16x2048 32) : IVec S16x4096 32 :=
  shapeCast S16x4096 (transpose S16x2x2048 [1, 0, 2]
    (addi (addi p (broadcastInDim S2x16x2048 ![] bcast_S_S2x16x2048 (constantI S_ 32 256#32)))
      (broadcastInDim S2x16x2048 ![0, 1, 2] bcast_S2x1x1_S2x16x2048_0_1_2 (broadcastInDim S2x1x1 ![0] bcast_S2_S2x1x1_0
        (muli (iotaInDim S2 32 0) (broadcastInDim S2 ![] bcast_S_S2 (constantI S_ 32 16640#32))))))
    transposes_S2x16x2048_S16x2x2048_1_0_2) shapeCasts_S16x2x2048_S16x4096

/-- Row `q` of expert `e`'s table is token `256 + p` of sample `q / 2048`. -/
theorem rowTable_at (p : IVec S2x16x2048 32) (h : ∀ j, (p j).toNat < 16384) (e : Fin 16) (q : Fin 4096) :
    (rowTable p (ix2 e q)).toNat
      = q.val / 2048 * 16640 + 256 + (p (ix3 (⟨q.val / 2048, by omega⟩ : Fin 2) e (⟨q.val % 2048, by omega⟩ : Fin 2048))).toNat := by
  have hq : q.val / 2048 < 2 := by omega
  have hp := h (ix3 (⟨q.val / 2048, hq⟩ : Fin 2) e (⟨q.val % 2048, by omega⟩ : Fin 2048))
  pointwise [rowTable]
  simp only [IntOp.addi, IntOp.muli, BitVec.toNat_add, BitVec.toNat_mul, BitVec.toNat_ofNat]
  omega

/-- The indices as the host's `take` reads them: negative ones counted from the end, -/
def takeIndex (r : IVec S16x4096 32) : IVec S16x4096x1 32 :=
  broadcastInDim S16x4096x1 ![0, 1] bcast_S16x4096_S16x4096x1_0_1
    (select (cmpi .slt r (broadcastInDim S16x4096 ![] bcast_S_S16x4096 (constantI S_ 32 0#32)))
      (addi r (broadcastInDim S16x4096 ![] bcast_S_S16x4096 (constantI S_ 32 33280#32))) r)

/-- which of them are in range, -/
def takeMask (r : IVec S16x4096 32) : IVec S16x4096 1 :=
  Host.reduce IntOp.andi
    (andi (cmpi .sge (takeIndex r) (broadcastInDim S16x4096x1 ![] bcast_S_S16x4096x1 (constantI S_ 32 0#32)))
      (cmpi .sle (takeIndex r) (broadcastInDim S16x4096x1 ![0, 1, 2] bcast_S1x1x1_S16x4096x1_0_1_2
        (broadcastInDim S1x1x1 ![2] bcast_S1_S1x1x1_2 (constantI S1 32 33279#32)))))
    (constantI S_ 1 1#1) reducesTo_S16x4096x1_S16x4096_d2 h_S_

/-- and the rows taken, a row out of range being filled. -/
def taken (h : FVec Ideal S33280x1024 .bf16) (r : IVec S16x4096 32) : FVec Ideal S16x4096x1024 .bf16 :=
  select (broadcastInDim S16x4096x1024 ![0, 1] bcast_S16x4096_S16x4096x1024_0_1 (takeMask r))
    (Host.gather gather_S33280x1024_S16x4096x1_S16x4096x1024_2_0_n_n_0_2_11024 h (takeIndex r))
    (broadcastInDim S16x4096x1024 ![] bcast_S_S16x4096x1024 (constant S_ .bf16 0x7FC0#16))

theorem takeIndex_at (r : IVec S16x4096 32) (h : ∀ j, (r j).toNat < 33280) (e : Fin 16) (q : Fin 4096) :
    takeIndex r (ix3 e q (0 : Fin 1)) = r (ix2 e q) := by
  pointwise [takeIndex]
  exact wrap_eq _ _ (lt_trans (h _) (by norm_num))

theorem takeMask_at (r : IVec S16x4096 32) (h : ∀ j, (r j).toNat < 33280) (e : Fin 16) (q : Fin 4096) :
    takeMask r (ix2 e q) = 1#1 := by
  pointwise [takeMask]
  rw [Finset.univ_unique (α := Fin 1), Finset.fold_singleton]
  have hr := h (ix2 e q)
  have e0 : takeIndex r (ix3 e q (default : Fin 1)) = r (ix2 e q) := takeIndex_at r h e q
  have i0 : (r (ix2 e q)).toInt = (r (ix2 e q)).toNat := by
    rw [BitVec.toInt_eq_toNat_cond, if_pos (by omega)]
  have h0 : (0#32).sle (r (ix2 e q)) = true := by
    rw [BitVec.sle_eq_decide, decide_eq_true_iff, i0]
    simp
  have h1 : (r (ix2 e q)).sle 33279#32 = true := by
    rw [BitVec.sle_eq_decide, decide_eq_true_iff, i0]
    simp
    omega
  rw [e0]
  simp [IntOp.cmpi, h0, h1, IntOp.andi]

/-- Every row being in range, `take` gives it. -/
theorem taken_at (x : FVec Ideal S33280x1024 .bf16) (r : IVec S16x4096 32) (h : ∀ j, (r j).toNat < 33280) (e : Fin 16)
    (q : Fin 4096) (k : Fin 1024) :
    taken x r (ix3 e q k) = x (ix2 (⟨(r (ix2 e q)).toNat, h _⟩ : Fin 33280) k) := by
  pointwise [taken]
  rw [takeMask_at r h]
  show Host.gather gather_S33280x1024_S16x4096x1_S16x4096x1024_2_0_n_n_0_2_11024 x (takeIndex r) (ix3 e q k) = _
  have hr := h (ix2 e q)
  have i0 : (r (ix2 e q)).toInt.toNat = (r (ix2 e q)).toNat := by
    rw [BitVec.toInt_eq_toNat_cond, if_pos (by omega)]; rfl
  unfold Host.gather
  refine congrArg x (funext fun a => Fin.ext ?_)
  have hs : ∀ c, gather_S33280x1024_S16x4096x1_S16x4096x1024_2_0_n_n_0_2_11024.siIdx (ix3 e q k) c = ix3 e q (0 : Fin 1) := by
    intro c
    funext b
    match b with
    | ⟨0, _⟩ => rfl
    | ⟨1, _⟩ => rfl
    | ⟨2, _⟩ => exact Subsingleton.elim (α := Fin 1) _ _
  match a with
  | ⟨0, _⟩ =>
    show gather_S33280x1024_S16x4096x1_S16x4096x1024_2_0_n_n_0_2_11024.start (ix3 e q k) (takeIndex r) 0 + 0 + 0 = (r (ix2 e q)).toNat
    unfold GatherDims.start
    rw [dif_pos (by decide), hs, takeIndex_at r h, i0]
    show min (r (ix2 e q)).toNat (33280 - 1) + 0 + 0 = _
    omega
  | ⟨1, _⟩ =>
    show gather_S33280x1024_S16x4096x1_S16x4096x1024_2_0_n_n_0_2_11024.start (ix3 e q k) (takeIndex r) 1 + 0 + k.val = k.val
    unfold GatherDims.start
    rw [dif_neg (by decide)]
    omega

end Cert.KernelIdeal.Value

end
-- ==== Proof.ExpertsBlock.lean ====
/- What one grid point of the experts' kernel stores: for its rows, the gated feed-forward of the expert's weights, times
   the row's score. -/
module

public import proofs.«01_k».proof.Proof.Gen.KernelIdeal.Skeleton
public import proofs.«01_k».proof.Proof.Scalars
public import Idealize.ShloMosaic.Lib.Pointwise

@[expose] public section

set_option maxRecDepth 16384

noncomputable section

namespace Cert.Layer

open Idealize.ShloMosaic

/-- One output of one expert on one row: `silu(row · W_gate) * (row · W_up)`, times `W_down`. -/
def swiglu (row : Fin 1024 → EReal) (wg wu : Fin 1024 → Fin 2048 → EReal) (wd : Fin 2048 → EReal) : EReal :=
  ∑ f : Fin 2048, silu (∑ k : Fin 1024, row k * wg k f) * (∑ k : Fin 1024, row k * wu k f) * wd f

end Cert.Layer

namespace Cert.KernelIdeal.Value

open Idealize.ShloMosaic Cert.Layer
open Cert.KernelIdeal Cert.KernelIdeal.Gen

/-- The stored block at row `r`, column `d`. -/
theorem block_at (x : FVec Ideal S1x512x1024 .bf16) (wg wu : FVec Ideal S1x1024x2048 .bf16) (wd : FVec Ideal S1x2048x1024 .bf16)
    (s : FVec Ideal S1x512x1 .f32) (r : Fin 512) (d : Fin 1024) :
    k0_pay1 (F := Ideal) x wg wu wd s (ix3 (0 : Fin 1) r d)
      = swiglu (fun k => x (ix3 (0 : Fin 1) r k)) (fun k f => wg (ix3 (0 : Fin 1) k f)) (fun k f => wu (ix3 (0 : Fin 1) k f))
          (fun f => wd (ix3 (0 : Fin 1) f d)) * s (ix3 (0 : Fin 1) r (0 : Fin 1)) := by
  pointwise [k0_pay1]
  simp only [logistic_bits]
  rfl

end Cert.KernelIdeal.Value

end
-- ==== Proof.ExpertsArray.lean ====
/- The array the experts' call leaves: every row of every expert's table, whole. -/
module

public import proofs.«01_k».proof.Proof.Gen.KernelIdeal.Frame
public import proofs.«01_k».proof.Proof.ExpertsBlock
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.Layer
open Idealize.ShloMosaic.Pipeline (Dat)
open Cert.KernelIdeal Cert.KernelIdeal.Gen

variable (m : (ℓ : Loc nD τ sig) → Buf (Elt Ideal) ℓ)

/-- Expert `i 0`'s output on the `i 1`-th row of its table `x`, column `i 2`, times the row's score. -/
def expertRows (x : FVec Ideal S16x4096x1024 .bf16) (s : FVec Ideal S16x4096x1 .f32) (wg wu : FVec Ideal S16x1024x2048 .bf16)
    (wd : FVec Ideal S16x2048x1024 .bf16) : FVec Ideal S16x4096x1024 .f32 := fun i =>
  swiglu (fun k => x (ix3 (i 0) (i 1) k)) (fun k f => wg (ix3 (i 0) k f)) (fun k f => wu (ix3 (i 0) k f))
    (fun f => wd (ix3 (i 0) f (i 2))) * s (ix3 (i 0) (i 1) (0 : Fin 1))

/-- Where the windows sit at a grid point. -/
theorem idx : ∀ t : Fin cfg0.N, win0_0.index t = ![t.val / 8, t.val % 8, 0] ∧ win0_1.index t = ![t.val / 8, t.val % 8, 0]
    ∧ win0_2.index t = ![t.val / 8, 0, 0] ∧ win0_3.index t = ![t.val / 8, 0, 0] ∧ win0_4.index t = ![t.val / 8, 0, 0]
    ∧ win0_5.index t = ![t.val / 8, t.val % 8, 0] :=
  (by decide +kernel : ∀ t : Fin grid0.N, _)

set_option maxHeartbeats 1000000 in
/-- What the body stores at a point is the array's rows there, whatever the operands hold. -/
theorem point (x : FVec Ideal S16x4096x1024 .bf16) (s : FVec Ideal S16x4096x1 .f32) (wg wu : FVec Ideal S16x1024x2048 .bf16)
    (wd : FVec Ideal S16x2048x1024 .bf16) (t : Fin cfg0.N) (y : S1x512x1024.Idx) :
    k0_pay1 (F := Ideal) (((cfg0.win 0).blk t).view.read (Elt Ideal) x) (((cfg0.win 2).blk t).view.read (Elt Ideal) wg)
        (((cfg0.win 3).blk t).view.read (Elt Ideal) wu) (((cfg0.win 4).blk t).view.read (Elt Ideal) wd)
        (((cfg0.win 1).blk t).view.read (Elt Ideal) s) y
      = expertRows x s wg wu wd (((cfg0.win 5).blk t).view.emb y) := by
  obtain ⟨z, r, d, rfl⟩ : ∃ (z : Fin 1) (r : Fin 512) (d : Fin 1024), y = ix3 z r d := ⟨y 0, y 1, y 2, eq_ix3 y⟩
  obtain rfl : z = 0 := Subsingleton.elim _ _
  rw [block_at]
  unfold expertRows
  refine Ideal.mul_congr (congr (congr (congr (congrArg swiglu (funext fun k => ?_)) (funext fun k => funext fun f => ?_))
    (funext fun k => funext fun f => ?_)) (funext fun f => ?_)) ?_ <;> blk_ext [idx t]

/-- The whole array after the call. -/
theorem final (c : Dev nD) : (dats m 0 c).arrAt 5 (cfgs 0).N
    = expertRows (V m c main_v18) (V m c main_v16) (V m c main_v0) (V m c main_v1) (V m c main_v2) := by
  refine (dats m 0 c).arrAt_eq_of_covers 5 _ (by decide +kernel) fun t _ y => ?_
  blk_simp
  rw [after0_5]; frame_out
  exact point (V m c main_v18) (V m c main_v16) (V m c main_v0) (V m c main_v1) (V m c main_v2) t y

end Cert.KernelIdeal.Value

end
-- ==== Proof.Mixture.lean ====
/- The expert-choice feed-forward as one formula over whole arrays. -/
module

public import proofs.«01_k».proof.Proof.ExpertsBlock

@[expose] public section

noncomputable section

namespace Cert.Layer

open Idealize.ShloMosaic

/-- Expert `e`'s output in sample `b` for its `c`-th pick, column `d`: the gated feed-forward of the token picked, times the
    pick's score. The token is counted after the 256 context tokens. -/
def expertOut (h : FVec Ideal ⟨3, ![2, 16640, 1024]⟩ .bf16) (p : IVec ⟨3, ![2, 16, 2048]⟩ 32) (s : FVec Ideal ⟨3, ![2, 16, 2048]⟩ .f32)
    (wg wu : FVec Ideal ⟨3, ![16, 1024, 2048]⟩ .f32) (wd : FVec Ideal ⟨3, ![16, 2048, 1024]⟩ .f32)
    (b : Fin 2) (e : Fin 16) (c : Fin 2048) (d : Fin 1024) : EReal :=
  swiglu (fun k => h (ix3 b (⟨(256 + (p (ix3 b e c)).toNat) % 16640, Nat.mod_lt _ (by norm_num)⟩ : Fin 16640) k))
    (fun k f => wg (ix3 e k f)) (fun k f => wu (ix3 e k f)) (fun f => wd (ix3 e f d)) * s (ix3 b e c)

/-- The layer's mixture at token `t` of sample `b`: the sum, over all picks of that token, of the expert's output. -/
def mixture (h : FVec Ideal ⟨3, ![2, 16640, 1024]⟩ .bf16) (p : IVec ⟨3, ![2, 16, 2048]⟩ 32) (s : FVec Ideal ⟨3, ![2, 16, 2048]⟩ .f32)
    (wg wu : FVec Ideal ⟨3, ![16, 1024, 2048]⟩ .f32) (wd : FVec Ideal ⟨3, ![16, 2048, 1024]⟩ .f32)
    (b : Fin 2) (t : Fin 16640) (d : Fin 1024) : EReal :=
  ∑ e : Fin 16, ∑ c : Fin 2048, if 256 + (p (ix3 b e c)).toNat = t.val then expertOut h p s wg wu wd b e c d else 0

end Cert.Layer

end
-- ==== Proof.ExpertsScatter.lean ====
/- The sum of the experts' rows at their tokens, as the kernel's host code takes it. -/
module

public import proofs.«01_k».proof.Proof.Routing
public import proofs.«01_k».proof.Proof.ExpertsArray
public import proofs.«01_k».proof.Proof.Mixture
public import Idealize.ShloMosaic.Lib.Routing.OpsPair

@[expose] public section

set_option maxRecDepth 16384

noncomputable section

namespace Cert.KernelIdeal.Value

open Idealize.ShloMosaic Idealize.ShloMosaic.TcCoe Idealize.SL.Sem Cert.Layer
open Cert.KernelIdeal Cert.KernelIdeal.Gen

/-- The rows' tokens as the scatter reads them. -/
def landIndex (r : IVec S16x4096 32) : IVec S65536x1 32 :=
  broadcastInDim S65536x1 ![0] bcast_S65536_S65536x1_0
    (select (cmpi .slt (shapeCast S65536 r shapeCasts_S16x4096_S65536) (broadcastInDim S65536 ![] bcast_S_S65536 (constantI S_ 32 0#32)))
      (addi (shapeCast S65536 r shapeCasts_S16x4096_S65536) (broadcastInDim S65536 ![] bcast_S_S65536 (constantI S_ 32 33280#32)))
      (shapeCast S65536 r shapeCasts_S16x4096_S65536))

/-- The rows added up at their tokens, sample by sample. -/
def landed (r : IVec S16x4096 32) (y : FVec Ideal S16x4096x1024 .f32) : FVec Ideal S2x16640x1024 .f32 :=
  shapeCast S2x16640x1024
    (Host.scatterAdd (F := Ideal) (φ := .f32) scatter_S33280x1024_S65536x1_S65536x1024_1_0_0_1
      (broadcastInDim S33280x1024 ![] bcast_S_S33280x1024 (constant (F := Ideal) S_ .f32 0x00000000#32)) (landIndex r)
      (shapeCast S65536x1024 y shapeCasts_S16x4096x1024_S65536x1024)) shapeCasts_S33280x1024_S2x16640x1024

theorem landIndex_at (r : IVec S16x4096 32) (h : ∀ j, (r j).toNat < 33280) (u : Fin 65536) :
    landIndex r (ix2 u (0 : Fin 1)) = r (ix2 (⟨u.val / 4096, by omega⟩ : Fin 16) (⟨u.val % 4096, by omega⟩ : Fin 4096)) := by
  pointwise [landIndex]
  exact wrap_eq _ _ (lt_trans (h _) (by norm_num))

/-- Update row `u` lands on token `n` when its index is `n`. -/
theorem lands_iff (r : IVec S16x4096 32) (h : ∀ j, (r j).toNat < 33280) (u : Fin 65536) (c d : Fin 1024) (n : Fin 33280) :
    scatter_S33280x1024_S65536x1_S65536x1024_1_0_0_1.resultIdx? (ix2 u c) (landIndex r) = some (ix2 n d)
      ↔ (r (ix2 (⟨u.val / 4096, by omega⟩ : Fin 16) (⟨u.val % 4096, by omega⟩ : Fin 4096))).toNat = n.val ∧ c = d := by
  have hr := h (ix2 (⟨u.val / 4096, by omega⟩ : Fin 16) (⟨u.val % 4096, by omega⟩ : Fin 4096))
  have hs : ∀ k, scatter_S33280x1024_S65536x1_S65536x1024_1_0_0_1.siIdx (ix2 u c) k = ix2 u (0 : Fin 1) := by
    intro k
    funext b
    match b with
    | ⟨0, _⟩ => rfl
    | ⟨1, _⟩ => exact Subsingleton.elim (α := Fin 1) _ _
  have h0 : scatter_S33280x1024_S65536x1_S65536x1024_1_0_0_1.start (ix2 u c) (landIndex r) 0
      = ((r (ix2 (⟨u.val / 4096, by omega⟩ : Fin 16) (⟨u.val % 4096, by omega⟩ : Fin 4096))).toNat : Int) := by
    unfold ScatterDims.start
    rw [dif_pos (by decide), hs, landIndex_at r h, BitVec.toInt_eq_toNat_cond, if_pos (by omega)]
  have h1 : scatter_S33280x1024_S65536x1_S65536x1024_1_0_0_1.start (ix2 u c) (landIndex r) 1 = 0 := by
    unfold ScatterDims.start
    rw [dif_neg (by decide)]
  have w0 : scatter_S33280x1024_S65536x1_S65536x1024_1_0_0_1.window (ix2 u c) 0 = 0 := rfl
  have w1 : scatter_S33280x1024_S65536x1_S65536x1024_1_0_0_1.window (ix2 u c) 1 = c.val := rfl
  rw [Routing.resultIdx?_eq_some]
  constructor
  · intro q
    have q0 := q 0
    have q1 := q 1
    rw [h0, w0] at q0
    rw [h1, w1] at q1
    have e0 : ((ix2 n d : S33280x1024.Idx) 0).val = n.val := rfl
    have e1 : ((ix2 n d : S33280x1024.Idx) 1).val = d.val := rfl
    rw [e0] at q0
    rw [e1] at q1
    exact ⟨by omega, Fin.ext (by omega)⟩
  · rintro ⟨q0, rfl⟩ a
    match a with
    | ⟨0, _⟩ =>
      show scatter_S33280x1024_S65536x1_S65536x1024_1_0_0_1.start (ix2 u c) (landIndex r) 0
        + ((scatter_S33280x1024_S65536x1_S65536x1024_1_0_0_1.window (ix2 u c) 0 : ℕ) : Int) = (n.val : Int)
      rw [h0, w0]
      omega
    | ⟨1, _⟩ =>
      show scatter_S33280x1024_S65536x1_S65536x1024_1_0_0_1.start (ix2 u c) (landIndex r) 1
        + ((scatter_S33280x1024_S65536x1_S65536x1024_1_0_0_1.window (ix2 u c) 1 : ℕ) : Int) = (c.val : Int)
      rw [h1, w1]
      omega

/-- The sum at token `t` of sample `b`: the rows whose index is that token's. -/
theorem landed_at (r : IVec S16x4096 32) (h : ∀ j, (r j).toNat < 33280) (y : FVec Ideal S16x4096x1024 .f32)
    (b : Fin 2) (t : Fin 16640) (d : Fin 1024) :
    landed r y (ix3 b t d)
      = ∑ e : Fin 16, ∑ q : Fin 4096, if (r (ix2 e q)).toNat = b.val * 16640 + t.val then y (ix3 e q d) else 0 := by
  pointwise [landed]
  unfold Host.scatterAdd
  rw [Ideal.hostScatterAdd_def]
  unfold Ideal.hostScatterAdd
  rw [Finset.sum_filter, sum_idx2]
  have hz : broadcastInDim S33280x1024 ![] bcast_S_S33280x1024 (constant (F := Ideal) S_ .f32 0x00000000#32)
      (ix2 (⟨b.val * 16640 + t.val, by omega⟩ : Fin 33280) d) = (0 : EReal) := by
    pointwise
  rw [hz, zero_add]
  have hc : ∀ u : Fin 65536, (∑ c : Fin 1024,
      if scatter_S33280x1024_S65536x1_S65536x1024_1_0_0_1.resultIdx? (ix2 u c) (landIndex r)
          = some (ix2 (⟨b.val * 16640 + t.val, by omega⟩ : Fin 33280) d) then
        shapeCast S65536x1024 y shapeCasts_S16x4096x1024_S65536x1024 (ix2 u c) else 0)
      = if (r (ix2 (⟨u.val / 4096, by omega⟩ : Fin 16) (⟨u.val % 4096, by omega⟩ : Fin 4096))).toNat = b.val * 16640 + t.val then
          y (ix3 (⟨u.val / 4096, by omega⟩ : Fin 16) (⟨u.val % 4096, by omega⟩ : Fin 4096) d) else 0 := by
    intro u
    have hy : ∀ c : Fin 1024, shapeCast S65536x1024 y shapeCasts_S16x4096x1024_S65536x1024 (ix2 u c)
        = y (ix3 (⟨u.val / 4096, by omega⟩ : Fin 16) (⟨u.val % 4096, by omega⟩ : Fin 4096) c) := by
      intro c
      pointwise
    simp only [lands_iff r h, hy]
    by_cases q : (r (ix2 (⟨u.val / 4096, by omega⟩ : Fin 16) (⟨u.val % 4096, by omega⟩ : Fin 4096))).toNat
        = b.val * 16640 + t.val
    · simp [q]
    · simp [q]
  rw [Finset.sum_congr rfl fun u _ => hc u, Fin.sum_univ_tiles 16 4096 (by norm_num)]
  refine Finset.sum_congr rfl fun e _ => Finset.sum_congr rfl fun q _ => ?_
  have he : (e.val * 4096 + q.val) / 4096 = e.val := by omega
  have hq : (e.val * 4096 + q.val) % 4096 = q.val := by omega
  simp only [he, hq]

/-- The table's rows are among the flattened tokens. -/
theorem rowTable_lt (p : IVec S2x16x2048 32) (hp : ∀ j, (p j).toNat < 16384) (j : S16x4096.Idx) :
    (rowTable p j).toNat < 33280 := by
  have key : ∀ (e : Fin 16) (q : Fin 4096), (rowTable p (ix2 e q)).toNat < 33280 := by
    intro e q
    rw [rowTable_at p hp]
    have := hp (ix3 (⟨q.val / 2048, by omega⟩ : Fin 2) e (⟨q.val % 2048, by omega⟩ : Fin 2048))
    omega
  have hj : j = ix2 (n0 := 16) (n1 := 4096) (j 0) (j 1) := (ix2_eta (n0 := 16) (n1 := 4096) j).symm
  rw [hj]
  exact key (j 0) (j 1)

/-- With the experts' rows put in, the sum is the layer's mixture. -/
theorem landed_mixture (h : FVec Ideal S33280x1024 .bf16) (x : FVec Ideal S2x16640x1024 .bf16)
    (hx : h = shapeCast S33280x1024 x shapeCasts_S2x16640x1024_S33280x1024)
    (p : IVec S2x16x2048 32) (hp : ∀ j, (p j).toNat < 16384) (s : FVec Ideal S2x16x2048 .f32)
    (wg wu : FVec Ideal S16x1024x2048 .f32) (wd : FVec Ideal S16x2048x1024 .f32)
    (b : Fin 2) (t : Fin 16640) (d : Fin 1024) :
    landed (rowTable p) (expertRows (taken h (rowTable p))
      (shapeCast S16x4096x1 (transpose S16x2x2048 [1, 0, 2] s transposes_S2x16x2048_S16x2x2048_1_0_2) shapeCasts_S16x2x2048_S16x4096x1)
      wg wu wd) (ix3 b t d) = mixture x p s wg wu wd b t d := by
  have hr := rowTable_lt p hp
  have hp3 := fun (b : Fin 2) (e : Fin 16) (c : Fin 2048) => hp (ix3 b e c)
  rw [landed_at _ hr]
  unfold mixture
  refine Finset.sum_congr rfl fun e _ => ?_
  rw [Fin.sum_univ_tiles 2 2048 (by norm_num), Fin.sum_univ_two]
  have hrow : ∀ (j : Fin 2) (c : Fin 2048), (rowTable p (ix2 e (⟨j.val * 2048 + c.val, by omega⟩ : Fin 4096))).toNat
      = j.val * 16640 + 256 + (p (ix3 j e c)).toNat := by
    intro j c
    rw [rowTable_at p hp]
    have hj : (j.val * 2048 + c.val) / 2048 = j.val := by omega
    have hc : (j.val * 2048 + c.val) % 2048 = c.val := by omega
    simp only [hj, hc]
  have hval : ∀ (j : Fin 2) (c : Fin 2048), expertRows (taken h (rowTable p))
      (shapeCast S16x4096x1 (transpose S16x2x2048 [1, 0, 2] s transposes_S2x16x2048_S16x2x2048_1_0_2) shapeCasts_S16x2x2048_S16x4096x1)
      wg wu wd (ix3 e (⟨j.val * 2048 + c.val, by omega⟩ : Fin 4096) d) = expertOut x p s wg wu wd j e c d := by
    intro j c
    have hj : (j.val * 2048 + c.val) / 2048 = j.val := by omega
    have hc : (j.val * 2048 + c.val) % 2048 = c.val := by omega
    have ht : ∀ k : Fin 1024, taken h (rowTable p) (ix3 e (⟨j.val * 2048 + c.val, by omega⟩ : Fin 4096) k)
        = x (ix3 j (⟨(256 + (p (ix3 j e c)).toNat) % 16640, Nat.mod_lt _ (by norm_num)⟩ : Fin 16640) k) := by
      intro k
      have := hp3 j e c
      rw [taken_at _ _ hr, hx]
      pointwise
      refine congrArg x ?_
      refine congrArg₂ (fun a b => ix3 a b k) (Fin.ext ?_) (Fin.ext ?_)
      · show (rowTable p (ix2 e (⟨j.val * 2048 + c.val, by omega⟩ : Fin 4096))).toNat / 16640 = j.val
        rw [hrow]
        omega
      · show (rowTable p (ix2 e (⟨j.val * 2048 + c.val, by omega⟩ : Fin 4096))).toNat % 16640 = _ % 16640
        rw [hrow]
        omega
    have hs : shapeCast S16x4096x1 (transpose S16x2x2048 [1, 0, 2] s transposes_S2x16x2048_S16x2x2048_1_0_2)
        shapeCasts_S16x2x2048_S16x4096x1 (ix3 e (⟨j.val * 2048 + c.val, by omega⟩ : Fin 4096) (0 : Fin 1)) = s (ix3 j e c) := by
      pointwise

    show swiglu (fun k => taken h (rowTable p) (ix3 e (⟨j.val * 2048 + c.val, by omega⟩ : Fin 4096) k)) _ _ _ * shapeCast S16x4096x1 (transpose S16x2x2048 [1, 0, 2] s transposes_S2x16x2048_S16x2x2048_1_0_2)
        shapeCasts_S16x2x2048_S16x4096x1 (ix3 e (⟨j.val * 2048 + c.val, by omega⟩ : Fin 4096) (0 : Fin 1)) = _
    rw [hs, funext ht]
    rfl
  simp only [hrow, hval]
  rw [← Finset.sum_add_distrib]
  refine Finset.sum_congr rfl fun c _ => ?_
  have h0 := hp3 0 e c
  have h1 := hp3 1 e c
  have hv0 : ((0 : Fin 2)).val = 0 := rfl
  have hv1 : ((1 : Fin 2)).val = 1 := rfl
  rw [hv0, hv1]
  have ht := t.isLt
  match b with
  | ⟨0, _⟩ =>
    show _ = if 256 + (p (ix3 (0 : Fin 2) e c)).toNat = t.val then expertOut x p s wg wu wd 0 e c d else 0
    rw [if_neg (show ¬ 1 * 16640 + 256 + (p (ix3 1 e c)).toNat = (⟨0, by norm_num⟩ : Fin 2).val * 16640 + t.val by
      show ¬ _ = 0 * 16640 + t.val
      omega), add_zero]
    refine if_congr ?_ rfl rfl
    show _ = 0 * 16640 + t.val ↔ _
    omega
  | ⟨1, _⟩ =>
    show _ = if 256 + (p (ix3 (1 : Fin 2) e c)).toNat = t.val then expertOut x p s wg wu wd 1 e c d else 0
    rw [if_neg (show ¬ 0 * 16640 + 256 + (p (ix3 0 e c)).toNat = (⟨1, by norm_num⟩ : Fin 2).val * 16640 + t.val by
      show ¬ _ = 1 * 16640 + t.val
      omega), zero_add]
    refine if_congr ?_ rfl rfl
    show _ = 1 * 16640 + t.val ↔ _
    omega

end Cert.KernelIdeal.Value

end
-- ==== Proof.ExpertsResult.lean ====
/- What the first kernel's program returns, as one term of its arguments. -/
module

public import proofs.«01_k».proof.Proof.ExpertsScatter
public import proofs.«01_k».proof.Proof.Gen.KernelIdeal.Frame
public import Idealize.ShloMosaic.Lib.Claim

@[expose] public section

set_option maxRecDepth 16384

noncomputable section

namespace Cert.KernelIdeal.Value

open Idealize.ShloMosaic Idealize.ShloMosaic.TcCoe Idealize.SL.Sem Cert.Layer
open Cert.KernelIdeal Cert.KernelIdeal.Gen

variable (m : (ℓ : Loc nD τ sig) → Buf (Elt Ideal) ℓ) (ρ : Dev nD → PrngReg)

/-- An argument's contents at launch. -/
abbrev arg (c : Dev nD) (b : Ref sig .tc) : Buf (Elt Ideal) ((c.tc : Thread nD τ).loc b) := m ((c.tc : Thread nD τ).loc b)

theorem entry_rows (c : Dev nD) : V m c main_v14 = rowTable (picks (arg m c main_arg1)) := by
  entry_read
  rfl

theorem entry_scores (c : Dev nD) : V m c main_v16
    = shapeCast S16x4096x1 (transpose S16x2x2048 [1, 0, 2] (scores (arg m c main_arg1)) transposes_S2x16x2048_S16x2x2048_1_0_2)
        shapeCasts_S16x2x2048_S16x4096x1 := by
  entry_read
  rfl

theorem entry_taken (c : Dev nD) : V m c main_v18
    = taken (shapeCast S33280x1024 (arg m c main_arg0) shapeCasts_S2x16640x1024_S33280x1024) (rowTable (picks (arg m c main_arg1))) := by
  simp only [V, V0, hostOps0, hostOps0_1, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

theorem entry_gate (c : Dev nD) : V m c main_v0 = arg m c main_arg2 := by
  entry_read
  rfl

theorem entry_up (c : Dev nD) : V m c main_v1 = arg m c main_arg3 := by
  entry_read
  rfl

theorem entry_down (c : Dev nD) : V m c main_v2 = arg m c main_arg4 := by
  entry_read
  rfl

/-- The array returned: the experts' rows added up at their tokens. -/
theorem tail_sum (c : Dev nD) : Pipeline.afterTail₀ cfgs (dats m) 0 (V0 m) [hostOps1] c main_v30
    = landed (V m c main_v14) ((dats m 0 c).arrAt 5 (cfgs 0).N) := by
  unfold Pipeline.afterTail₀
  simp only [hostOps1, List.flatten_cons, List.flatten_nil, List.append_nil, List.cons_append]
  have h14 : Pipeline.withArrays (cfgs 0).spec c (V0 m c) (fun w => (dats m 0 c).arrAt w (cfgs 0).N) (Proc.tc.devRef main_v14)
      = V m c main_v14 :=
    Pipeline.withArrays_of_ne _ c (V0 m c) _ main_v14 (by exact (by decide : ∀ w, Pipeline.arrRef spec0 w ≠ main_v14))
  have h19 : Pipeline.withArrays (cfgs 0).spec c (V0 m c) (fun w => (dats m 0 c).arrAt w (cfgs 0).N) (Proc.tc.devRef main_v19)
      = (dats m 0 c).arrAt 5 (cfgs 0).N :=
    Pipeline.withArrays_arr (cfgs 0).spec (by exact (by decide : Function.Injective (Pipeline.arrRef spec0))) c (V0 m c) (fun w => (dats m 0 c).arrAt w (cfgs 0).N) 5
  after_results
  rw [h14, h19]
  rfl

theorem run : θ_run defs (onTc (τ := τ) (main (F := Ideal))) ⟨m, fun _ => 0, ρ⟩ (fun r => ∀ c : Dev nD,
    r.2.mem ((c.tc : Thread nD τ).loc main_v30) = landed (V m c main_v14) ((dats m 0 c).arrAt 5 (cfgs 0).N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (θ_run_and (run_main m ρ) (unchanged m ρ))
  refine ⟨?_, h.2 c⟩
  refine ((h.1 c).2 main_v30 (Pipeline.mem_restRefs_of main_v30 (by decide) (by decide))).trans ?_
  exact tail_sum m c

end Cert.KernelIdeal.Value

end
-- ==== Proof.ReferenceExperts.lean ====
/- The first reference program: the routed experts, read at an index. -/
module

public import proofs.«01_k».proof.Proof.Mixture
public import proofs.«01_k».proof.Proof.Gen.ReferenceIdeal.Read
public import Idealize.ShloMosaic.Lib.Routing.OpsPair
public import Idealize.ShloMosaic.Lib.Pointwise
public import Idealize.ShloMosaic.Lib.KernelVsHost

@[expose] public section

set_option maxRecDepth 16384

noncomputable section

namespace Cert.ReferenceIdeal.Read

open Idealize.ShloMosaic Idealize.ShloMosaic.TcCoe Idealize.SL.Sem Cert.Layer
open Cert.ReferenceIdeal

variable (x0 : FVec Ideal S2x16640x1024 .bf16) (x1 : FVec Ideal S2x16640x128 .f32) (x2 x3 : FVec Ideal S16x1024x2048 .f32)
  (x4 : FVec Ideal S16x2048x1024 .f32)

/-- A pick below the tokens' number is not wrapped. -/
theorem pick_at (hp : ∀ j, (val_main_indices (F := Ideal) x1 j).toNat < 16384) (b : Fin 2) (e : Fin 16) (c : Fin 2048) :
    val_main_v9 (F := Ideal) x1 (ix4 b e c (0 : Fin 1)) = val_main_indices (F := Ideal) x1 (ix3 b e c) := by
  have hi : idx_main_v9 (ix4 b e c (0 : Fin 1)) = ix3 b e c := by
    funext a
    match a with
    | ⟨0, _⟩ => rfl
    | ⟨1, _⟩ => rfl
    | ⟨2, _⟩ => rfl
  rw [val_main_v9_apply, hi, val_main_v8_apply, val_main_v5_apply, val_main_v4_apply, val_main_c_apply]
  exact wrap_eq _ _ (lt_trans (hp _) (by norm_num))

/-- The gather, at an index in range. -/
theorem gather_at (y : FVec Ideal S2x16384x1024 .f32) (v : IVec S2x16x2048x1 32) (b : Fin 2) (e : Fin 16) (c : Fin 2048) (k : Fin 1024)
    (n : ℕ) (hn : (v (ix4 b e c (0 : Fin 1))).toNat = n) (h : n < 16384) :
    Host.gather gather_S2x16384x1024_S2x16x2048x1_S2x16x2048x1024_3_1_0_0_1_3_111024 y v (ix4 b e c k)
      = y (ix3 b (⟨n, h⟩ : Fin 16384) k) := by
  have i0 := toInt_toNat _ (lt_trans (hn ▸ h) (by norm_num))
  unfold Host.gather
  refine congrArg y (funext fun a => Fin.ext ?_)
  have hs : ∀ q, gather_S2x16384x1024_S2x16x2048x1_S2x16x2048x1024_3_1_0_0_1_3_111024.siIdx (ix4 b e c k) q = ix4 b e c (0 : Fin 1) := by
    intro q
    funext b
    match b with
    | ⟨0, _⟩ => rfl
    | ⟨1, _⟩ => rfl
    | ⟨2, _⟩ => rfl
    | ⟨3, _⟩ => exact Subsingleton.elim (α := Fin 1) _ _
  match a with
  | ⟨0, _⟩ =>
    show gather_S2x16384x1024_S2x16x2048x1_S2x16x2048x1024_3_1_0_0_1_3_111024.start (ix4 b e c k) v 0 + b.val + 0 = b.val
    unfold GatherDims.start
    rw [dif_neg (by decide)]
    omega
  | ⟨1, _⟩ =>
    show gather_S2x16384x1024_S2x16x2048x1_S2x16x2048x1024_3_1_0_0_1_3_111024.start (ix4 b e c k) v 1 + 0 + 0 = n
    unfold GatherDims.start
    rw [dif_pos (by decide), hs, i0, hn]
    show min n (16384 - 1) + 0 + 0 = n
    omega
  | ⟨2, _⟩ =>
    show gather_S2x16384x1024_S2x16x2048x1_S2x16x2048x1024_3_1_0_0_1_3_111024.start (ix4 b e c k) v 2 + 0 + k.val = k.val
    unfold GatherDims.start
    rw [dif_neg (by decide)]
    omega

/-- A latent token's place after the context. -/
theorem idx_after (b : Fin 2) (n : Fin 16384) (k : Fin 1024) (N : ℕ) (hN : N < 16640) (h : 256 + n.val = N) :
    idx_main_v0 (ix3 b n k) = ix3 b (⟨N, hN⟩ : Fin 16640) k := by
  subst h
  funext a
  match a with
  | ⟨0, _⟩ => rfl
  | ⟨1, _⟩ => rfl
  | ⟨2, _⟩ => rfl

/-- The token gathered for a pick. -/
theorem token_at (hp : ∀ j, (val_main_indices (F := Ideal) x1 j).toNat < 16384) (b : Fin 2) (e : Fin 16) (c : Fin 2048) (k : Fin 1024) :
    val_main_v10 (F := Ideal) x0 x1 (ix4 b e c k)
      = x0 (ix3 b (⟨(256 + (val_main_indices (F := Ideal) x1 (ix3 b e c)).toNat) % 16640, Nat.mod_lt _ (by norm_num)⟩ : Fin 16640) k) := by
  have key : ∀ n : ℕ, (val_main_indices (F := Ideal) x1 (ix3 b e c)).toNat = n → n < 16384 → val_main_v10 (F := Ideal) x0 x1 (ix4 b e c k)
      = x0 (ix3 b (⟨(256 + n) % 16640, Nat.mod_lt _ (by norm_num)⟩ : Fin 16640) k) := by
    intro n hn h
    have h9 : (val_main_v9 (F := Ideal) x1 (ix4 b e c (0 : Fin 1))).toNat = n := by rw [pick_at x1 hp]; exact hn
    have hf : val_main_v10 (F := Ideal) x0 x1 (ix4 b e c k) = _ :=
      gather_at (val_main_v1 (F := Ideal) x0) (val_main_v9 (F := Ideal) x1) b e c k n h9 h
    rw [hf, val_main_v1_apply, val_main_v0_apply]
    exact congrArg x0 (idx_after b _ k _ _ (Nat.mod_eq_of_lt (by omega)).symm)
  exact key _ rfl (hp (ix3 b e c))

/-- The gated hidden features of a pick. -/
theorem hidden_at (b : Fin 2) (e : Fin 16) (c : Fin 2048) (f : Fin 2048) :
    val_main_v16 (F := Ideal) x0 x1 x2 x3 (ix4 b e c f)
      = silu (∑ k : Fin 1024, val_main_v10 (F := Ideal) x0 x1 (ix4 b e c k) * x2 (ix3 e k f))
        * (∑ k : Fin 1024, val_main_v10 (F := Ideal) x0 x1 (ix4 b e c k) * x3 (ix3 e k f)) := by
  pointwise [val_main_v16, val_main_v15, val_main_v14, val_main_v13, val_main_call0_v5, val_main_call0_v4, val_main_call0_cst_0, val_main_call0_v3, val_main_call0_v2, val_main_call0_cst, val_main_call0_v1, val_main_call0_v0, val_main_v12, val_main_v11]
  have hc : ∀ w : FVec Ideal S16x1024x2048 .f32, (∑ k : Fin 1024, w (ix3 e k f) * val_main_v10 (F := Ideal) x0 x1 (ix4 b e c k))
      = ∑ k : Fin 1024, val_main_v10 (F := Ideal) x0 x1 (ix4 b e c k) * w (ix3 e k f) :=
    fun w => Finset.sum_congr rfl fun k _ => mul_comm _ _
  rw [hc, hc]
  rfl

/-- A pick's row, with its score. -/
theorem row_at (hp : ∀ j, (val_main_indices (F := Ideal) x1 j).toNat < 16384) (b : Fin 2) (e : Fin 16) (c : Fin 2048) (d : Fin 1024) :
    val_main_v21 (F := Ideal) x0 x1 x2 x3 x4 (ix4 b e c d)
      = expertOut x0 (val_main_indices (F := Ideal) x1) (val_main_values (F := Ideal) x1) x2 x3 x4 b e c d := by
  have h1 : val_main_v21 (F := Ideal) x0 x1 x2 x3 x4 (ix4 b e c d)
      = (∑ f : Fin 2048, x4 (ix3 e f d) * val_main_v16 (F := Ideal) x0 x1 x2 x3 (ix4 b e c f)) * val_main_values (F := Ideal) x1 (ix3 b e c) := by
    pointwise [val_main_v21, val_main_v20, val_main_v19, val_main_v18, val_main_v17]
  rw [h1]
  unfold expertOut swiglu
  refine congrArg (· * _) (Finset.sum_congr rfl fun f _ => ?_)
  rw [hidden_at, mul_comm]
  simp only [token_at x0 x1 hp]

/-- The index pair a pick's row lands at. -/
theorem land_sample (b : Fin 2) (u : Fin 32768) (x : FVec Ideal S2x16640x128 .f32) :
    val_main_v40 (F := Ideal) x (ix3 b u (0 : Fin 2)) = BitVec.ofNat 32 b.val := by
  pointwise [val_main_v40, val_main_v38, val_main_v37, val_main_v31, val_main_v30, val_main_v29, val_main_v28, val_main_v27, val_main_v24, val_main_v23, val_main_c_1, val_main_c_2]
  exact wrap_eq _ _ (by rw [BitVec.toNat_ofNat]; omega)

theorem land_token (hp : ∀ j, (val_main_indices (F := Ideal) x1 j).toNat < 16384) (b : Fin 2) (u : Fin 32768) :
    val_main_v40 (F := Ideal) x1 (ix3 b u (1 : Fin 2))
      = val_main_indices (F := Ideal) x1 (ix3 b (⟨u.val / 2048, by omega⟩ : Fin 16) (⟨u.val % 2048, by omega⟩ : Fin 2048)) := by
  pointwise [val_main_v40, val_main_v39, val_main_v36, val_main_v35, val_main_v34, val_main_v33, val_main_v32, val_main_v25, val_main_c_3, val_main_c_4]
  exact wrap_eq _ _ (lt_trans (hp _) (by norm_num))

/-- A pick's row lands at its sample's token. -/
theorem lands_iff (v : IVec S2x32768x2 32) (i : Fin 2) (u : Fin 32768) (k : Fin 1024) (h0 : v (ix3 i u (0 : Fin 2)) = BitVec.ofNat 32 i.val)
    (h1 : (v (ix3 i u (1 : Fin 2))).toNat < 16384) (b : Fin 2) (n : Fin 16384) (d : Fin 1024) :
    scatter_S2x16384x1024_S2x32768x2_S2x32768x1024_2_01_01_2.resultIdx? (ix3 i u k) v = some (ix3 b n d)
      ↔ (i = b ∧ (v (ix3 i u (1 : Fin 2))).toNat = n.val) ∧ k = d := by
  have e0 : scatter_S2x16384x1024_S2x32768x2_S2x32768x1024_2_01_01_2.start (ix3 i u k) v 0 = (i.val : Int) := by
    unfold ScatterDims.start
    rw [dif_pos (by decide)]
    have hs : scatter_S2x16384x1024_S2x32768x2_S2x32768x1024_2_01_01_2.siIdx (ix3 i u k) ⟨0, by decide⟩ = ix3 i u (0 : Fin 2) := by
      funext b
      match b with
      | ⟨0, _⟩ => rfl
      | ⟨1, _⟩ => rfl
      | ⟨2, _⟩ => rfl
    refine (congrArg (fun j => (v j).toInt) hs).trans ?_
    rw [h0, BitVec.toInt_eq_toNat_cond, BitVec.toNat_ofNat, if_pos (by omega)]
    omega
  have e1 : scatter_S2x16384x1024_S2x32768x2_S2x32768x1024_2_01_01_2.start (ix3 i u k) v 1 = ((v (ix3 i u (1 : Fin 2))).toNat : Int) := by
    unfold ScatterDims.start
    rw [dif_pos (by decide)]
    have hs : scatter_S2x16384x1024_S2x32768x2_S2x32768x1024_2_01_01_2.siIdx (ix3 i u k) ⟨1, by decide⟩ = ix3 i u (1 : Fin 2) := by
      funext b
      match b with
      | ⟨0, _⟩ => rfl
      | ⟨1, _⟩ => rfl
      | ⟨2, _⟩ => rfl
    refine (congrArg (fun j => (v j).toInt) hs).trans ?_
    rw [BitVec.toInt_eq_toNat_cond, if_pos (by omega)]
  have e2 : scatter_S2x16384x1024_S2x32768x2_S2x32768x1024_2_01_01_2.start (ix3 i u k) v 2 = 0 := by
    unfold ScatterDims.start
    rw [dif_neg (by decide)]
  have w0 : scatter_S2x16384x1024_S2x32768x2_S2x32768x1024_2_01_01_2.window (ix3 i u k) 0 = 0 := rfl
  have w1 : scatter_S2x16384x1024_S2x32768x2_S2x32768x1024_2_01_01_2.window (ix3 i u k) 1 = 0 := rfl
  have w2 : scatter_S2x16384x1024_S2x32768x2_S2x32768x1024_2_01_01_2.window (ix3 i u k) 2 = k.val := rfl
  generalize (v (ix3 i u (1 : Fin 2))).toNat = p at e1 ⊢
  rw [Routing.resultIdx?_eq_some]
  have key : (∀ a, scatter_S2x16384x1024_S2x32768x2_S2x32768x1024_2_01_01_2.start (ix3 i u k) v a
        + (scatter_S2x16384x1024_S2x32768x2_S2x32768x1024_2_01_01_2.window (ix3 i u k) a : Int) = (((ix3 b n d : S2x16384x1024.Idx) a).val : Int))
      ↔ ((i.val : Int) + (0 : ℕ) = b.val ∧ (p : Int) + (0 : ℕ) = n.val ∧ (0 : Int) + k.val = d.val) := by
    constructor
    · intro q
      have q0 := q 0
      have q1 := q 1
      have q2 := q 2
      rw [e0, w0] at q0
      rw [e1, w1] at q1
      rw [e2, w2] at q2
      exact ⟨q0, q1, q2⟩
    · rintro ⟨q0, q1, q2⟩ a
      match a with
      | ⟨0, _⟩ => exact (by rw [e0, w0]; exact q0 : scatter_S2x16384x1024_S2x32768x2_S2x32768x1024_2_01_01_2.start (ix3 i u k) v 0
          + (scatter_S2x16384x1024_S2x32768x2_S2x32768x1024_2_01_01_2.window (ix3 i u k) 0 : Int) = (b.val : Int))
      | ⟨1, _⟩ => exact (by rw [e1, w1]; exact q1 : scatter_S2x16384x1024_S2x32768x2_S2x32768x1024_2_01_01_2.start (ix3 i u k) v 1
          + (scatter_S2x16384x1024_S2x32768x2_S2x32768x1024_2_01_01_2.window (ix3 i u k) 1 : Int) = (n.val : Int))
      | ⟨2, _⟩ => exact (by rw [e2, w2]; exact q2 : scatter_S2x16384x1024_S2x32768x2_S2x32768x1024_2_01_01_2.start (ix3 i u k) v 2
          + (scatter_S2x16384x1024_S2x32768x2_S2x32768x1024_2_01_01_2.window (ix3 i u k) 2 : Int) = (d.val : Int))
  rw [key]
  constructor
  · rintro ⟨q0, q1, q2⟩
    exact ⟨⟨Fin.ext (by omega), by omega⟩, Fin.ext (by omega)⟩
  · rintro ⟨⟨rfl, q1⟩, rfl⟩
    exact ⟨by omega, by omega, by omega⟩

/-- The scatter's sum at a token: the rows of the picks of that token. -/
theorem scattered_at (hp : ∀ j, (val_main_indices (F := Ideal) x1 j).toNat < 16384) (b : Fin 2) (n : Fin 16384) (d : Fin 1024) :
    val_main_v41 (F := Ideal) x0 x1 x2 x3 x4 (ix3 b n d)
      = ∑ e : Fin 16, ∑ c : Fin 2048, if (val_main_indices (F := Ideal) x1 (ix3 b e c)).toNat = n.val then
          expertOut x0 (val_main_indices (F := Ideal) x1) (val_main_values (F := Ideal) x1) x2 x3 x4 b e c d else 0 := by
  have hz : val_main_v22 (F := Ideal) (ix3 b n d) = (0 : EReal) := by
    pointwise [val_main_v22, val_main_cst]
  unfold val_main_v41 Host.scatterAdd
  rw [Ideal.hostScatterAdd_def]
  unfold Ideal.hostScatterAdd
  rw [hz, zero_add, Finset.sum_filter, sum_idx3]
  have hu : ∀ (i : Fin 2) (u : Fin 32768) (k : Fin 1024), val_main_v26 (F := Ideal) x0 x1 x2 x3 x4 (ix3 i u k)
      = expertOut x0 (val_main_indices (F := Ideal) x1) (val_main_values (F := Ideal) x1) x2 x3 x4 i
          (⟨u.val / 2048, by omega⟩ : Fin 16) (⟨u.val % 2048, by omega⟩ : Fin 2048) k := by
    intro i u k
    rw [← row_at x0 x1 x2 x3 x4 hp]
    pointwise [val_main_v26]
  have h1 : ∀ (i : Fin 2) (u : Fin 32768), (val_main_v40 (F := Ideal) x1 (ix3 i u (1 : Fin 2))).toNat < 16384 := by
    intro i u
    rw [land_token x1 hp]
    exact hp _
  simp only [lands_iff _ _ _ _ (land_sample _ _ _) (h1 _ _), hu, land_token x1 hp]
  rw [Finset.sum_eq_single b]
  · rw [Fin.sum_univ_tiles 16 2048 (by norm_num)]
    refine Finset.sum_congr rfl fun e _ => Finset.sum_congr rfl fun c _ => ?_
    have he : (e.val * 2048 + c.val) / 2048 = e.val := by omega
    have hc : (e.val * 2048 + c.val) % 2048 = c.val := by omega
    simp only [he, hc]
    by_cases q : (val_main_indices (F := Ideal) x1 (ix3 b e c)).toNat = n.val
    · simp [q]
    · simp [q]
  · intro i _ hi
    refine Finset.sum_eq_zero fun u _ => Finset.sum_eq_zero fun k _ => if_neg ?_
    exact fun q => hi q.1.1
  · intro q
    exact absurd (Finset.mem_univ b) q

/-- The reference's result: the layer's mixture; the context tokens, which no expert takes, get nothing. -/
theorem result_at (hp : ∀ j, (val_main_indices (F := Ideal) x1 j).toNat < 16384) (b : Fin 2) (t : Fin 16640) (d : Fin 1024) :
    val_main_v42 (F := Ideal) x0 x1 x2 x3 x4 (ix3 b t d)
      = mixture x0 (val_main_indices (F := Ideal) x1) (val_main_values (F := Ideal) x1) x2 x3 x4 b t d := by
  unfold val_main_v42 mixture
  by_cases ht : 256 ≤ t.val
  · have hin : pad S2x16640x1024 ![0, 256, 0] ![0, 0, 0] ![0, 0, 0] (val_main_v41 (F := Ideal) x0 x1 x2 x3 x4) (val_main_call1_v0 (F := Ideal))
        Gen.pads_S2x16384x1024_S2x16640x1024_000_25600_000 Gen.h_S_ (ix3 b t d)
          = val_main_v41 (F := Ideal) x0 x1 x2 x3 x4 (ix3 b (⟨t.val - 256, by omega⟩ : Fin 16384) d) :=
      pad_apply_of_inside _ _ _ _ _ _ _ _ _ (fun a => match a with
        | ⟨0, _⟩ => by show b.val = 0 + b.val * 1; omega
        | ⟨1, _⟩ => by show t.val = 256 + (t.val - 256) * 1; omega
        | ⟨2, _⟩ => by show d.val = 0 + d.val * 1; omega)
    rw [hin, scattered_at x0 x1 x2 x3 x4 hp]
    refine Finset.sum_congr rfl fun e _ => Finset.sum_congr rfl fun c _ => ?_
    refine if_congr ?_ rfl rfl
    show _ = t.val - 256 ↔ _
    omega
  · have hout : pad S2x16640x1024 ![0, 256, 0] ![0, 0, 0] ![0, 0, 0] (val_main_v41 (F := Ideal) x0 x1 x2 x3 x4) (val_main_call1_v0 (F := Ideal))
        Gen.pads_S2x16384x1024_S2x16640x1024_000_25600_000 Gen.h_S_ (ix3 b t d)
          = val_main_call1_v0 (F := Ideal) (Shape.Idx.first Gen.h_S_) :=
      pad_apply_of_not_inside _ _ _ _ _ _ _ _ (1 : Fin 3) (fun q => ht q.1)
    have hz : val_main_call1_v0 (F := Ideal) (Shape.Idx.first Gen.h_S_) = (0 : EReal) := by
      rw [val_main_call1_v0_apply]
      show (((0#32 : BitVec 32).toInt : ℝ) : EReal) = 0
      simp
    rw [hout, hz]
    refine (Finset.sum_eq_zero fun e _ => Finset.sum_eq_zero fun c _ => if_neg ?_).symm
    omega

end Cert.ReferenceIdeal.Read

end
-- ==== Proof.ExpertsEquation.lean ====
/- The first kernel's program and the first reference program return the same array: the layer's mixture. -/
module

public import proofs.«01_k».proof.Proof.ExpertsResult
public import proofs.«01_k».proof.Proof.ReferenceExperts
public import proofs.«01_k».proof.Proof.Gen.ReferenceIdeal.Run

@[expose] public section

set_option maxRecDepth 16384

noncomputable section

namespace Cert.Layer

open Idealize.ShloMosaic Idealize.ShloMosaic.TcCoe Idealize.SL.Sem

/-- What the kernel's program returns is the mixture. -/
theorem kernel_mixture (m : (ℓ : Loc KernelIdeal.nD KernelIdeal.τ KernelIdeal.sig) → Buf (Elt Ideal) ℓ) (c : Dev KernelIdeal.nD)
    (b : Fin 2) (t : Fin 16640) (d : Fin 1024) :
    KernelIdeal.Value.landed (KernelIdeal.Gen.V m c KernelIdeal.main_v14)
        ((KernelIdeal.Gen.dats m 0 c).arrAt 5 (KernelIdeal.cfgs 0).N) (ix3 b t d)
      = mixture (KernelIdeal.Value.arg m c KernelIdeal.main_arg0) (KernelIdeal.Value.picks (KernelIdeal.Value.arg m c KernelIdeal.main_arg1))
          (KernelIdeal.Value.scores (KernelIdeal.Value.arg m c KernelIdeal.main_arg1)) (KernelIdeal.Value.arg m c KernelIdeal.main_arg2)
          (KernelIdeal.Value.arg m c KernelIdeal.main_arg3) (KernelIdeal.Value.arg m c KernelIdeal.main_arg4) b t d := by
  rw [KernelIdeal.Value.final, KernelIdeal.Value.entry_rows, KernelIdeal.Value.entry_scores, KernelIdeal.Value.entry_taken,
    KernelIdeal.Value.entry_gate, KernelIdeal.Value.entry_up, KernelIdeal.Value.entry_down]
  exact KernelIdeal.Value.landed_mixture _ _ rfl _ (KernelIdeal.Value.picks_lt _) _ _ _ _ b t d

/-- The reference's result, from equal arguments, is the kernel's. -/
theorem experts_equal (m : (ℓ : Loc KernelIdeal.nD KernelIdeal.τ KernelIdeal.sig) → Buf (Elt Ideal) ℓ) (c : Dev KernelIdeal.nD)
    (x0 : FVec Ideal ReferenceIdeal.S2x16640x1024 .bf16) (x1 : FVec Ideal ReferenceIdeal.S2x16640x128 .f32)
    (x2 x3 : FVec Ideal ReferenceIdeal.S16x1024x2048 .f32) (x4 : FVec Ideal ReferenceIdeal.S16x2048x1024 .f32)
    (h0 : x0 = KernelIdeal.Value.arg m c KernelIdeal.main_arg0) (h1 : x1 = KernelIdeal.Value.arg m c KernelIdeal.main_arg1)
    (h2 : x2 = KernelIdeal.Value.arg m c KernelIdeal.main_arg2) (h3 : x3 = KernelIdeal.Value.arg m c KernelIdeal.main_arg3)
    (h4 : x4 = KernelIdeal.Value.arg m c KernelIdeal.main_arg4) :
    ReferenceIdeal.Read.val_main_v42 (F := Ideal) x0 x1 x2 x3 x4
      = KernelIdeal.Value.landed (KernelIdeal.Gen.V m c KernelIdeal.main_v14)
        ((KernelIdeal.Gen.dats m 0 c).arrAt 5 (KernelIdeal.cfgs 0).N) := by
  subst h0 h1 h2 h3 h4
  funext i
  have hi : i = ix3 (n0 := 2) (n1 := 16640) (n2 := 1024) (i 0) (i 1) (i 2) := (ix3_eta (n0 := 2) (n1 := 16640) (n2 := 1024) i).symm
  rw [hi]
  refine (ReferenceIdeal.Read.result_at _ _ _ _ _ (fun j => KernelIdeal.Value.picks_lt _ j) (i 0) (i 1) (i 2)).trans ?_
  exact (kernel_mixture m c (i 0) (i 1) (i 2)).symm

end Cert.Layer

end
-- ==== Proof.ExpertsClaims.lean ====
/- The claims about the experts' program. -/
module

public import proofs.«01_k».proof.Defs
public import proofs.«01_k».proof.Proof.ExpertsEquation
public import proofs.«01_k».proof.Proof.Gen.Kernel
public import proofs.«01_k».proof.Proof.Gen.KernelIdeal
public import proofs.«01_k».proof.Proof.Gen.ReferenceIdeal
public import proofs.«01_k».proof.Proof.Gen.Kernel.Frame
public import Idealize.ShloMosaic.Lib.Quiescent

@[expose] public section

noncomputable section

namespace Cert.Layer

open Idealize.ShloMosaic Idealize.ShloMosaic.TcCoe Idealize.SL.Sem

/-- The reference runs, leaves its arguments and ends with no counter raised: it has no semaphore. -/
theorem quiescent1 : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

/-- The routed experts equal the plain mathematics. -/
theorem algebraic1 : Cert.algebraic_KernelIdeal_ReferenceIdeal (hKernelIdeal := Cert.KernelIdeal.Gen.facts)
    (hReferenceIdeal := Cert.ReferenceIdeal.Gen.facts) := by
  intro m g m' g' _ hargs
  refine ⟨fun c => KernelIdeal.Value.landed (KernelIdeal.Gen.V m c KernelIdeal.main_v14)
    ((KernelIdeal.Gen.dats m 0 c).arrAt 5 (KernelIdeal.cfgs 0).N), KernelIdeal.Value.run m g, ?_⟩
  refine (θ_run _ _ _).mono (fun r h c => ?_) (Cert.ReferenceIdeal.Value.run m' g')
  obtain ⟨hv, hrest⟩ := h c
  obtain ⟨a0, a1, a2, a3, a4⟩ := hargs c
  refine ⟨hv.trans ?_, hrest⟩
  rw [ReferenceIdeal.Read.val_main_v42_eq]
  exact experts_equal m c _ _ _ _ _ a0 a1 a2 a3 a4

end Cert.Layer

end
-- ==== Proof.Modulation.lean ====
/- The layer's modulation: the six rows a condition vector gives, and the modulated norm of a token. -/
module

public import proofs.«01_k».proof.Proof.Scalars
public import proofs.«01_k».proof.Proof.Gen.Kernel2Ideal
public import Idealize.ShloMosaic.Lib.Pointwise

@[expose] public section

set_option maxRecDepth 16384

noncomputable section

namespace Cert.Layer

open Idealize.ShloMosaic

/-- One entry of the modulation of a condition vector: `silu(a) · W + b`. -/
def modEntry (a : Fin 1024 → EReal) (w : Fin 1024 → EReal) (b : EReal) : EReal := (∑ k : Fin 1024, silu (a k) * w k) + b

/-- One entry of a token's root-mean-square norm, before its gain. -/
def normed (x : Fin 1024 → EReal) (k : Fin 1024) : EReal :=
  x k * Ideal.rsqrt (Ideal.div (∑ j : Fin 1024, x j * x j) (Ideal.ofBits .f32 0x44800000#32) + Ideal.ofBits .f32 0x358637BD#32)

/-- Which of the two modulations a token takes: the context's, row 1, for the first 256 tokens. -/
def side (t : ℕ) : Fin 2 := ⟨1 - t / 256, by omega⟩

section Host

open Cert.Kernel2Ideal Cert.Kernel2Ideal.Gen

/-- The kernels' modulation table: per sample, the sample's own row and the context's. -/
def modTable (a : FVec Ideal S2x1024 .f32) (ac : FVec Ideal S1024 .f32) (w : FVec Ideal S1024x6144 .f32) (b : FVec Ideal S6144 .f32) :
    FVec Ideal S2x2x6x1x1024 .f32 :=
  shapeCast S2x2x6x1x1024 (concatenate S2x2x6144 1
    [⟨S2x1x6144, broadcastInDim S2x1x6144 ![0, 2] bcast_S2x6144_S2x1x6144_0_2
        (addf (Host.dotGeneral (F := Ideal) (φ₁ := .f32) (φ₂ := .f32) dot_S2x1024_S1024x6144_S2x6144_1_0_0_1_n_n none
          (mulf a (Host.divf (broadcastInDim S2x1024 ![] bcast_S_S2x1024 (constant (F := Ideal) S_ .f32 0x3F800000#32))
            (addf (broadcastInDim S2x1024 ![] bcast_S_S2x1024 (constant (F := Ideal) S_ .f32 0x3F800000#32)) (Host.exp (Host.negf a))))) w)
          (broadcastInDim S2x6144 ![0, 1] bcast_S1x6144_S2x6144_0_1 (broadcastInDim S1x6144 ![1] bcast_S6144_S1x6144_1 b)))⟩,
      ⟨S2x1x6144, broadcastInDim S2x1x6144 ![0, 2] bcast_S2x6144_S2x1x6144_0_2
        (broadcastInDim S2x6144 ![1] bcast_S6144_S2x6144_1
          (addf (Host.dotGeneral (F := Ideal) (φ₁ := .f32) (φ₂ := .f32) dot_S1024_S1024x6144_S6144_0_0_n_1_n_n none
            (mulf ac (Host.divf (broadcastInDim S1024 ![] bcast_S_S1024 (constant (F := Ideal) S_ .f32 0x3F800000#32))
              (addf (broadcastInDim S1024 ![] bcast_S_S1024 (constant (F := Ideal) S_ .f32 0x3F800000#32)) (Host.exp (Host.negf ac))))) w) b))⟩]
    concatenates_S2x1x6144_S2x1x6144_S2x2x6144_d1) shapeCasts_S2x2x6144_S2x2x6x1x1024

/-- Entry `d` of row `n`, for sample `b` (`s = 0`) or for the context (`s = 1`). -/
theorem modTable_at (a : FVec Ideal S2x1024 .f32) (ac : FVec Ideal S1024 .f32) (w : FVec Ideal S1024x6144 .f32) (v : FVec Ideal S6144 .f32)
    (b : Fin 2) (s : Fin 2) (n : Fin 6) (z : Fin 1) (d : Fin 1024) :
    modTable a ac w v (ix5 b s n z d)
      = modEntry (if s.val = 0 then fun k => a (ix2 b k) else fun k => ac (ix1 k))
          (fun k => w (ix2 k (⟨n.val * 1024 + d.val, by omega⟩ : Fin 6144))) (v (ix1 (⟨n.val * 1024 + d.val, by omega⟩ : Fin 6144))) := by
  obtain rfl : z = 0 := Subsingleton.elim _ _
  unfold modEntry
  match s with
  | ⟨0, _⟩ =>
    rw [if_pos rfl]
    pointwise [modTable]
    rfl
  | ⟨1, _⟩ =>
    rw [if_neg (show ¬ (1 : ℕ) = 0 by decide)]
    pointwise [modTable]
    rfl

/-- The final token: its second residual, gated by the modulation's last row, normed with the gain. -/
def finalToken (x moe : FVec Ideal S2x16640x1024 .f32) (a : FVec Ideal S2x1024 .f32) (w : FVec Ideal S1024x6144 .f32)
    (v : FVec Ideal S6144 .f32) (gain : FVec Ideal S1024 .f32) (b : Fin 2) (n : Fin 16384) (d : Fin 1024) : EReal :=
  normed (fun k => x (ix3 b (⟨256 + n.val, by omega⟩ : Fin 16640) k)
      + modEntry (fun k => a (ix2 b k)) (fun j => w (ix2 j (⟨5120 + k.val, by omega⟩ : Fin 6144))) (v (ix1 (⟨5120 + k.val, by omega⟩ : Fin 6144)))
        * moe (ix3 b (⟨256 + n.val, by omega⟩ : Fin 16640) k)) d
    * gain (ix1 d)

end Host

end Cert.Layer

end
-- ==== Proof.ResidualArray.lean ====
/- The array the final residual's call leaves: every token's second residual, normed. -/
module

public import proofs.«01_k».proof.Proof.Gen.Kernel2Ideal.Frame
public import proofs.«01_k».proof.Proof.Modulation
public import Idealize.ShloMosaic.Lib.Pipeline.ValueKit

@[expose] public section

set_option maxRecDepth 16384

noncomputable section

namespace Cert.Kernel2Ideal.Value

open Idealize.ShloMosaic Idealize.ShloMosaic.TcCoe Idealize.SL.Sem Cert.Layer
open Idealize.ShloMosaic.Pipeline (Dat)
open Cert.Kernel2Ideal Cert.Kernel2Ideal.Gen

variable (m : (ℓ : Loc nD τ sig) → Buf (Elt Ideal) ℓ)

/-- The stored block at row `r`, column `d`. -/
theorem block_at (x moe : FVec Ideal S1x256x1024 .f32) (g : FVec Ideal S1x1x1x1024 .f32) (gain : FVec Ideal S1x1024 .f32)
    (r : Fin 256) (d : Fin 1024) :
    k0_pay1 (F := Ideal) x g moe gain (ix3 (0 : Fin 1) r d)
      = normed (fun k => x (ix3 (0 : Fin 1) r k) + g (ix4 (0 : Fin 1) (0 : Fin 1) (0 : Fin 1) k) * moe (ix3 (0 : Fin 1) r k)) d
        * gain (ix2 (0 : Fin 1) d) := by
  pointwise [k0_pay1]
  rfl

/-- The normed second residual of token `i 1`, column `i 2`, times the gain. -/
def residualRows (x moe : FVec Ideal S2x16640x1024 .f32) (g : FVec Ideal S2x2x1x1024 .f32) (gain : FVec Ideal S1x1024 .f32) :
    FVec Ideal S2x16640x1024 .f32 := fun i =>
  normed (fun k => x (ix3 (i 0) (i 1) k) + g (ix4 (i 0) (side (i 1).val) (0 : Fin 1) k) * moe (ix3 (i 0) (i 1) k)) (i 2)
    * gain (ix2 (0 : Fin 1) (i 2))

/-- Where the windows sit at a grid point. -/
theorem idx : ∀ t : Fin cfg0.N, win0_0.index t = ![t.val / 65, t.val % 65, 0] ∧ win0_1.index t = ![t.val / 65, t.val % 65, 0]
    ∧ win0_2.index t = ![t.val / 65, 1 - t.val % 65, 0, 0] ∧ win0_3.index t = ![0, 0]
    ∧ win0_4.index t = ![t.val / 65, t.val % 65, 0] :=
  (by decide +kernel : ∀ t : Fin grid0.N, _)

set_option maxHeartbeats 1000000 in
/-- What the body stores at a point is the array's rows there, whatever the operands hold. -/
theorem point (x moe : FVec Ideal S2x16640x1024 .f32) (g : FVec Ideal S2x2x1x1024 .f32) (gain : FVec Ideal S1x1024 .f32)
    (t : Fin cfg0.N) (y : S1x256x1024.Idx) :
    k0_pay1 (F := Ideal) (((cfg0.win 0).blk t).view.read (Elt Ideal) x) (((cfg0.win 2).blk t).view.read (Elt Ideal) g)
        (((cfg0.win 1).blk t).view.read (Elt Ideal) moe) (((cfg0.win 3).blk t).view.read (Elt Ideal) gain) y
      = residualRows x moe g gain (((cfg0.win 4).blk t).view.emb y) := by
  obtain ⟨z, r, d, rfl⟩ : ∃ (z : Fin 1) (r : Fin 256) (d : Fin 1024), y = ix3 z r d := ⟨y 0, y 1, y 2, eq_ix3 y⟩
  obtain rfl : z = 0 := Subsingleton.elim _ _
  rw [block_at]
  unfold residualRows
  refine Ideal.mul_congr (congr (congrArg normed (funext fun k => congrArg₂ (· + ·) ?_ (Ideal.mul_congr ?_ ?_))) ?_) ?_
  · blk_ext [idx t]
  · blk_ext [idx t, side]
  · blk_ext [idx t]
  · exact Fin.ext (by blk_simp [idx t])
  · blk_ext [idx t]

/-- The whole array after the call. -/
theorem final (c : Dev nD) : (dats m 0 c).arrAt 4 (cfgs 0).N
    = residualRows (V m c main_arg0) (V m c main_arg1) (V m c main_v24) (V m c main_v25) := by
  refine (dats m 0 c).arrAt_eq_of_covers 4 _ (by decide +kernel) fun t _ y => ?_
  blk_simp
  rw [after0_4]; frame_out
  exact point (V m c main_arg0) (V m c main_arg1) (V m c main_v24) (V m c main_v25) t y

end Cert.Kernel2Ideal.Value

end
-- ==== Proof.ResidualResult.lean ====
/- What the final residual's program returns, as one term of its arguments. -/
module

public import proofs.«01_k».proof.Proof.ResidualArray
public import Idealize.ShloMosaic.Lib.Claim

@[expose] public section

set_option maxRecDepth 16384

noncomputable section

namespace Cert.Kernel2Ideal.Value

open Idealize.ShloMosaic Idealize.ShloMosaic.TcCoe Idealize.SL.Sem Cert.Layer
open Cert.Kernel2Ideal Cert.Kernel2Ideal.Gen

variable (m : (ℓ : Loc nD τ sig) → Buf (Elt Ideal) ℓ) (ρ : Dev nD → PrngReg)

/-- An argument's contents at launch. -/
abbrev arg (c : Dev nD) (b : Ref sig .tc) : Buf (Elt Ideal) ((c.tc : Thread nD τ).loc b) := m ((c.tc : Thread nD τ).loc b)

theorem entry_x (c : Dev nD) : V m c main_arg0 = arg m c main_arg0 := by
  entry_read
  rfl

theorem entry_moe (c : Dev nD) : V m c main_arg1 = arg m c main_arg1 := by
  entry_read
  rfl

theorem entry_gain (c : Dev nD) : V m c main_v25 = shapeCast S1x1024 (arg m c main_arg6) shapeCasts_S1024_S1x1024 := by
  entry_read
  rfl

/-- The gate's rows: the modulation's last. -/
theorem entry_gate (c : Dev nD) : V m c main_v24
    = shapeCast S2x2x1x1024 (extractStridedSlice S2x2x1x1x1024 ![0, 0, 5, 0, 0]
        (modTable (arg m c main_arg2) (arg m c main_arg3) (arg m c main_arg4) (arg m c main_arg5))
        slices_S2x2x6x1x1024_S2x2x1x1x1024_0_0_5_0_0) shapeCasts_S2x2x1x1x1024_S2x2x1x1024 := by
  simp only [V, V0, hostOps0, hostOps0_1, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The array returned: the latent tokens' rows. -/
theorem tail_rows (c : Dev nD) : Pipeline.afterTail₀ cfgs (dats m) 0 (V0 m) [hostOps1] c main_v27
    = extractStridedSlice S2x16384x1024 ![0, 256, 0] ((dats m 0 c).arrAt 4 (cfgs 0).N) slices_S2x16640x1024_S2x16384x1024_0_256_0 := by
  unfold Pipeline.afterTail₀
  simp only [hostOps1, List.flatten_cons, List.flatten_nil, List.append_nil, List.cons_append]
  have h26 : Pipeline.withArrays (cfgs 0).spec c (V0 m c) (fun w => (dats m 0 c).arrAt w (cfgs 0).N) (Proc.tc.devRef main_v26)
      = (dats m 0 c).arrAt 4 (cfgs 0).N :=
    Pipeline.withArrays_arr (cfgs 0).spec (by exact (by decide : Function.Injective (Pipeline.arrRef spec0))) c (V0 m c) (fun w => (dats m 0 c).arrAt w (cfgs 0).N) 4
  after_results
  rw [h26]

/-- The result, as a term of the launch memory. -/
def out (c : Dev nD) : FVec Ideal S2x16384x1024 .f32 :=
  extractStridedSlice S2x16384x1024 ![0, 256, 0] ((dats m 0 c).arrAt 4 (cfgs 0).N) slices_S2x16640x1024_S2x16384x1024_0_256_0

theorem run : θ_run defs (onTc (τ := τ) (main (F := Ideal))) ⟨m, fun _ => 0, ρ⟩ (fun r => ∀ c : Dev nD,
    r.2.mem ((c.tc : Thread nD τ).loc main_v27) = out m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  refine (θ_run defs _ _).mono (fun r h c => ?_) (θ_run_and (run_main m ρ) (unchanged m ρ))
  refine ⟨?_, h.2 c⟩
  refine ((h.1 c).2 main_v27 (Pipeline.mem_restRefs_of main_v27 (by decide) (by decide))).trans ?_
  exact tail_rows m c

/-- The result at sample `b`, latent token `n`, column `d`. -/
theorem out_at (c : Dev nD) (b : Fin 2) (n : Fin 16384) (d : Fin 1024) :
    out m c (ix3 b n d)
      = finalToken (arg m c main_arg0) (arg m c main_arg1) (arg m c main_arg2) (arg m c main_arg4) (arg m c main_arg5) (arg m c main_arg6) b n d := by
  unfold out
  rw [final, entry_x, entry_moe, entry_gain, entry_gate]
  have hn : side (256 + n.val) = 0 := Fin.ext (by show 1 - (256 + n.val) / 256 = 0; omega)
  generalize arg m c main_arg0 = x0
  generalize arg m c main_arg1 = x1
  generalize arg m c main_arg2 = x2
  generalize arg m c main_arg3 = x3
  generalize arg m c main_arg4 = x4
  generalize arg m c main_arg5 = x5
  generalize arg m c main_arg6 = x6
  pointwise
  unfold residualRows
  pointwise [modTable_at, hn]
  rfl

end Cert.Kernel2Ideal.Value

end
-- ==== Proof.ReferenceResidual.lean ====
/- The second reference program: the final residual and norm, read at an index. -/
module

public import proofs.«01_k».proof.Proof.Modulation
public import proofs.«01_k».proof.Proof.Gen.Reference2Ideal.Read
public import Idealize.ShloMosaic.Lib.Pointwise

@[expose] public section

set_option maxRecDepth 16384

noncomputable section

namespace Cert.Reference2Ideal.Read

open Idealize.ShloMosaic Idealize.ShloMosaic.TcCoe Idealize.SL.Sem Cert.Layer
open Cert.Reference2Ideal

variable (x0 x1 : FVec Ideal S2x16640x1024 .f32) (x2 : FVec Ideal S2x1024 .f32) (x4 : FVec Ideal S1024x6144 .f32)
  (x5 : FVec Ideal S6144 .f32) (x6 : FVec Ideal S1024 .f32)

/-- The gate's row: the last of the six the projection of the condition gives. -/
theorem gate_at (b : Fin 2) (n : Fin 16384) (k : Fin 1024) :
    val_main_v14 (F := Ideal) x2 x4 x5 (ix3 b n k)
      = modEntry (fun k => x2 (ix2 b k)) (fun j => x4 (ix2 j (⟨5120 + k.val, by omega⟩ : Fin 6144))) (x5 (ix1 (⟨5120 + k.val, by omega⟩ : Fin 6144))) := by
  pointwise [val_main_v14, val_main_v11, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  rfl

/-- The residual. -/
theorem residual_at (b : Fin 2) (n : Fin 16384) (k : Fin 1024) :
    val_main_v16 (F := Ideal) x0 x1 x2 x4 x5 (ix3 b n k)
      = x0 (ix3 b (⟨256 + n.val, by omega⟩ : Fin 16640) k)
        + modEntry (fun k => x2 (ix2 b k)) (fun j => x4 (ix2 j (⟨5120 + k.val, by omega⟩ : Fin 6144))) (x5 (ix1 (⟨5120 + k.val, by omega⟩ : Fin 6144)))
          * x1 (ix3 b (⟨256 + n.val, by omega⟩ : Fin 16640) k) := by
  rw [← gate_at x2 x4 x5 b n k]
  pointwise [val_main_v16, val_main_v15, val_main_v13, val_main_v12]

/-- The result: the final token. -/
theorem result_at (b : Fin 2) (n : Fin 16384) (d : Fin 1024) :
    val_main_v29 (F := Ideal) x0 x1 x2 x4 x5 x6 (ix3 b n d) = finalToken x0 x1 x2 x4 x5 x6 b n d := by
  unfold finalToken
  simp only [← residual_at x0 x1 x2 x4 x5]
  unfold normed
  pointwise [val_main_v29, val_main_v28, val_main_v27, val_main_v26, val_main_v25, val_main_v24, val_main_v23, val_main_v22, val_main_cst_1,
    val_main_v21, val_main_v20, val_main_cst_0, val_main_v19, val_main_v18, val_main_cst, val_main_v17]

end Cert.Reference2Ideal.Read

end
-- ==== Proof.ResidualClaims.lean ====
/- The claims about the final residual's program. -/
module

public import proofs.«01_k».proof.Defs
public import proofs.«01_k».proof.Proof.ResidualResult
public import proofs.«01_k».proof.Proof.ReferenceResidual
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import Idealize.ShloMosaic.Lib.Quiescent

@[expose] public section

noncomputable section

namespace Cert.Layer

open Idealize.ShloMosaic Idealize.ShloMosaic.TcCoe Idealize.SL.Sem

/-- The reference runs, leaves its arguments and ends with no counter raised: it has no semaphore. -/
theorem quiescent2 : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run m ρ)

/-- The reference's result, from equal arguments, is the kernel's. -/
theorem residual_equal (m : (ℓ : Loc Kernel2Ideal.nD Kernel2Ideal.τ Kernel2Ideal.sig) → Buf (Elt Ideal) ℓ) (c : Dev Kernel2Ideal.nD)
    (x0 x1 : FVec Ideal Reference2Ideal.S2x16640x1024 .f32) (x2 : FVec Ideal Reference2Ideal.S2x1024 .f32)
    (x4 : FVec Ideal Reference2Ideal.S1024x6144 .f32) (x5 : FVec Ideal Reference2Ideal.S6144 .f32) (x6 : FVec Ideal Reference2Ideal.S1024 .f32)
    (h0 : x0 = Kernel2Ideal.Value.arg m c Kernel2Ideal.main_arg0) (h1 : x1 = Kernel2Ideal.Value.arg m c Kernel2Ideal.main_arg1)
    (h2 : x2 = Kernel2Ideal.Value.arg m c Kernel2Ideal.main_arg2) (h4 : x4 = Kernel2Ideal.Value.arg m c Kernel2Ideal.main_arg4)
    (h5 : x5 = Kernel2Ideal.Value.arg m c Kernel2Ideal.main_arg5) (h6 : x6 = Kernel2Ideal.Value.arg m c Kernel2Ideal.main_arg6) :
    Reference2Ideal.Read.val_main_v29 (F := Ideal) x0 x1 x2 x4 x5 x6 = Kernel2Ideal.Value.out m c := by
  subst h0 h1 h2 h4 h5 h6
  funext i
  have hi : i = ix3 (n0 := 2) (n1 := 16384) (n2 := 1024) (i 0) (i 1) (i 2) := (ix3_eta (n0 := 2) (n1 := 16384) (n2 := 1024) i).symm
  rw [hi]
  exact (Reference2Ideal.Read.result_at _ _ _ _ _ _ (i 0) (i 1) (i 2)).trans (Kernel2Ideal.Value.out_at m c (i 0) (i 1) (i 2)).symm

/-- The final residual and norm equal the plain mathematics. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Kernel2Ideal.Value.out m c, Kernel2Ideal.Value.run m g, ?_⟩
  refine (θ_run _ _ _).mono (fun r h c => ?_) (Cert.Reference2Ideal.Value.run m' g')
  obtain ⟨hv, hrest⟩ := h c
  obtain ⟨a0, a1, a2, a3, a4, a5, a6⟩ := hargs c
  refine ⟨hv.trans ?_, hrest⟩
  rw [Reference2Ideal.Read.val_main_v29_eq]
  exact residual_equal m c _ _ _ _ _ _ a0 a1 a2 a4 a5 a6

end Cert.Layer

end
-- ==== Proof.Projection.lean ====
/- The layer's input projection: a token's norm, modulated, times the input matrix. -/
module

public import proofs.«01_k».proof.Proof.Modulation
public import proofs.«01_k».proof.Proof.Gen.Kernel3Ideal
public import Idealize.ShloMosaic.Lib.Pipeline.Value
public import Idealize.ShloMosaic.Lib.Pointwise

@[expose] public section

set_option maxRecDepth 16384

noncomputable section

namespace Cert.Layer

open Idealize.ShloMosaic

/-- One entry of a token's modulated norm. -/
def moddedRow (x g sh sc : Fin 1024 → EReal) (k : Fin 1024) : EReal := normed x k * g k * (1 + sc k) + sh k

section Shapes

open Cert.Kernel3Ideal Cert.Kernel3Ideal.Gen

variable (x : FVec Ideal S2x16384x1024 .f32) (ctx : FVec Ideal S2x256x1024 .f32) (a : FVec Ideal S2x1024 .f32) (ac : FVec Ideal S1024 .f32)
  (w : FVec Ideal S1024x6144 .f32) (v : FVec Ideal S6144 .f32) (g : FVec Ideal S1024 .f32) (win : FVec Ideal S1024x11552 .f32)

/-- A token: a context token for the first 256 places, a latent one after. -/
def token (b : Fin 2) (t : Fin 16640) (k : Fin 1024) : EReal :=
  if h : t.val < 256 then ctx (ix3 b (⟨t.val, h⟩ : Fin 256) k) else x (ix3 b (⟨t.val - 256, by omega⟩ : Fin 16384) k)

/-- The condition vector a token's modulation comes from. -/
def condition (b : Fin 2) (t : Fin 16640) : Fin 1024 → EReal := if (side t.val).val = 0 then fun k => a (ix2 b k) else fun k => ac (ix1 k)

/-- A context token is the context's, under the context's condition. -/
theorem token_context (b : Fin 2) (t : Fin 16640) (ht : t.val < 256) : token x ctx b t = fun k => ctx (ix3 b (⟨t.val, ht⟩ : Fin 256) k) :=
  funext fun _ => dif_pos ht

theorem condition_context (b : Fin 2) (t : Fin 16640) (ht : t.val < 256) : condition a ac b t = fun k => ac (ix1 k) :=
  if_neg (by show ¬ 1 - t.val / 256 = 0; omega)

/-- A latent token is the latents', under its sample's condition. -/
theorem token_latent (b : Fin 2) (t : Fin 16640) (ht : ¬ t.val < 256) :
    token x ctx b t = fun k => x (ix3 b (⟨t.val - 256, by omega⟩ : Fin 16384) k) :=
  funext fun _ => dif_neg ht

theorem condition_latent (b : Fin 2) (t : Fin 16640) (ht : ¬ t.val < 256) : condition a ac b t = fun k => a (ix2 b k) :=
  if_pos (by show 1 - t.val / 256 = 0; omega)

/-- Entry `k` of row `n` of the modulation a condition vector `cond` gives. -/
def modRow (cond : Fin 1024 → EReal) (n : Fin 6) (k : Fin 1024) : EReal :=
  modEntry cond (fun j => w (ix2 j (⟨n.val * 1024 + k.val, by omega⟩ : Fin 6144))) (v (ix1 (⟨n.val * 1024 + k.val, by omega⟩ : Fin 6144)))

/-- Column `col` of the projection of the token `row` under the condition `cond`. -/
def projected (row cond : Fin 1024 → EReal) (col : Fin 11552) : EReal :=
  ∑ k : Fin 1024, moddedRow row (fun k => g (ix1 k)) (modRow w v cond 0) (modRow w v cond 1) k * win (ix2 k col)

/-- Column `col` of the projection of the layer's token `t` of sample `b`. -/
def layerColumn (b : Fin 2) (t : Fin 16640) (col : Fin 11552) : EReal := projected w v g win (token x ctx b t) (condition a ac b t) col

/-- What the projection's call leaves, from the tokens `xc`, the shift's and scale's tables, the gain and a weight. -/
def projRows {n : ℕ} (xc : FVec Ideal S2x16640x1024 .f32) (sh sc : FVec Ideal S2x2x1x1024 .f32) (gain : FVec Ideal S1x1024 .f32)
    (wt : Fin 1024 → Fin n → EReal) (b : Fin 2) (t : Fin 16640) (d : Fin n) : EReal :=
  ∑ k : Fin 1024, moddedRow (fun k => xc (ix3 b t k)) (fun k => gain (ix2 (0 : Fin 1) k)) (fun k => sh (ix4 b (side t.val) (0 : Fin 1) k))
    (fun k => sc (ix4 b (side t.val) (0 : Fin 1) k)) k * wt k d

/-- The kernels' token array: the context's tokens, then the latent ones. -/
def tokens : FVec Ideal S2x16640x1024 .f32 :=
  concatenate S2x16640x1024 1 [⟨S2x256x1024, ctx⟩, ⟨S2x16384x1024, x⟩] concatenates_S2x256x1024_S2x16384x1024_S2x16640x1024_d1

/-- Reading two arrays set one after the other along the tokens. -/
theorem after_context {n : ℕ} (q : FVec Ideal ⟨3, ![2, 256, n]⟩ .f32) (p : FVec Ideal ⟨3, ![2, 16384, n]⟩ .f32)
    (h : Shape.Concatenates [⟨3, ![2, 256, n]⟩, ⟨3, ![2, 16384, n]⟩] ⟨3, ![2, 16640, n]⟩ 1) (b : Fin 2) (t : Fin 16640) (k : Fin n) :
    concatenate ⟨3, ![2, 16640, n]⟩ 1 [⟨⟨3, ![2, 256, n]⟩, q⟩, ⟨⟨3, ![2, 16384, n]⟩, p⟩] h (ix3 b t k)
      = if ht : t.val < 256 then q (ix3 b (⟨t.val, ht⟩ : Fin 256) k) else p (ix3 b (⟨t.val - 256, by omega⟩ : Fin 16384) k) := by
  by_cases ht : t.val < 256
  · rw [dif_pos ht]
    refine concatenate_pair_apply_left 1 q p h (ix3 b t k) rfl (ix3 b (⟨t.val, ht⟩ : Fin 256) k) fun a => ?_
    match a with
    | ⟨0, _⟩ => rfl
    | ⟨1, _⟩ => rfl
    | ⟨2, _⟩ => rfl
  · rw [dif_neg ht]
    refine concatenate_pair_apply_right 1 q p h (ix3 b t k) rfl rfl (ix3 b (⟨t.val - 256, by omega⟩ : Fin 16384) k) (fun a ha => ?_) ?_
    · match a with
      | ⟨0, _⟩ => rfl
      | ⟨1, _⟩ => exact absurd rfl ha
      | ⟨2, _⟩ => rfl
    · show t.val - 256 + 256 = t.val
      omega

theorem tokens_at (b : Fin 2) (t : Fin 16640) (k : Fin 1024) : tokens x ctx (ix3 b t k) = token x ctx b t k :=
  after_context ctx x _ b t k

/-- The shift's rows, the modulation's first, as the kernels take them from the table. -/
def shiftTable : FVec Ideal S2x2x1x1024 .f32 :=
  shapeCast S2x2x1x1024 (extractStridedSlice S2x2x1x1x1024 ![0, 0, 0, 0, 0] (modTable a ac w v) slices_S2x2x6x1x1024_S2x2x1x1x1024_0_0_0_0_0)
    shapeCasts_S2x2x1x1x1024_S2x2x1x1024

/-- The scale's rows, the modulation's second. -/
def scaleTable : FVec Ideal S2x2x1x1024 .f32 :=
  shapeCast S2x2x1x1024 (extractStridedSlice S2x2x1x1x1024 ![0, 0, 1, 0, 0] (modTable a ac w v) slices_S2x2x6x1x1024_S2x2x1x1x1024_0_0_1_0_0)
    shapeCasts_S2x2x1x1x1024_S2x2x1x1024

theorem shiftTable_at (b : Fin 2) (t : Fin 16640) (k : Fin 1024) :
    shiftTable a ac w v (ix4 b (side t.val) (0 : Fin 1) k) = modRow w v (condition a ac b t) 0 k := by
  unfold modRow condition
  generalize side t.val = s
  pointwise [shiftTable, modTable_at]

theorem scaleTable_at (b : Fin 2) (t : Fin 16640) (k : Fin 1024) :
    scaleTable a ac w v (ix4 b (side t.val) (0 : Fin 1) k) = modRow w v (condition a ac b t) 1 k := by
  unfold modRow condition
  generalize side t.val = s
  pointwise [scaleTable, modTable_at]

/-- What the projection's call leaves is, over the kernels' tables and a token array `xc`, the projection of its tokens. -/
theorem projRows_eq {n : ℕ} (xc : FVec Ideal S2x16640x1024 .f32) (wt : Fin 1024 → Fin n → EReal) (b : Fin 2) (t : Fin 16640) (d : Fin n)
    (row : Fin 1024 → EReal) (col : Fin 11552) (hx : ∀ k, xc (ix3 b t k) = row k) (hw : ∀ k, wt k d = win (ix2 k col)) :
    projRows xc (shiftTable a ac w v) (scaleTable a ac w v) (shapeCast S1x1024 g shapeCasts_S1024_S1x1024) wt b t d
      = projected w v g win row (condition a ac b t) col := by
  have hg : ∀ k : Fin 1024, shapeCast S1x1024 g shapeCasts_S1024_S1x1024 (ix2 (0 : Fin 1) k) = g (ix1 k) := by
    intro k
    pointwise
  unfold projRows projected
  simp only [hx, hw, hg, shiftTable_at, scaleTable_at]

/-- A column of zeros projects every token to zero. -/
theorem projRows_zero {n : ℕ} (xc : FVec Ideal S2x16640x1024 .f32) (sh sc : FVec Ideal S2x2x1x1024 .f32) (gain : FVec Ideal S1x1024 .f32)
    (wt : Fin 1024 → Fin n → EReal) (b : Fin 2) (t : Fin 16640) (d : Fin n) (hw : ∀ k, wt k d = 0) :
    projRows xc sh sc gain wt b t d = 0 := by
  unfold projRows
  simp only [hw, mul_zero, Finset.sum_const_zero]

end Shapes

end Cert.Layer

end
-- ==== Proof.WideArray.lean ====
/- The arrays the wide projections' call leaves: the Hyena columns and the gates' columns. -/
module

public import proofs.«01_k».proof.Proof.Gen.Kernel3Ideal.Frame
public import proofs.«01_k».proof.Proof.Projection
public import Idealize.ShloMosaic.Lib.Pipeline.ValueKit

@[expose] public section

set_option maxRecDepth 16384

noncomputable section

namespace Cert.Kernel3Ideal.Value

open Idealize.ShloMosaic Idealize.ShloMosaic.TcCoe Idealize.SL.Sem Cert.Layer
open Idealize.ShloMosaic.Pipeline (Dat)
open Cert.Kernel3Ideal Cert.Kernel3Ideal.Gen

variable (m : (ℓ : Loc nD τ sig) → Buf (Elt Ideal) ℓ)

/-- The modulated norm the body projects, at row `r`, column `k`. -/
theorem modded_at (x : FVec Ideal S1x256x1024 .f32) (gain : FVec Ideal S1x1024 .f32) (sc sh : FVec Ideal S1x1x1x1024 .f32)
    (r : Fin 256) (k : Fin 1024) :
    k0_pay2 (F := Ideal) x gain sc sh (ix2 r k)
      = moddedRow (fun k => x (ix3 (0 : Fin 1) r k)) (fun k => gain (ix2 (0 : Fin 1) k))
          (fun k => sh (ix4 (0 : Fin 1) (0 : Fin 1) (0 : Fin 1) k)) (fun k => sc (ix4 (0 : Fin 1) (0 : Fin 1) (0 : Fin 1) k)) k := by
  pointwise [k0_pay2]
  rfl

/-- Where the windows sit at a grid point. -/
theorem idx : ∀ t : Fin cfg0.N, win0_0.index t = ![t.val / 65, t.val % 65, 0]
    ∧ win0_1.index t = ![t.val / 65, 1 - t.val % 65, 0, 0]
    ∧ win0_2.index t = ![t.val / 65, 1 - t.val % 65, 0, 0]
    ∧ win0_3.index t = ![0, 0]
    ∧ win0_4.index t = ![0, 0]
    ∧ win0_5.index t = ![0, 0]
    ∧ win0_6.index t = ![t.val / 65, t.val % 65, 0]
    ∧ win0_7.index t = ![t.val / 65, t.val % 65, 0] :=
  (by decide +kernel : ∀ t : Fin grid0.N, _)

/-- The body's modulated norm at a point is the array's there: row `r` of the point's tile is token `T` of sample `b`. -/
theorem rows (xc : FVec Ideal S2x16640x1024 .f32) (sh sc : FVec Ideal S2x2x1x1024 .f32) (gain : FVec Ideal S1x1024 .f32) (t : Fin cfg0.N)
    (r : Fin 256) (k : Fin 1024) (b : Fin 2) (T : Fin 16640) (hb : b.val = t.val / 65) (hT : T.val = t.val % 65 * 256 + r.val) :
    k0_pay2 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh) (ix2 r k)
      = moddedRow (fun k => xc (ix3 b T k)) (fun k => gain (ix2 (0 : Fin 1) k)) (fun k => sh (ix4 b (side T.val) (0 : Fin 1) k))
          (fun k => sc (ix4 b (side T.val) (0 : Fin 1) k)) k := by
  rw [modded_at]
  refine congrFun (congr (congr (congr (congrArg moddedRow (funext fun k => ?_)) (funext fun k => ?_)) (funext fun k => ?_)) (funext fun k => ?_)) k
  · blk_ext [idx t]
  · blk_ext [idx t]
  · blk_ext [idx t, side]
  · blk_ext [idx t, side]

set_option maxHeartbeats 1000000 in
/-- What the body stores to output 0 at a point is the array's rows there, whatever the operands hold. -/
theorem point0 (xc : FVec Ideal S2x16640x1024 .f32) (sh sc : FVec Ideal S2x2x1x1024 .f32) (gain : FVec Ideal S1x1024 .f32)
    (w : FVec Ideal S1024x1536 .bf16) (t : Fin cfg0.N) (y : S1x256x1536.Idx) :
    k0_pay3 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh)
        (((cfg0.win 4).blk t).view.read (Elt Ideal) w) y
      = projRows xc sh sc gain (fun k j => w (ix2 k j)) ((((cfg0.win 6).blk t).view.emb y) 0)
          ((((cfg0.win 6).blk t).view.emb y) 1) ((((cfg0.win 6).blk t).view.emb y) 2) := by
  obtain ⟨z, r, d, rfl⟩ : ∃ (z : Fin 1) (r : Fin 256) (d : Fin 1536), y = ix3 z r d := ⟨y 0, y 1, y 2, eq_ix3 y⟩
  obtain rfl : z = 0 := Subsingleton.elim _ _
  pointwise [k0_pay3]
  refine Finset.sum_congr rfl fun k _ => Ideal.mul_congr ?_ ?_
  · exact rows xc sh sc gain t r k _ _ (by blk_simp [idx t]; rfl) (by blk_simp [idx t])
  · blk_ext [idx t]

/-- Output 0, whole, after the call. -/
theorem final0 (c : Dev nD) : (dats m 0 c).arrAt 6 (cfgs 0).N = fun i : S2x16640x1536.Idx =>
    projRows (V m c main_v0) (V m c main_v15) (V m c main_v17) (V m c main_v29) (fun k j => V m c main_v27 (ix2 k j)) (i 0) (i 1) (i 2) := by
  refine (dats m 0 c).arrAt_eq_of_covers 6 _ (by decide +kernel) fun t _ y => ?_
  blk_simp
  rw [after0_6]; frame_out
  exact point0 (V m c main_v0) (V m c main_v15) (V m c main_v17) (V m c main_v29) (V m c main_v27) t y

set_option maxHeartbeats 1000000 in
/-- What the body stores to output 1 at a point is the array's rows there, whatever the operands hold. -/
theorem point1 (xc : FVec Ideal S2x16640x1024 .f32) (sh sc : FVec Ideal S2x2x1x1024 .f32) (gain : FVec Ideal S1x1024 .f32)
    (w : FVec Ideal S1024x4096 .bf16) (t : Fin cfg0.N) (y : S1x256x4096.Idx) :
    k0_pay1 (F := Ideal) (k0_pay2 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 5).blk t).view.read (Elt Ideal) w) y
      = projRows xc sh sc gain (fun k j => w (ix2 k j)) ((((cfg0.win 7).blk t).view.emb y) 0)
          ((((cfg0.win 7).blk t).view.emb y) 1) ((((cfg0.win 7).blk t).view.emb y) 2) := by
  obtain ⟨z, r, d, rfl⟩ : ∃ (z : Fin 1) (r : Fin 256) (d : Fin 4096), y = ix3 z r d := ⟨y 0, y 1, y 2, eq_ix3 y⟩
  obtain rfl : z = 0 := Subsingleton.elim _ _
  pointwise [k0_pay1]
  refine Finset.sum_congr rfl fun k _ => Ideal.mul_congr ?_ ?_
  · exact rows xc sh sc gain t r k _ _ (by blk_simp [idx t]; rfl) (by blk_simp [idx t])
  · blk_ext [idx t]

/-- Output 1, whole, after the call. -/
theorem final1 (c : Dev nD) : (dats m 0 c).arrAt 7 (cfgs 0).N = fun i : S2x16640x4096.Idx =>
    projRows (V m c main_v0) (V m c main_v15) (V m c main_v17) (V m c main_v29) (fun k j => V m c main_v28 (ix2 k j)) (i 0) (i 1) (i 2) := by
  refine (dats m 0 c).arrAt_eq_of_covers 7 _ (by decide +kernel) fun t _ y => ?_
  blk_simp
  rw [after0_7]; frame_out
  exact point1 (V m c main_v0) (V m c main_v15) (V m c main_v17) (V m c main_v29) (V m c main_v28) t y

end Cert.Kernel3Ideal.Value

end
-- ==== Proof.WideResult.lean ====
/- What the wide projections' program returns, as the layer's columns. -/
module

public import proofs.«01_k».proof.Proof.WideArray
public import proofs.«01_k».proof.Proof.Gen.Kernel3Ideal.Value
public import Idealize.ShloMosaic.Lib.KernelVsHost
public import Idealize.ShloMosaic.Lib.Claim

@[expose] public section

set_option maxRecDepth 16384

noncomputable section

namespace Cert.Kernel3Ideal.Value

open Idealize.ShloMosaic Idealize.ShloMosaic.TcCoe Idealize.SL.Sem Cert.Layer
open Cert.Kernel3Ideal Cert.Kernel3Ideal.Gen

variable (m : (ℓ : Loc nD τ sig) → Buf (Elt Ideal) ℓ)

/-- An argument's contents at launch. -/
abbrev arg (c : Dev nD) (b : Ref sig .tc) : Buf (Elt Ideal) ((c.tc : Thread nD τ).loc b) := m ((c.tc : Thread nD τ).loc b)

/-- The token array. -/
theorem entry_tokens (c : Dev nD) : V m c main_v0
    = tokens (arg m c main_arg0) (arg m c main_arg1) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The shift's table. -/
theorem entry_shift (c : Dev nD) : V m c main_v15
    = shiftTable (arg m c main_arg2) (arg m c main_arg3) (arg m c main_arg4) (arg m c main_arg5) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The scale's table. -/
theorem entry_scale (c : Dev nD) : V m c main_v17
    = scaleTable (arg m c main_arg2) (arg m c main_arg3) (arg m c main_arg4) (arg m c main_arg5) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The gain. -/
theorem entry_gain (c : Dev nD) : V m c main_v29
    = shapeCast S1x1024 (arg m c main_arg6) shapeCasts_S1024_S1x1024 := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- Weight 0: columns from 1296. -/
theorem entry_weight0 (c : Dev nD) : V m c main_v27
    = (extractStridedSlice S1024x1536 ![0, 1296] (truncf (F := Ideal) .bf16 (arg m c main_arg7) bitsLt_bf16_f32) slices_S1024x11552_S1024x1536_0_1296 : FVec Ideal S1024x1536 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 1: columns from 7456. -/
theorem entry_weight1 (c : Dev nD) : V m c main_v28
    = (extractStridedSlice S1024x4096 ![0, 7456] (truncf (F := Ideal) .bf16 (arg m c main_arg7) bitsLt_bf16_f32) slices_S1024x11552_S1024x4096_0_7456 : FVec Ideal S1024x4096 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

theorem tokens_read (c : Dev nD) (b : Fin 2) (t : Fin 16640) (k : Fin 1024) :
    V m c main_v0 (ix3 b t k) = token (arg m c main_arg0) (arg m c main_arg1) b t k := by
  rw [entry_tokens]
  exact tokens_at _ _ b t k

/-- Output 0 at sample `b`, token `t`, column `d`. -/
theorem out0_at (c : Dev nD) (b : Fin 2) (t : Fin 16640) (d : Fin 1536) :
    ((dats m 0 c).arrAt 6 (cfgs 0).N : FVec Ideal S2x16640x1536 .f32) (ix3 b t d)
      = layerColumn (arg m c main_arg0) (arg m c main_arg1) (arg m c main_arg2) (arg m c main_arg3) (arg m c main_arg4) (arg m c main_arg5) (arg m c main_arg6) (arg m c main_arg7) b t (⟨1296 + d.val, by omega⟩ : Fin 11552) := by
  rw [final0]
  show projRows (V m c main_v0) (V m c main_v15) (V m c main_v17) (V m c main_v29) (fun k j => V m c main_v27 (ix2 k j)) b t d = _
  rw [entry_shift, entry_scale, entry_gain, entry_weight0]
  refine projRows_eq (arg m c main_arg2) (arg m c main_arg3) (arg m c main_arg4) (arg m c main_arg5) (arg m c main_arg6) (arg m c main_arg7) _ _ b t d (token (arg m c main_arg0) (arg m c main_arg1) b t) (⟨1296 + d.val, by omega⟩ : Fin 11552) ?_ ?_
  · intro k
    exact tokens_read m c b t k
  · intro k
    generalize arg m c main_arg7 = w
    pointwise

/-- Output 1 at sample `b`, token `t`, column `d`. -/
theorem out1_at (c : Dev nD) (b : Fin 2) (t : Fin 16640) (d : Fin 4096) :
    ((dats m 0 c).arrAt 7 (cfgs 0).N : FVec Ideal S2x16640x4096 .f32) (ix3 b t d)
      = layerColumn (arg m c main_arg0) (arg m c main_arg1) (arg m c main_arg2) (arg m c main_arg3) (arg m c main_arg4) (arg m c main_arg5) (arg m c main_arg6) (arg m c main_arg7) b t (⟨7456 + d.val, by omega⟩ : Fin 11552) := by
  rw [final1]
  show projRows (V m c main_v0) (V m c main_v15) (V m c main_v17) (V m c main_v29) (fun k j => V m c main_v28 (ix2 k j)) b t d = _
  rw [entry_shift, entry_scale, entry_gain, entry_weight1]
  refine projRows_eq (arg m c main_arg2) (arg m c main_arg3) (arg m c main_arg4) (arg m c main_arg5) (arg m c main_arg6) (arg m c main_arg7) _ _ b t d (token (arg m c main_arg0) (arg m c main_arg1) b t) (⟨7456 + d.val, by omega⟩ : Fin 11552) ?_ ?_
  · intro k
    exact tokens_read m c b t k
  · intro k
    generalize arg m c main_arg7 = w
    pointwise

end Cert.Kernel3Ideal.Value

end
-- ==== Proof.ReferenceProjection.lean ====
/- The third reference program: the layer's projection of its tokens, read at an index. -/
module

public import proofs.«01_k».proof.Proof.Projection
public import proofs.«01_k».proof.Proof.Gen.Reference3Ideal.Read
public import Idealize.ShloMosaic.Lib.Pointwise

@[expose] public section

set_option maxRecDepth 16384

noncomputable section

namespace Cert.Reference3Ideal.Read

open Idealize.ShloMosaic Idealize.ShloMosaic.TcCoe Idealize.SL.Sem Cert.Layer
open Cert.Reference3Ideal

variable (x0 : FVec Ideal S2x16384x1024 .f32) (x1 : FVec Ideal S2x256x1024 .f32) (x2 : FVec Ideal S2x1024 .f32) (x3 : FVec Ideal S1024 .f32)
  (x4 : FVec Ideal S1024x6144 .f32) (x5 : FVec Ideal S6144 .f32) (x6 : FVec Ideal S1024 .f32) (x7 : FVec Ideal S1024x11552 .f32)

/-- The modulation of a sample, before it is cut into rows. -/
theorem sample_at (b : Fin 2) (j : Fin 6144) :
    val_main_v8 (F := Ideal) x2 x4 x5 (ix3 b (0 : Fin 1) j)
      = modEntry (fun k => x2 (ix2 b k)) (fun i => x4 (ix2 i j)) (x5 (ix1 j)) := by
  pointwise [val_main_v8, val_main_v4, val_main_v3, val_main_v2, val_main_v1, val_main_v0, val_main_call0_v5, val_main_call0_v4,
    val_main_call0_cst_0, val_main_call0_v3, val_main_call0_v2, val_main_call0_cst, val_main_call0_v1, val_main_call0_v0]
  rfl

/-- The context's modulation, before it is cut into rows. -/
theorem context_row_at (j : Fin 6144) :
    val_main_v7 (F := Ideal) x3 x4 x5 (ix1 j) = modEntry (fun k => x3 (ix1 k)) (fun i => x4 (ix2 i j)) (x5 (ix1 j)) := by
  pointwise [val_main_v7, val_main_v6, val_main_v5, val_main_call1_v5, val_main_call1_v4,
    val_main_call1_cst_0, val_main_call1_v3, val_main_call1_v2, val_main_call1_cst, val_main_call1_v1, val_main_call1_v0]
  rfl

/-- The latent tokens' modulated norm. -/
theorem latent_at (b : Fin 2) (n : Fin 16384) (k : Fin 1024) :
    val_main_v39 (F := Ideal) x0 x2 x4 x5 x6 (ix3 b n k)
      = moddedRow (fun k => x0 (ix3 b n k)) (fun k => x6 (ix1 k)) (modRow x4 x5 (fun k => x2 (ix2 b k)) 0) (modRow x4 x5 (fun k => x2 (ix2 b k)) 1) k := by
  unfold moddedRow normed modRow
  pointwise [val_main_v39, val_main_v38, val_main_v37, val_main_v36, val_main_v35, val_main_v34, val_main_cst_2, val_main_v33, val_main_v32, val_main_v31,
    val_main_v30, val_main_v29, val_main_v28, val_main_v27, val_main_v26, val_main_cst_1, val_main_v25, val_main_v24, val_main_cst_0, val_main_v23,
    val_main_v22, val_main_cst, val_main_v21, val_main_v10, val_main_v9, sample_at]

/-- The context tokens' modulated norm. -/
theorem context_at (b : Fin 2) (n : Fin 256) (k : Fin 1024) :
    val_main_v60 (F := Ideal) x1 x3 x4 x5 x6 (ix3 b n k)
      = moddedRow (fun k => x1 (ix3 b n k)) (fun k => x6 (ix1 k)) (modRow x4 x5 (fun k => x3 (ix1 k)) 0) (modRow x4 x5 (fun k => x3 (ix1 k)) 1) k := by
  unfold moddedRow normed modRow
  pointwise [val_main_v60, val_main_v59, val_main_v58, val_main_v57, val_main_v56, val_main_v55, val_main_v54, val_main_v53, val_main_cst_6,
    val_main_v52, val_main_v51, val_main_v50, val_main_v49, val_main_v48, val_main_v47, val_main_v46, val_main_v45, val_main_cst_5, val_main_v44,
    val_main_v43, val_main_cst_4, val_main_v42, val_main_v41, val_main_cst_3, val_main_v40, val_main_v16, val_main_v15, context_row_at]

/-- The latent tokens' projection. -/
theorem latent_column_at (b : Fin 2) (n : Fin 16384) (col : Fin 11552) :
    val_main_v61 (F := Ideal) x0 x2 x4 x5 x6 x7 (ix3 b n col)
      = projected x4 x5 x6 x7 (fun k => x0 (ix3 b n k)) (fun k => x2 (ix2 b k)) col := by
  unfold projected
  pointwise [val_main_v61, latent_at]

/-- The context tokens' projection. -/
theorem context_column_at (b : Fin 2) (n : Fin 256) (col : Fin 11552) :
    val_main_v62 (F := Ideal) x1 x3 x4 x5 x6 x7 (ix3 b n col)
      = projected x4 x5 x6 x7 (fun k => x1 (ix3 b n k)) (fun k => x3 (ix1 k)) col := by
  unfold projected
  pointwise [val_main_v62, context_at]

/-- Both kinds of token, in the layer's order, projected. -/
theorem column_at (b : Fin 2) (t : Fin 16640) (col : Fin 11552) :
    val_main_v63 (F := Ideal) x0 x1 x2 x3 x4 x5 x6 x7 (ix3 b t col) = layerColumn x0 x1 x2 x3 x4 x5 x6 x7 b t col := by
  unfold val_main_v63
  refine (after_context _ _ _ b t col).trans ?_
  unfold layerColumn
  by_cases ht : t.val < 256
  · rw [dif_pos ht, context_column_at, token_context x0 x1 b t ht, condition_context x2 x3 b t ht]
  · rw [dif_neg ht, latent_column_at, token_latent x0 x1 b t ht, condition_latent x2 x3 b t ht]

/- The results: the Hyena branch's columns and the gates'. -/

theorem main_v64_at (b : Fin 2) (t : Fin 16640) (d : Fin 1536) :
    val_main_v64 (F := Ideal) x0 x1 x2 x3 x4 x5 x6 x7 (ix3 b t d) = layerColumn x0 x1 x2 x3 x4 x5 x6 x7 b t (⟨1296 + d.val, by omega⟩ : Fin 11552) := by
  rw [← column_at x0 x1 x2 x3 x4 x5 x6 x7 b t]
  pointwise [val_main_v64]

theorem main_v65_at (b : Fin 2) (t : Fin 16640) (d : Fin 4096) :
    val_main_v65 (F := Ideal) x0 x1 x2 x3 x4 x5 x6 x7 (ix3 b t d) = layerColumn x0 x1 x2 x3 x4 x5 x6 x7 b t (⟨7456 + d.val, by omega⟩ : Fin 11552) := by
  rw [← column_at x0 x1 x2 x3 x4 x5 x6 x7 b t]
  pointwise [val_main_v65]

end Cert.Reference3Ideal.Read

end
-- ==== Proof.WideClaims.lean ====
/- The claims about the wide projections' program. -/
module

public import proofs.«01_k».proof.Defs
public import proofs.«01_k».proof.Proof.WideResult
public import proofs.«01_k».proof.Proof.ReferenceProjection
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import Idealize.ShloMosaic.Lib.Quiescent

@[expose] public section

noncomputable section

namespace Cert.Layer

open Idealize.ShloMosaic Idealize.ShloMosaic.TcCoe Idealize.SL.Sem

/-- The reference runs, leaves its arguments and ends with no counter raised: it has no semaphore. -/
theorem quiescent3 : Cert.quiescent_Reference3Ideal (hReference3Ideal := Cert.Reference3Ideal.Gen.facts) := fun m ρ _ =>
  (θ_run _ _ _).mono (fun r h => ⟨fun c => (h c).2.2, sem_eq_zero_of_no_sems rfl r.2⟩) (Cert.Reference3Ideal.Value.run m ρ)

/-- The arrays of the reference's arguments are the kernel's. -/
structure Same3 (m : (ℓ : Loc Kernel3Ideal.nD Kernel3Ideal.τ Kernel3Ideal.sig) → Buf (Elt Ideal) ℓ) (c : Dev Kernel3Ideal.nD)
    (x0 : FVec Ideal Reference3Ideal.S2x16384x1024 .f32) (x1 : FVec Ideal Reference3Ideal.S2x256x1024 .f32) (x2 : FVec Ideal Reference3Ideal.S2x1024 .f32)
    (x3 : FVec Ideal Reference3Ideal.S1024 .f32) (x4 : FVec Ideal Reference3Ideal.S1024x6144 .f32) (x5 : FVec Ideal Reference3Ideal.S6144 .f32)
    (x6 : FVec Ideal Reference3Ideal.S1024 .f32) (x7 : FVec Ideal Reference3Ideal.S1024x11552 .f32) : Prop where
  h0 : x0 = Kernel3Ideal.Value.arg m c Kernel3Ideal.main_arg0
  h1 : x1 = Kernel3Ideal.Value.arg m c Kernel3Ideal.main_arg1
  h2 : x2 = Kernel3Ideal.Value.arg m c Kernel3Ideal.main_arg2
  h3 : x3 = Kernel3Ideal.Value.arg m c Kernel3Ideal.main_arg3
  h4 : x4 = Kernel3Ideal.Value.arg m c Kernel3Ideal.main_arg4
  h5 : x5 = Kernel3Ideal.Value.arg m c Kernel3Ideal.main_arg5
  h6 : x6 = Kernel3Ideal.Value.arg m c Kernel3Ideal.main_arg6
  h7 : x7 = Kernel3Ideal.Value.arg m c Kernel3Ideal.main_arg7

section Outputs

variable (m : (ℓ : Loc Kernel3Ideal.nD Kernel3Ideal.τ Kernel3Ideal.sig) → Buf (Elt Ideal) ℓ) (c : Dev Kernel3Ideal.nD)
    (x0 : FVec Ideal Reference3Ideal.S2x16384x1024 .f32) (x1 : FVec Ideal Reference3Ideal.S2x256x1024 .f32) (x2 : FVec Ideal Reference3Ideal.S2x1024 .f32)
    (x3 : FVec Ideal Reference3Ideal.S1024 .f32) (x4 : FVec Ideal Reference3Ideal.S1024x6144 .f32) (x5 : FVec Ideal Reference3Ideal.S6144 .f32)
    (x6 : FVec Ideal Reference3Ideal.S1024 .f32) (x7 : FVec Ideal Reference3Ideal.S1024x11552 .f32)

theorem equal3_0 (h : Same3 m c x0 x1 x2 x3 x4 x5 x6 x7) :
    Reference3Ideal.Read.val_main_v64 (F := Ideal) x0 x1 x2 x3 x4 x5 x6 x7 = (Kernel3Ideal.Gen.dats m 0 c).arrAt 6 Kernel3Ideal.cfg0.N := by
  obtain ⟨h0, h1, h2, h3, h4, h5, h6, h7⟩ := h
  subst h0 h1 h2 h3 h4 h5 h6 h7
  funext i
  have hi : i = ix3 (n0 := 2) (n1 := 16640) (n2 := 1536) (i 0) (i 1) (i 2) := (ix3_eta (n0 := 2) (n1 := 16640) (n2 := 1536) i).symm
  rw [hi]
  exact (Reference3Ideal.Read.main_v64_at _ _ _ _ _ _ _ _ (i 0) (i 1) (i 2)).trans (Kernel3Ideal.Value.out0_at m c (i 0) (i 1) (i 2)).symm

theorem equal3_1 (h : Same3 m c x0 x1 x2 x3 x4 x5 x6 x7) :
    Reference3Ideal.Read.val_main_v65 (F := Ideal) x0 x1 x2 x3 x4 x5 x6 x7 = (Kernel3Ideal.Gen.dats m 0 c).arrAt 7 Kernel3Ideal.cfg0.N := by
  obtain ⟨h0, h1, h2, h3, h4, h5, h6, h7⟩ := h
  subst h0 h1 h2 h3 h4 h5 h6 h7
  funext i
  have hi : i = ix3 (n0 := 2) (n1 := 16640) (n2 := 4096) (i 0) (i 1) (i 2) := (ix3_eta (n0 := 2) (n1 := 16640) (n2 := 4096) i).symm
  rw [hi]
  exact (Reference3Ideal.Read.main_v65_at _ _ _ _ _ _ _ _ (i 0) (i 1) (i 2)).trans (Kernel3Ideal.Value.out1_at m c (i 0) (i 1) (i 2)).symm

end Outputs

/-- The projections equal the plain mathematics. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => (Kernel3Ideal.Gen.dats m 0 c).arrAt 6 Kernel3Ideal.cfg0.N, fun c => (Kernel3Ideal.Gen.dats m 0 c).arrAt 7 Kernel3Ideal.cfg0.N, Kernel3Ideal.Value.run_blocks m g, ?_⟩
  refine (θ_run _ _ _).mono (fun r h c => ?_) (Cert.Reference3Ideal.Value.run m' g')
  obtain ⟨hv0, hv1, hrest⟩ := h c
  obtain ⟨a0, a1, a2, a3, a4, a5, a6, a7⟩ := hargs c
  have same := Same3.mk (m := m) (c := c) a0 a1 a2 a3 a4 a5 a6 a7
  exact ⟨hv0.trans ((Reference3Ideal.Read.val_main_v64_eq m' c).trans (equal3_0 m c _ _ _ _ _ _ _ _ same)), hv1.trans ((Reference3Ideal.Read.val_main_v65_eq m' c).trans (equal3_1 m c _ _ _ _ _ _ _ _ same)), hrest⟩

end Cert.Layer

end
-- ==== Proof.NarrowArray.lean ====
/- The arrays the narrow projections' call leaves: the state-space branch's and the memory branch's columns. -/
module

public import proofs.«01_k».proof.Proof.Gen.Kernel4Ideal.Frame
public import proofs.«01_k».proof.Proof.Projection
public import proofs.«01_k».proof.Proof.WideArray
public import Idealize.ShloMosaic.Lib.Pipeline.ValueKit

@[expose] public section

set_option maxRecDepth 16384

noncomputable section

namespace Cert.Kernel4Ideal.Value

open Idealize.ShloMosaic Idealize.ShloMosaic.TcCoe Idealize.SL.Sem Cert.Layer
open Idealize.ShloMosaic.Pipeline (Dat)
open Cert.Kernel4Ideal Cert.Kernel4Ideal.Gen

variable (m : (ℓ : Loc nD τ sig) → Buf (Elt Ideal) ℓ)

/-- The modulated norm the body projects, at row `r`, column `k`. -/
theorem modded_at (x : FVec Ideal S1x256x1024 .f32) (gain : FVec Ideal S1x1024 .f32) (sc sh : FVec Ideal S1x1x1x1024 .f32)
    (r : Fin 256) (k : Fin 1024) :
    k0_pay4 (F := Ideal) x gain sc sh (ix2 r k)
      = moddedRow (fun k => x (ix3 (0 : Fin 1) r k)) (fun k => gain (ix2 (0 : Fin 1) k))
          (fun k => sh (ix4 (0 : Fin 1) (0 : Fin 1) (0 : Fin 1) k)) (fun k => sc (ix4 (0 : Fin 1) (0 : Fin 1) (0 : Fin 1) k)) k := by
  exact Cert.Kernel3Ideal.Value.modded_at x gain sc sh r k

/-- Where the windows sit at a grid point. -/
theorem idx : ∀ t : Fin cfg0.N, win0_0.index t = ![t.val / 65, t.val % 65, 0]
    ∧ win0_1.index t = ![t.val / 65, 1 - t.val % 65, 0, 0]
    ∧ win0_2.index t = ![t.val / 65, 1 - t.val % 65, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val / 65, t.val % 65, 0]
    ∧ win0_13.index t = ![t.val / 65, t.val % 65, 0]
    ∧ win0_14.index t = ![t.val / 65, t.val % 65, 0]
    ∧ win0_15.index t = ![t.val / 65, t.val % 65, 0]
    ∧ win0_16.index t = ![t.val / 65, t.val % 65, 0]
    ∧ win0_17.index t = ![t.val / 65, t.val % 65, 0]
    ∧ win0_18.index t = ![t.val / 65, t.val % 65, 0]
    ∧ win0_19.index t = ![t.val / 65, t.val % 65, 0] :=
  (by decide +kernel : ∀ t : Fin grid0.N, _)

/-- The body's modulated norm at a point is the array's there: row `r` of the point's tile is token `T` of sample `b`. -/
theorem rows (xc : FVec Ideal S2x16640x1024 .f32) (sh sc : FVec Ideal S2x2x1x1024 .f32) (gain : FVec Ideal S1x1024 .f32) (t : Fin cfg0.N)
    (r : Fin 256) (k : Fin 1024) (b : Fin 2) (T : Fin 16640) (hb : b.val = t.val / 65) (hT : T.val = t.val % 65 * 256 + r.val) :
    k0_pay4 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh) (ix2 r k)
      = moddedRow (fun k => xc (ix3 b T k)) (fun k => gain (ix2 (0 : Fin 1) k)) (fun k => sh (ix4 b (side T.val) (0 : Fin 1) k))
          (fun k => sc (ix4 b (side T.val) (0 : Fin 1) k)) k := by
  rw [modded_at]
  refine congrFun (congr (congr (congr (congrArg moddedRow (funext fun k => ?_)) (funext fun k => ?_)) (funext fun k => ?_)) (funext fun k => ?_)) k
  · blk_ext [idx t]
  · blk_ext [idx t]
  · blk_ext [idx t, side]
  · blk_ext [idx t, side]

set_option maxHeartbeats 1000000 in
/-- What the body stores to output 0 at a point is the array's rows there, whatever the operands hold. -/
theorem point0 (xc : FVec Ideal S2x16640x1024 .f32) (sh sc : FVec Ideal S2x2x1x1024 .f32) (gain : FVec Ideal S1x1024 .f32)
    (w : FVec Ideal S1024x512 .bf16) (t : Fin cfg0.N) (y : S1x256x512.Idx) :
    k0_pay5 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh)
        (((cfg0.win 4).blk t).view.read (Elt Ideal) w) y
      = projRows xc sh sc gain (fun k j => w (ix2 k j)) ((((cfg0.win 12).blk t).view.emb y) 0)
          ((((cfg0.win 12).blk t).view.emb y) 1) ((((cfg0.win 12).blk t).view.emb y) 2) := by
  obtain ⟨z, r, d, rfl⟩ : ∃ (z : Fin 1) (r : Fin 256) (d : Fin 512), y = ix3 z r d := ⟨y 0, y 1, y 2, eq_ix3 y⟩
  obtain rfl : z = 0 := Subsingleton.elim _ _
  pointwise [k0_pay5]
  refine Finset.sum_congr rfl fun k _ => Ideal.mul_congr ?_ ?_
  · exact rows xc sh sc gain t r k _ _ (by blk_simp [idx t]; rfl) (by blk_simp [idx t])
  · blk_ext [idx t]

/-- Output 0, whole, after the call. -/
theorem final0 (c : Dev nD) : (dats m 0 c).arrAt 12 (cfgs 0).N = fun i : S2x16640x512.Idx =>
    projRows (V m c main_v0) (V m c main_v15) (V m c main_v17) (V m c main_v37) (fun k j => V m c main_v27 (ix2 k j)) (i 0) (i 1) (i 2) := by
  refine (dats m 0 c).arrAt_eq_of_covers 12 _ (by decide +kernel) fun t _ y => ?_
  blk_simp
  rw [after0_12]; unfold_out out0_12; frame_out
  exact point0 (V m c main_v0) (V m c main_v15) (V m c main_v17) (V m c main_v37) (V m c main_v27) t y

set_option maxHeartbeats 1000000 in
/-- What the body stores to output 1 at a point is the array's rows there, whatever the operands hold. -/
theorem point1 (xc : FVec Ideal S2x16640x1024 .f32) (sh sc : FVec Ideal S2x2x1x1024 .f32) (gain : FVec Ideal S1x1024 .f32)
    (w : FVec Ideal S1024x512 .bf16) (t : Fin cfg0.N) (y : S1x256x512.Idx) :
    k0_pay6 (F := Ideal) (k0_pay4 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 5).blk t).view.read (Elt Ideal) w) y
      = projRows xc sh sc gain (fun k j => w (ix2 k j)) ((((cfg0.win 13).blk t).view.emb y) 0)
          ((((cfg0.win 13).blk t).view.emb y) 1) ((((cfg0.win 13).blk t).view.emb y) 2) := by
  obtain ⟨z, r, d, rfl⟩ : ∃ (z : Fin 1) (r : Fin 256) (d : Fin 512), y = ix3 z r d := ⟨y 0, y 1, y 2, eq_ix3 y⟩
  obtain rfl : z = 0 := Subsingleton.elim _ _
  pointwise [k0_pay6]
  refine Finset.sum_congr rfl fun k _ => Ideal.mul_congr ?_ ?_
  · exact rows xc sh sc gain t r k _ _ (by blk_simp [idx t]; rfl) (by blk_simp [idx t])
  · blk_ext [idx t]

/-- Output 1, whole, after the call. -/
theorem final1 (c : Dev nD) : (dats m 0 c).arrAt 13 (cfgs 0).N = fun i : S2x16640x512.Idx =>
    projRows (V m c main_v0) (V m c main_v15) (V m c main_v17) (V m c main_v37) (fun k j => V m c main_v28 (ix2 k j)) (i 0) (i 1) (i 2) := by
  refine (dats m 0 c).arrAt_eq_of_covers 13 _ (by decide +kernel) fun t _ y => ?_
  blk_simp
  rw [after0_13]; unfold_out out0_13; frame_out
  exact point1 (V m c main_v0) (V m c main_v15) (V m c main_v17) (V m c main_v37) (V m c main_v28) t y

set_option maxHeartbeats 1000000 in
/-- What the body stores to output 2 at a point is the array's rows there, whatever the operands hold. -/
theorem point2 (xc : FVec Ideal S2x16640x1024 .f32) (sh sc : FVec Ideal S2x2x1x1024 .f32) (gain : FVec Ideal S1x1024 .f32)
    (w : FVec Ideal S1024x256 .bf16) (t : Fin cfg0.N) (y : S1x256x256.Idx) :
    k0_pay7 (F := Ideal) (k0_pay4 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 6).blk t).view.read (Elt Ideal) w) y
      = projRows xc sh sc gain (fun k j => w (ix2 k j)) ((((cfg0.win 14).blk t).view.emb y) 0)
          ((((cfg0.win 14).blk t).view.emb y) 1) ((((cfg0.win 14).blk t).view.emb y) 2) := by
  obtain ⟨z, r, d, rfl⟩ : ∃ (z : Fin 1) (r : Fin 256) (d : Fin 256), y = ix3 z r d := ⟨y 0, y 1, y 2, eq_ix3 y⟩
  obtain rfl : z = 0 := Subsingleton.elim _ _
  pointwise [k0_pay7]
  refine Finset.sum_congr rfl fun k _ => Ideal.mul_congr ?_ ?_
  · exact rows xc sh sc gain t r k _ _ (by blk_simp [idx t]; rfl) (by blk_simp [idx t])
  · blk_ext [idx t]

/-- Output 2, whole, after the call. -/
theorem final2 (c : Dev nD) : (dats m 0 c).arrAt 14 (cfgs 0).N = fun i : S2x16640x256.Idx =>
    projRows (V m c main_v0) (V m c main_v15) (V m c main_v17) (V m c main_v37) (fun k j => V m c main_v29 (ix2 k j)) (i 0) (i 1) (i 2) := by
  refine (dats m 0 c).arrAt_eq_of_covers 14 _ (by decide +kernel) fun t _ y => ?_
  blk_simp
  rw [after0_14]; unfold_out out0_14; frame_out
  exact point2 (V m c main_v0) (V m c main_v15) (V m c main_v17) (V m c main_v37) (V m c main_v29) t y

set_option maxHeartbeats 1000000 in
/-- What the body stores to output 3 at a point is the array's rows there, whatever the operands hold. -/
theorem point3 (xc : FVec Ideal S2x16640x1024 .f32) (sh sc : FVec Ideal S2x2x1x1024 .f32) (gain : FVec Ideal S1x1024 .f32)
    (w : FVec Ideal S1024x128 .bf16) (t : Fin cfg0.N) (y : S1x256x128.Idx) :
    k0_pay8 (F := Ideal) (k0_pay4 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 7).blk t).view.read (Elt Ideal) w) y
      = projRows xc sh sc gain (fun k j => w (ix2 k j)) ((((cfg0.win 15).blk t).view.emb y) 0)
          ((((cfg0.win 15).blk t).view.emb y) 1) ((((cfg0.win 15).blk t).view.emb y) 2) := by
  obtain ⟨z, r, d, rfl⟩ : ∃ (z : Fin 1) (r : Fin 256) (d : Fin 128), y = ix3 z r d := ⟨y 0, y 1, y 2, eq_ix3 y⟩
  obtain rfl : z = 0 := Subsingleton.elim _ _
  pointwise [k0_pay8]
  refine Finset.sum_congr rfl fun k _ => Ideal.mul_congr ?_ ?_
  · exact rows xc sh sc gain t r k _ _ (by blk_simp [idx t]; rfl) (by blk_simp [idx t])
  · blk_ext [idx t]

/-- Output 3, whole, after the call. -/
theorem final3 (c : Dev nD) : (dats m 0 c).arrAt 15 (cfgs 0).N = fun i : S2x16640x128.Idx =>
    projRows (V m c main_v0) (V m c main_v15) (V m c main_v17) (V m c main_v37) (fun k j => V m c main_v31 (ix2 k j)) (i 0) (i 1) (i 2) := by
  refine (dats m 0 c).arrAt_eq_of_covers 15 _ (by decide +kernel) fun t _ y => ?_
  blk_simp
  rw [after0_15]; unfold_out out0_15; frame_out
  exact point3 (V m c main_v0) (V m c main_v15) (V m c main_v17) (V m c main_v37) (V m c main_v31) t y

set_option maxHeartbeats 1000000 in
/-- What the body stores to output 4 at a point is the array's rows there, whatever the operands hold. -/
theorem point4 (xc : FVec Ideal S2x16640x1024 .f32) (sh sc : FVec Ideal S2x2x1x1024 .f32) (gain : FVec Ideal S1x1024 .f32)
    (w : FVec Ideal S1024x1024 .bf16) (t : Fin cfg0.N) (y : S1x256x1024.Idx) :
    k0_pay9 (F := Ideal) (k0_pay4 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 8).blk t).view.read (Elt Ideal) w) y
      = projRows xc sh sc gain (fun k j => w (ix2 k j)) ((((cfg0.win 16).blk t).view.emb y) 0)
          ((((cfg0.win 16).blk t).view.emb y) 1) ((((cfg0.win 16).blk t).view.emb y) 2) := by
  obtain ⟨z, r, d, rfl⟩ : ∃ (z : Fin 1) (r : Fin 256) (d : Fin 1024), y = ix3 z r d := ⟨y 0, y 1, y 2, eq_ix3 y⟩
  obtain rfl : z = 0 := Subsingleton.elim _ _
  pointwise [k0_pay9]
  refine Finset.sum_congr rfl fun k _ => Ideal.mul_congr ?_ ?_
  · exact rows xc sh sc gain t r k _ _ (by blk_simp [idx t]; rfl) (by blk_simp [idx t])
  · blk_ext [idx t]

/-- Output 4, whole, after the call. -/
theorem final4 (c : Dev nD) : (dats m 0 c).arrAt 16 (cfgs 0).N = fun i : S2x16640x1024.Idx =>
    projRows (V m c main_v0) (V m c main_v15) (V m c main_v17) (V m c main_v37) (fun k j => V m c main_v32 (ix2 k j)) (i 0) (i 1) (i 2) := by
  refine (dats m 0 c).arrAt_eq_of_covers 16 _ (by decide +kernel) fun t _ y => ?_
  blk_simp
  rw [after0_16]; unfold_out out0_16; frame_out
  exact point4 (V m c main_v0) (V m c main_v15) (V m c main_v17) (V m c main_v37) (V m c main_v32) t y

set_option maxHeartbeats 1000000 in
/-- What the body stores to output 5 at a point is the array's rows there, whatever the operands hold. -/
theorem point5 (xc : FVec Ideal S2x16640x1024 .f32) (sh sc : FVec Ideal S2x2x1x1024 .f32) (gain : FVec Ideal S1x1024 .f32)
    (w : FVec Ideal S1024x512 .bf16) (t : Fin cfg0.N) (y : S1x256x512.Idx) :
    k0_pay1 (F := Ideal) (k0_pay10 (F := Ideal) (k0_pay4 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 9).blk t).view.read (Elt Ideal) w)) y
      = projRows xc sh sc gain (fun k j => w (ix2 k j)) ((((cfg0.win 17).blk t).view.emb y) 0)
          ((((cfg0.win 17).blk t).view.emb y) 1) ((((cfg0.win 17).blk t).view.emb y) 2) := by
  obtain ⟨z, r, d, rfl⟩ : ∃ (z : Fin 1) (r : Fin 256) (d : Fin 512), y = ix3 z r d := ⟨y 0, y 1, y 2, eq_ix3 y⟩
  obtain rfl : z = 0 := Subsingleton.elim _ _
  pointwise [k0_pay1, k0_pay10]
  refine Finset.sum_congr rfl fun k _ => Ideal.mul_congr ?_ ?_
  · exact rows xc sh sc gain t r k _ _ (by blk_simp [idx t]; rfl) (by blk_simp [idx t])
  · blk_ext [idx t]

/-- Output 5, whole, after the call. -/
theorem final5 (c : Dev nD) : (dats m 0 c).arrAt 17 (cfgs 0).N = fun i : S2x16640x512.Idx =>
    projRows (V m c main_v0) (V m c main_v15) (V m c main_v17) (V m c main_v37) (fun k j => V m c main_v33 (ix2 k j)) (i 0) (i 1) (i 2) := by
  refine (dats m 0 c).arrAt_eq_of_covers 17 _ (by decide +kernel) fun t _ y => ?_
  blk_simp
  rw [after0_17]; unfold_out out0_17; frame_out
  exact point5 (V m c main_v0) (V m c main_v15) (V m c main_v17) (V m c main_v37) (V m c main_v33) t y

set_option maxHeartbeats 1000000 in
/-- What the body stores to output 6 at a point is the array's rows there, whatever the operands hold. -/
theorem point6 (xc : FVec Ideal S2x16640x1024 .f32) (sh sc : FVec Ideal S2x2x1x1024 .f32) (gain : FVec Ideal S1x1024 .f32)
    (w : FVec Ideal S1024x512 .bf16) (t : Fin cfg0.N) (y : S1x256x512.Idx) :
    k0_pay2 (F := Ideal) (k0_pay4 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 10).blk t).view.read (Elt Ideal) w) y
      = projRows xc sh sc gain (fun k j => w (ix2 k j)) ((((cfg0.win 18).blk t).view.emb y) 0)
          ((((cfg0.win 18).blk t).view.emb y) 1) ((((cfg0.win 18).blk t).view.emb y) 2) := by
  obtain ⟨z, r, d, rfl⟩ : ∃ (z : Fin 1) (r : Fin 256) (d : Fin 512), y = ix3 z r d := ⟨y 0, y 1, y 2, eq_ix3 y⟩
  obtain rfl : z = 0 := Subsingleton.elim _ _
  pointwise [k0_pay2]
  refine Finset.sum_congr rfl fun k _ => Ideal.mul_congr ?_ ?_
  · exact rows xc sh sc gain t r k _ _ (by blk_simp [idx t]; rfl) (by blk_simp [idx t])
  · blk_ext [idx t]

/-- Output 6, whole, after the call. -/
theorem final6 (c : Dev nD) : (dats m 0 c).arrAt 18 (cfgs 0).N = fun i : S2x16640x512.Idx =>
    projRows (V m c main_v0) (V m c main_v15) (V m c main_v17) (V m c main_v37) (fun k j => V m c main_v34 (ix2 k j)) (i 0) (i 1) (i 2) := by
  refine (dats m 0 c).arrAt_eq_of_covers 18 _ (by decide +kernel) fun t _ y => ?_
  blk_simp
  rw [after0_18]; unfold_out out0_18; frame_out
  exact point6 (V m c main_v0) (V m c main_v15) (V m c main_v17) (V m c main_v37) (V m c main_v34) t y

set_option maxHeartbeats 1000000 in
/-- What the body stores to output 7 at a point is the array's rows there, whatever the operands hold. -/
theorem point7 (xc : FVec Ideal S2x16640x1024 .f32) (sh sc : FVec Ideal S2x2x1x1024 .f32) (gain : FVec Ideal S1x1024 .f32)
    (w : FVec Ideal S1024x128 .bf16) (t : Fin cfg0.N) (y : S1x256x128.Idx) :
    k0_pay3 (F := Ideal) (k0_pay4 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 11).blk t).view.read (Elt Ideal) w) y
      = projRows xc sh sc gain (fun k j => w (ix2 k j)) ((((cfg0.win 19).blk t).view.emb y) 0)
          ((((cfg0.win 19).blk t).view.emb y) 1) ((((cfg0.win 19).blk t).view.emb y) 2) := by
  obtain ⟨z, r, d, rfl⟩ : ∃ (z : Fin 1) (r : Fin 256) (d : Fin 128), y = ix3 z r d := ⟨y 0, y 1, y 2, eq_ix3 y⟩
  obtain rfl : z = 0 := Subsingleton.elim _ _
  pointwise [k0_pay3]
  refine Finset.sum_congr rfl fun k _ => Ideal.mul_congr ?_ ?_
  · exact rows xc sh sc gain t r k _ _ (by blk_simp [idx t]; rfl) (by blk_simp [idx t])
  · blk_ext [idx t]

/-- Output 7, whole, after the call. -/
theorem final7 (c : Dev nD) : (dats m 0 c).arrAt 19 (cfgs 0).N = fun i : S2x16640x128.Idx =>
    projRows (V m c main_v0) (V m c main_v15) (V m c main_v17) (V m c main_v37) (fun k j => V m c main_v36 (ix2 k j)) (i 0) (i 1) (i 2) := by
  refine (dats m 0 c).arrAt_eq_of_covers 19 _ (by decide +kernel) fun t _ y => ?_
  blk_simp
  rw [after0_19]; unfold_out out0_19; frame_out
  exact point7 (V m c main_v0) (V m c main_v15) (V m c main_v17) (V m c main_v37) (V m c main_v36) t y

end Cert.Kernel4Ideal.Value

end
-- ==== Proof.Padded.lean ====
/- A weight of sixteen columns widened to 128 with columns of zeros. -/
module

public import proofs.«01_k».proof.Proof.Gen.Kernel4Ideal
public import Idealize.ShloMosaic.Lib.KernelVsHost
public import Idealize.ShloMosaic.Lib.Pointwise

@[expose] public section

noncomputable section

namespace Cert.Layer

open Idealize.ShloMosaic
open Cert.Kernel4Ideal Cert.Kernel4Ideal.Gen

/-- Sixteen columns, then zeros. -/
def padded (y : FVec Ideal S1024x16 .bf16) : FVec Ideal S1024x128 .bf16 :=
  pad S1024x128 ![0, 0] ![0, 112] ![0, 0] y (sitofp (F := Ideal) .bf16 (constantI S_ 32 0#32)) pads_S1024x16_S1024x128_000_01120 h_S_

theorem padded_lt (y : FVec Ideal S1024x16 .bf16) (k : Fin 1024) (d : Fin 128) (h : d.val < 16) :
    padded y (ix2 k d) = y (ix2 k (⟨d.val, h⟩ : Fin 16)) :=
  pad_apply_of_inside _ _ _ _ _ _ _ _ _ (fun a => match a with
    | ⟨0, _⟩ => by show k.val = 0 + k.val * 1; omega
    | ⟨1, _⟩ => by show d.val = 0 + d.val * 1; omega)

theorem padded_ge (y : FVec Ideal S1024x16 .bf16) (k : Fin 1024) (d : Fin 128) (h : ¬ d.val < 16) : padded y (ix2 k d) = (0 : EReal) := by
  have e : padded y (ix2 k d) = sitofp (F := Ideal) .bf16 (constantI S_ 32 0#32) (Shape.Idx.first h_S_) :=
    pad_apply_of_not_inside _ _ _ _ _ _ _ _ (1 : Fin 2) (fun q => h (by
      have hq : (d.val - 0) / (0 + 1) < 16 := q.2.2
      omega))
  rw [e]
  show (((0#32 : BitVec 32).toInt : ℝ) : EReal) = 0
  simp

end Cert.Layer

end
-- ==== Proof.NarrowResult.lean ====
/- What the narrow projections' program returns, as the layer's columns. -/
module

public import proofs.«01_k».proof.Proof.NarrowArray
public import proofs.«01_k».proof.Proof.Padded
public import proofs.«01_k».proof.Proof.Gen.Kernel4Ideal.Value
public import Idealize.ShloMosaic.Lib.KernelVsHost
public import Idealize.ShloMosaic.Lib.Claim

@[expose] public section

set_option maxRecDepth 16384

noncomputable section

namespace Cert.Kernel4Ideal.Value

open Idealize.ShloMosaic Idealize.ShloMosaic.TcCoe Idealize.SL.Sem Cert.Layer
open Cert.Kernel4Ideal Cert.Kernel4Ideal.Gen

variable (m : (ℓ : Loc nD τ sig) → Buf (Elt Ideal) ℓ)

/-- An argument's contents at launch. -/
abbrev arg (c : Dev nD) (b : Ref sig .tc) : Buf (Elt Ideal) ((c.tc : Thread nD τ).loc b) := m ((c.tc : Thread nD τ).loc b)

/-- The token array. -/
theorem entry_tokens (c : Dev nD) : V m c main_v0
    = tokens (arg m c main_arg0) (arg m c main_arg1) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The shift's table. -/
theorem entry_shift (c : Dev nD) : V m c main_v15
    = shiftTable (arg m c main_arg2) (arg m c main_arg3) (arg m c main_arg4) (arg m c main_arg5) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The scale's table. -/
theorem entry_scale (c : Dev nD) : V m c main_v17
    = scaleTable (arg m c main_arg2) (arg m c main_arg3) (arg m c main_arg4) (arg m c main_arg5) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The gain. -/
theorem entry_gain (c : Dev nD) : V m c main_v37
    = shapeCast S1x1024 (arg m c main_arg6) shapeCasts_S1024_S1x1024 := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- Weight 0: columns from 0. -/
theorem entry_weight0 (c : Dev nD) : V m c main_v27
    = (extractStridedSlice S1024x512 ![0, 0] (truncf (F := Ideal) .bf16 (arg m c main_arg7) bitsLt_bf16_f32) slices_S1024x11552_S1024x512_0_0 : FVec Ideal S1024x512 .bf16) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 1: columns from 512. -/
theorem entry_weight1 (c : Dev nD) : V m c main_v28
    = (extractStridedSlice S1024x512 ![0, 512] (truncf (F := Ideal) .bf16 (arg m c main_arg7) bitsLt_bf16_f32) slices_S1024x11552_S1024x512_0_512 : FVec Ideal S1024x512 .bf16) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 2: columns from 1024. -/
theorem entry_weight2 (c : Dev nD) : V m c main_v29
    = (extractStridedSlice S1024x256 ![0, 1024] (truncf (F := Ideal) .bf16 (arg m c main_arg7) bitsLt_bf16_f32) slices_S1024x11552_S1024x256_0_1024 : FVec Ideal S1024x256 .bf16) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 3: sixteen columns from 1280, padded. -/
theorem entry_weight3 (c : Dev nD) : V m c main_v31
    = padded (extractStridedSlice S1024x16 ![0, 1280] (truncf (F := Ideal) .bf16 (arg m c main_arg7) bitsLt_bf16_f32) slices_S1024x11552_S1024x16_0_1280) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- Weight 4: columns from 2832. -/
theorem entry_weight4 (c : Dev nD) : V m c main_v32
    = (extractStridedSlice S1024x1024 ![0, 2832] (truncf (F := Ideal) .bf16 (arg m c main_arg7) bitsLt_bf16_f32) slices_S1024x11552_S1024x1024_0_2832 : FVec Ideal S1024x1024 .bf16) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 5: columns from 3856. -/
theorem entry_weight5 (c : Dev nD) : V m c main_v33
    = (extractStridedSlice S1024x512 ![0, 3856] (truncf (F := Ideal) .bf16 (arg m c main_arg7) bitsLt_bf16_f32) slices_S1024x11552_S1024x512_0_3856 : FVec Ideal S1024x512 .bf16) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 6: columns from 4368. -/
theorem entry_weight6 (c : Dev nD) : V m c main_v34
    = (extractStridedSlice S1024x512 ![0, 4368] (truncf (F := Ideal) .bf16 (arg m c main_arg7) bitsLt_bf16_f32) slices_S1024x11552_S1024x512_0_4368 : FVec Ideal S1024x512 .bf16) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 7: sixteen columns from 4880, padded. -/
theorem entry_weight7 (c : Dev nD) : V m c main_v36
    = padded (extractStridedSlice S1024x16 ![0, 4880] (truncf (F := Ideal) .bf16 (arg m c main_arg7) bitsLt_bf16_f32) slices_S1024x11552_S1024x16_0_4880) := by
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

theorem tokens_read (c : Dev nD) (b : Fin 2) (t : Fin 16640) (k : Fin 1024) :
    V m c main_v0 (ix3 b t k) = token (arg m c main_arg0) (arg m c main_arg1) b t k := by
  rw [entry_tokens]
  exact tokens_at _ _ b t k

/-- Output 0 at sample `b`, token `t`, column `d`. -/
theorem out0_at (c : Dev nD) (b : Fin 2) (t : Fin 16640) (d : Fin 512) :
    ((dats m 0 c).arrAt 12 (cfgs 0).N : FVec Ideal S2x16640x512 .f32) (ix3 b t d)
      = layerColumn (arg m c main_arg0) (arg m c main_arg1) (arg m c main_arg2) (arg m c main_arg3) (arg m c main_arg4) (arg m c main_arg5) (arg m c main_arg6) (arg m c main_arg7) b t (⟨0 + d.val, by omega⟩ : Fin 11552) := by
  rw [final0]
  show projRows (V m c main_v0) (V m c main_v15) (V m c main_v17) (V m c main_v37) (fun k j => V m c main_v27 (ix2 k j)) b t d = _
  rw [entry_shift, entry_scale, entry_gain, entry_weight0]
  refine projRows_eq (arg m c main_arg2) (arg m c main_arg3) (arg m c main_arg4) (arg m c main_arg5) (arg m c main_arg6) (arg m c main_arg7) _ _ b t d (token (arg m c main_arg0) (arg m c main_arg1) b t) (⟨0 + d.val, by omega⟩ : Fin 11552) ?_ ?_
  · intro k
    exact tokens_read m c b t k
  · intro k
    generalize arg m c main_arg7 = w
    pointwise

/-- Output 1 at sample `b`, token `t`, column `d`. -/
theorem out1_at (c : Dev nD) (b : Fin 2) (t : Fin 16640) (d : Fin 512) :
    ((dats m 0 c).arrAt 13 (cfgs 0).N : FVec Ideal S2x16640x512 .f32) (ix3 b t d)
      = layerColumn (arg m c main_arg0) (arg m c main_arg1) (arg m c main_arg2) (arg m c main_arg3) (arg m c main_arg4) (arg m c main_arg5) (arg m c main_arg6) (arg m c main_arg7) b t (⟨512 + d.val, by omega⟩ : Fin 11552) := by
  rw [final1]
  show projRows (V m c main_v0) (V m c main_v15) (V m c main_v17) (V m c main_v37) (fun k j => V m c main_v28 (ix2 k j)) b t d = _
  rw [entry_shift, entry_scale, entry_gain, entry_weight1]
  refine projRows_eq (arg m c main_arg2) (arg m c main_arg3) (arg m c main_arg4) (arg m c main_arg5) (arg m c main_arg6) (arg m c main_arg7) _ _ b t d (token (arg m c main_arg0) (arg m c main_arg1) b t) (⟨512 + d.val, by omega⟩ : Fin 11552) ?_ ?_
  · intro k
    exact tokens_read m c b t k
  · intro k
    generalize arg m c main_arg7 = w
    pointwise

/-- Output 2 at sample `b`, token `t`, column `d`. -/
theorem out2_at (c : Dev nD) (b : Fin 2) (t : Fin 16640) (d : Fin 256) :
    ((dats m 0 c).arrAt 14 (cfgs 0).N : FVec Ideal S2x16640x256 .f32) (ix3 b t d)
      = layerColumn (arg m c main_arg0) (arg m c main_arg1) (arg m c main_arg2) (arg m c main_arg3) (arg m c main_arg4) (arg m c main_arg5) (arg m c main_arg6) (arg m c main_arg7) b t (⟨1024 + d.val, by omega⟩ : Fin 11552) := by
  rw [final2]
  show projRows (V m c main_v0) (V m c main_v15) (V m c main_v17) (V m c main_v37) (fun k j => V m c main_v29 (ix2 k j)) b t d = _
  rw [entry_shift, entry_scale, entry_gain, entry_weight2]
  refine projRows_eq (arg m c main_arg2) (arg m c main_arg3) (arg m c main_arg4) (arg m c main_arg5) (arg m c main_arg6) (arg m c main_arg7) _ _ b t d (token (arg m c main_arg0) (arg m c main_arg1) b t) (⟨1024 + d.val, by omega⟩ : Fin 11552) ?_ ?_
  · intro k
    exact tokens_read m c b t k
  · intro k
    generalize arg m c main_arg7 = w
    pointwise

/-- Output 3 at sample `b`, token `t`, column `d`. -/
theorem out3_at (c : Dev nD) (b : Fin 2) (t : Fin 16640) (d : Fin 128) :
    ((dats m 0 c).arrAt 15 (cfgs 0).N : FVec Ideal S2x16640x128 .f32) (ix3 b t d)
      = if h : d.val < 16 then layerColumn (arg m c main_arg0) (arg m c main_arg1) (arg m c main_arg2) (arg m c main_arg3) (arg m c main_arg4) (arg m c main_arg5) (arg m c main_arg6) (arg m c main_arg7) b t ⟨1280 + d.val, by omega⟩ else 0 := by
  rw [final3]
  show projRows (V m c main_v0) (V m c main_v15) (V m c main_v17) (V m c main_v37) (fun k j => V m c main_v31 (ix2 k j)) b t d = _
  rw [entry_shift, entry_scale, entry_gain, entry_weight3]
  by_cases h : d.val < 16
  · rw [dif_pos h]
    refine projRows_eq (arg m c main_arg2) (arg m c main_arg3) (arg m c main_arg4) (arg m c main_arg5) (arg m c main_arg6) (arg m c main_arg7) _ _ b t d (token (arg m c main_arg0) (arg m c main_arg1) b t) ⟨1280 + d.val, by omega⟩ ?_ ?_
    · intro k
      exact tokens_read m c b t k
    · intro k
      generalize arg m c main_arg7 = w
      show padded _ (ix2 k d) = _
      rw [padded_lt _ k d h]
      pointwise
  · rw [dif_neg h]
    refine projRows_zero _ _ _ _ _ b t d fun k => ?_
    show padded _ (ix2 k d) = _
    exact padded_ge _ k d h

/-- Output 4 at sample `b`, token `t`, column `d`. -/
theorem out4_at (c : Dev nD) (b : Fin 2) (t : Fin 16640) (d : Fin 1024) :
    ((dats m 0 c).arrAt 16 (cfgs 0).N : FVec Ideal S2x16640x1024 .f32) (ix3 b t d)
      = layerColumn (arg m c main_arg0) (arg m c main_arg1) (arg m c main_arg2) (arg m c main_arg3) (arg m c main_arg4) (arg m c main_arg5) (arg m c main_arg6) (arg m c main_arg7) b t (⟨2832 + d.val, by omega⟩ : Fin 11552) := by
  rw [final4]
  show projRows (V m c main_v0) (V m c main_v15) (V m c main_v17) (V m c main_v37) (fun k j => V m c main_v32 (ix2 k j)) b t d = _
  rw [entry_shift, entry_scale, entry_gain, entry_weight4]
  refine projRows_eq (arg m c main_arg2) (arg m c main_arg3) (arg m c main_arg4) (arg m c main_arg5) (arg m c main_arg6) (arg m c main_arg7) _ _ b t d (token (arg m c main_arg0) (arg m c main_arg1) b t) (⟨2832 + d.val, by omega⟩ : Fin 11552) ?_ ?_
  · intro k
    exact tokens_read m c b t k
  · intro k
    generalize arg m c main_arg7 = w
    pointwise

/-- Output 5 at sample `b`, token `t`, column `d`. -/
theorem out5_at (c : Dev nD) (b : Fin 2) (t : Fin 16640) (d : Fin 512) :
    ((dats m 0 c).arrAt 17 (cfgs 0).N : FVec Ideal S2x16640x512 .f32) (ix3 b t d)
      = layerColumn (arg m c main_arg0) (arg m c main_arg1) (arg m c main_arg2) (arg m c main_arg3) (arg m c main_arg4) (arg m c main_arg5) (arg m c main_arg6) (arg m c main_arg7) b t (⟨3856 + d.val, by omega⟩ : Fin 11552) := by
  rw [final5]
  show projRows (V m c main_v0) (V m c main_v15) (V m c main_v17) (V m c main_v37) (fun k j => V m c main_v33 (ix2 k j)) b t d = _
  rw [entry_shift, entry_scale, entry_gain, entry_weight5]
  refine projRows_eq (arg m c main_arg2) (arg m c main_arg3) (arg m c main_arg4) (arg m c main_arg5) (arg m c main_arg6) (arg m c main_arg7) _ _ b t d (token (arg m c main_arg0) (arg m c main_arg1) b t) (⟨3856 + d.val, by omega⟩ : Fin 11552) ?_ ?_
  · intro k
    exact tokens_read m c b t k
  · intro k
    generalize arg m c main_arg7 = w
    pointwise

/-- Output 6 at sample `b`, token `t`, column `d`. -/
theorem out6_at (c : Dev nD) (b : Fin 2) (t : Fin 16640) (d : Fin 512) :
    ((dats m 0 c).arrAt 18 (cfgs 0).N : FVec Ideal S2x16640x512 .f32) (ix3 b t d)
      = layerColumn (arg m c main_arg0) (arg m c main_arg1) (arg m c main_arg2) (arg m c main_arg3) (arg m c main_arg4) (arg m c main_arg5) (arg m c main_arg6) (arg m c main_arg7) b t (⟨4368 + d.val, by omega⟩ : Fin 11552) := by
  rw [final6]
  show projRows (V m c main_v0) (V m c main_v15) (V m c main_v17) (V m c main_v37) (fun k j => V m c main_v34 (ix2 k j)) b t d = _
  rw [entry_shift, entry_scale, entry_gain, entry_weight6]
  refine projRows_eq (arg m c main_arg2) (arg m c main_arg3) (arg m c main_arg4) (arg m c main_arg5) (arg m c main_arg6) (arg m c main_arg7) _ _ b t d (token (arg m c main_arg0) (arg m c main_arg1) b t) (⟨4368 + d.val, by omega⟩ : Fin 11552) ?_ ?_
  · intro k
    exact tokens_read m c b t k
  · intro k
    generalize arg m c main_arg7 = w
    pointwise

/-- Output 7 at sample `b`, token `t`, column `d`. -/
theorem out7_at (c : Dev nD) (b : Fin 2) (t : Fin 16640) (d : Fin 128) :
    ((dats m 0 c).arrAt 19 (cfgs 0).N : FVec Ideal S2x16640x128 .f32) (ix3 b t d)
      = if h : d.val < 16 then layerColumn (arg m c main_arg0) (arg m c main_arg1) (arg m c main_arg2) (arg m c main_arg3) (arg m c main_arg4) (arg m c main_arg5) (arg m c main_arg6) (arg m c main_arg7) b t ⟨4880 + d.val, by omega⟩ else 0 := by
  rw [final7]
  show projRows (V m c main_v0) (V m c main_v15) (V m c main_v17) (V m c main_v37) (fun k j => V m c main_v36 (ix2 k j)) b t d = _
  rw [entry_shift, entry_scale, entry_gain, entry_weight7]
  by_cases h : d.val < 16
  · rw [dif_pos h]
    refine projRows_eq (arg m c main_arg2) (arg m c main_arg3) (arg m c main_arg4) (arg m c main_arg5) (arg m c main_arg6) (arg m c main_arg7) _ _ b t d (token (arg m c main_arg0) (arg m c main_arg1) b t) ⟨4880 + d.val, by omega⟩ ?_ ?_
    · intro k
      exact tokens_read m c b t k
    · intro k
      generalize arg m c main_arg7 = w
      show padded _ (ix2 k d) = _
      rw [padded_lt _ k d h]
      pointwise
  · rw [dif_neg h]
    refine projRows_zero _ _ _ _ _ b t d fun k => ?_
    show padded _ (ix2 k d) = _
    exact padded_ge _ k d h

end Cert.Kernel4Ideal.Value

end
-- ==== Proof.ReferenceNarrow.lean ====
/- The fourth reference program: the narrow mixers' columns of the projection, read at an index. -/
module

public import proofs.«01_k».proof.Proof.ReferenceProjection
public import proofs.«01_k».proof.Proof.Gen.Reference4Ideal.Read
public import Idealize.ShloMosaic.Lib.KernelVsHost
public import Idealize.ShloMosaic.Lib.Pointwise

@[expose] public section

set_option maxRecDepth 16384

noncomputable section

namespace Cert.Reference4Ideal.Read

open Idealize.ShloMosaic Idealize.ShloMosaic.TcCoe Idealize.SL.Sem Cert.Layer
open Cert.Reference4Ideal

variable (x0 : FVec Ideal S2x16384x1024 .f32) (x1 : FVec Ideal S2x256x1024 .f32) (x2 : FVec Ideal S2x1024 .f32) (x3 : FVec Ideal S1024 .f32)
  (x4 : FVec Ideal S1024x6144 .f32) (x5 : FVec Ideal S6144 .f32) (x6 : FVec Ideal S1024 .f32) (x7 : FVec Ideal S1024x11552 .f32)

/-- The projection is the third program's. -/
theorem projection_eq : val_main_v63 (F := Ideal) x0 x1 x2 x3 x4 x5 x6 x7 = Reference3Ideal.Read.val_main_v63 (F := Ideal) x0 x1 x2 x3 x4 x5 x6 x7 := rfl

theorem column_at (b : Fin 2) (t : Fin 16640) (col : Fin 11552) :
    val_main_v63 (F := Ideal) x0 x1 x2 x3 x4 x5 x6 x7 (ix3 b t col) = layerColumn x0 x1 x2 x3 x4 x5 x6 x7 b t col := by
  rw [projection_eq]
  exact Reference3Ideal.Read.column_at x0 x1 x2 x3 x4 x5 x6 x7 b t col

/-- Sixteen columns widened to 128 with zeros. -/
theorem widened_at (y : FVec Ideal S2x16640x16 .f32) (z : FVec Ideal S_ .f32) (hz : z (Shape.Idx.first Gen.h_S_) = (0 : EReal)) (b : Fin 2) (t : Fin 16640) (d : Fin 128) :
    pad S2x16640x128 ![0, 0, 0] ![0, 0, 112] ![0, 0, 0] y z Gen.pads_S2x16640x16_S2x16640x128_000_000_01120 Gen.h_S_ (ix3 b t d)
      = if h : d.val < 16 then y (ix3 b t (⟨d.val, h⟩ : Fin 16)) else (0 : EReal) := by
  by_cases h : d.val < 16
  · rw [dif_pos h]
    exact pad_apply_of_inside _ _ _ _ _ _ _ _ _ (fun a => match a with
      | ⟨0, _⟩ => by show b.val = 0 + b.val * 1; omega
      | ⟨1, _⟩ => by show t.val = 0 + t.val * 1; omega
      | ⟨2, _⟩ => by show d.val = 0 + d.val * 1; omega)
  · rw [dif_neg h]
    refine (pad_apply_of_not_inside _ _ _ _ _ _ _ _ (2 : Fin 3) (fun q => h ?_)).trans hz
    have hq : (d.val - 0) / (0 + 1) < 16 := q.2.2
    omega

theorem main_v66_at (b : Fin 2) (t : Fin 16640) (d : Fin 512) :
    val_main_v66 (F := Ideal) x0 x1 x2 x3 x4 x5 x6 x7 (ix3 b t d) = layerColumn x0 x1 x2 x3 x4 x5 x6 x7 b t (⟨0 + d.val, by omega⟩ : Fin 11552) := by
  rw [← column_at x0 x1 x2 x3 x4 x5 x6 x7 b t]
  pointwise [val_main_v66, val_main_v64]

theorem main_v67_at (b : Fin 2) (t : Fin 16640) (d : Fin 512) :
    val_main_v67 (F := Ideal) x0 x1 x2 x3 x4 x5 x6 x7 (ix3 b t d) = layerColumn x0 x1 x2 x3 x4 x5 x6 x7 b t (⟨512 + d.val, by omega⟩ : Fin 11552) := by
  rw [← column_at x0 x1 x2 x3 x4 x5 x6 x7 b t]
  pointwise [val_main_v67, val_main_v64]

theorem main_v68_at (b : Fin 2) (t : Fin 16640) (d : Fin 256) :
    val_main_v68 (F := Ideal) x0 x1 x2 x3 x4 x5 x6 x7 (ix3 b t d) = layerColumn x0 x1 x2 x3 x4 x5 x6 x7 b t (⟨1024 + d.val, by omega⟩ : Fin 11552) := by
  rw [← column_at x0 x1 x2 x3 x4 x5 x6 x7 b t]
  pointwise [val_main_v68, val_main_v64]

theorem main_v71_at (b : Fin 2) (t : Fin 16640) (d : Fin 1024) :
    val_main_v71 (F := Ideal) x0 x1 x2 x3 x4 x5 x6 x7 (ix3 b t d) = layerColumn x0 x1 x2 x3 x4 x5 x6 x7 b t (⟨2832 + d.val, by omega⟩ : Fin 11552) := by
  rw [← column_at x0 x1 x2 x3 x4 x5 x6 x7 b t]
  pointwise [val_main_v71, val_main_v65]

theorem main_v72_at (b : Fin 2) (t : Fin 16640) (d : Fin 512) :
    val_main_v72 (F := Ideal) x0 x1 x2 x3 x4 x5 x6 x7 (ix3 b t d) = layerColumn x0 x1 x2 x3 x4 x5 x6 x7 b t (⟨3856 + d.val, by omega⟩ : Fin 11552) := by
  rw [← column_at x0 x1 x2 x3 x4 x5 x6 x7 b t]
  have e : (⟨3856 + d.val, by omega⟩ : Fin 11552) = ⟨2832 + (1024 + d.val), by omega⟩ := Fin.ext (by show 3856 + d.val = 2832 + (1024 + d.val); omega)
  rw [e]
  pointwise [val_main_v72, val_main_v65]

theorem main_v73_at (b : Fin 2) (t : Fin 16640) (d : Fin 512) :
    val_main_v73 (F := Ideal) x0 x1 x2 x3 x4 x5 x6 x7 (ix3 b t d) = layerColumn x0 x1 x2 x3 x4 x5 x6 x7 b t (⟨4368 + d.val, by omega⟩ : Fin 11552) := by
  rw [← column_at x0 x1 x2 x3 x4 x5 x6 x7 b t]
  have e : (⟨4368 + d.val, by omega⟩ : Fin 11552) = ⟨2832 + (1536 + d.val), by omega⟩ := Fin.ext (by show 4368 + d.val = 2832 + (1536 + d.val); omega)
  rw [e]
  pointwise [val_main_v73, val_main_v65]

theorem main_v70_at (b : Fin 2) (t : Fin 16640) (d : Fin 128) :
    val_main_v70 (F := Ideal) x0 x1 x2 x3 x4 x5 x6 x7 (ix3 b t d)
      = if h : d.val < 16 then layerColumn x0 x1 x2 x3 x4 x5 x6 x7 b t ⟨1280 + d.val, by omega⟩ else 0 := by
  refine (widened_at _ _ ?_ b t d).trans ?_
  · show (((0#32 : BitVec 32).toInt : ℝ) : EReal) = 0
    simp
  · by_cases h : d.val < 16
    · rw [dif_pos h, dif_pos h, ← column_at x0 x1 x2 x3 x4 x5 x6 x7 b t]
      pointwise [val_main_v69, val_main_v64]
    · rw [dif_neg h, dif_neg h]

theorem main_v75_at (b : Fin 2) (t : Fin 16640) (d : Fin 128) :
    val_main_v75 (F := Ideal) x0 x1 x2 x3 x4 x5 x6 x7 (ix3 b t d)
      = if h : d.val < 16 then layerColumn x0 x1 x2 x3 x4 x5 x6 x7 b t ⟨4880 + d.val, by omega⟩ else 0 := by
  refine (widened_at _ _ ?_ b t d).trans ?_
  · show (((0#32 : BitVec 32).toInt : ℝ) : EReal) = 0
    simp
  · by_cases h : d.val < 16
    · rw [dif_pos h, dif_pos h, ← column_at x0 x1 x2 x3 x4 x5 x6 x7 b t]
      have e : (⟨4880 + d.val, by omega⟩ : Fin 11552) = ⟨2832 + (2048 + d.val), by omega⟩ := Fin.ext (by show 4880 + d.val = 2832 + (2048 + d.val); omega)
      rw [e]
      pointwise [val_main_v74, val_main_v65]
    · rw [dif_neg h, dif_neg h]

end Cert.Reference4Ideal.Read

end
-- ==== Proof.NarrowClaims.lean ====
/- The claims about the narrow projections' program. -/
module

public import proofs.«01_k».proof.Defs
public import proofs.«01_k».proof.Proof.NarrowResult
public import proofs.«01_k».proof.Proof.ReferenceNarrow
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import Idealize.ShloMosaic.Lib.Quiescent

@[expose] public section

noncomputable section

namespace Cert.Layer

open Idealize.ShloMosaic Idealize.ShloMosaic.TcCoe Idealize.SL.Sem

/-- The reference runs, leaves its arguments and ends with no counter raised: it has no semaphore. -/
theorem quiescent4 : Cert.quiescent_Reference4Ideal (hReference4Ideal := Cert.Reference4Ideal.Gen.facts) := fun m ρ _ =>
  (θ_run _ _ _).mono (fun r h => ⟨fun c => (h c).2.2.2.2.2.2.2.2, sem_eq_zero_of_no_sems rfl r.2⟩) (Cert.Reference4Ideal.Value.run m ρ)

/-- The arrays of the reference's arguments are the kernel's. -/
structure Same4 (m : (ℓ : Loc Kernel4Ideal.nD Kernel4Ideal.τ Kernel4Ideal.sig) → Buf (Elt Ideal) ℓ) (c : Dev Kernel4Ideal.nD)
    (x0 : FVec Ideal Reference4Ideal.S2x16384x1024 .f32) (x1 : FVec Ideal Reference4Ideal.S2x256x1024 .f32) (x2 : FVec Ideal Reference4Ideal.S2x1024 .f32)
    (x3 : FVec Ideal Reference4Ideal.S1024 .f32) (x4 : FVec Ideal Reference4Ideal.S1024x6144 .f32) (x5 : FVec Ideal Reference4Ideal.S6144 .f32)
    (x6 : FVec Ideal Reference4Ideal.S1024 .f32) (x7 : FVec Ideal Reference4Ideal.S1024x11552 .f32) : Prop where
  h0 : x0 = Kernel4Ideal.Value.arg m c Kernel4Ideal.main_arg0
  h1 : x1 = Kernel4Ideal.Value.arg m c Kernel4Ideal.main_arg1
  h2 : x2 = Kernel4Ideal.Value.arg m c Kernel4Ideal.main_arg2
  h3 : x3 = Kernel4Ideal.Value.arg m c Kernel4Ideal.main_arg3
  h4 : x4 = Kernel4Ideal.Value.arg m c Kernel4Ideal.main_arg4
  h5 : x5 = Kernel4Ideal.Value.arg m c Kernel4Ideal.main_arg5
  h6 : x6 = Kernel4Ideal.Value.arg m c Kernel4Ideal.main_arg6
  h7 : x7 = Kernel4Ideal.Value.arg m c Kernel4Ideal.main_arg7

section Outputs

variable (m : (ℓ : Loc Kernel4Ideal.nD Kernel4Ideal.τ Kernel4Ideal.sig) → Buf (Elt Ideal) ℓ) (c : Dev Kernel4Ideal.nD)
    (x0 : FVec Ideal Reference4Ideal.S2x16384x1024 .f32) (x1 : FVec Ideal Reference4Ideal.S2x256x1024 .f32) (x2 : FVec Ideal Reference4Ideal.S2x1024 .f32)
    (x3 : FVec Ideal Reference4Ideal.S1024 .f32) (x4 : FVec Ideal Reference4Ideal.S1024x6144 .f32) (x5 : FVec Ideal Reference4Ideal.S6144 .f32)
    (x6 : FVec Ideal Reference4Ideal.S1024 .f32) (x7 : FVec Ideal Reference4Ideal.S1024x11552 .f32)

theorem equal4_0 (h : Same4 m c x0 x1 x2 x3 x4 x5 x6 x7) :
    Reference4Ideal.Read.val_main_v66 (F := Ideal) x0 x1 x2 x3 x4 x5 x6 x7 = (Kernel4Ideal.Gen.dats m 0 c).arrAt 12 Kernel4Ideal.cfg0.N := by
  obtain ⟨h0, h1, h2, h3, h4, h5, h6, h7⟩ := h
  subst h0 h1 h2 h3 h4 h5 h6 h7
  funext i
  have hi : i = ix3 (n0 := 2) (n1 := 16640) (n2 := 512) (i 0) (i 1) (i 2) := (ix3_eta (n0 := 2) (n1 := 16640) (n2 := 512) i).symm
  rw [hi]
  exact (Reference4Ideal.Read.main_v66_at _ _ _ _ _ _ _ _ (i 0) (i 1) (i 2)).trans (Kernel4Ideal.Value.out0_at m c (i 0) (i 1) (i 2)).symm

theorem equal4_1 (h : Same4 m c x0 x1 x2 x3 x4 x5 x6 x7) :
    Reference4Ideal.Read.val_main_v67 (F := Ideal) x0 x1 x2 x3 x4 x5 x6 x7 = (Kernel4Ideal.Gen.dats m 0 c).arrAt 13 Kernel4Ideal.cfg0.N := by
  obtain ⟨h0, h1, h2, h3, h4, h5, h6, h7⟩ := h
  subst h0 h1 h2 h3 h4 h5 h6 h7
  funext i
  have hi : i = ix3 (n0 := 2) (n1 := 16640) (n2 := 512) (i 0) (i 1) (i 2) := (ix3_eta (n0 := 2) (n1 := 16640) (n2 := 512) i).symm
  rw [hi]
  exact (Reference4Ideal.Read.main_v67_at _ _ _ _ _ _ _ _ (i 0) (i 1) (i 2)).trans (Kernel4Ideal.Value.out1_at m c (i 0) (i 1) (i 2)).symm

theorem equal4_2 (h : Same4 m c x0 x1 x2 x3 x4 x5 x6 x7) :
    Reference4Ideal.Read.val_main_v68 (F := Ideal) x0 x1 x2 x3 x4 x5 x6 x7 = (Kernel4Ideal.Gen.dats m 0 c).arrAt 14 Kernel4Ideal.cfg0.N := by
  obtain ⟨h0, h1, h2, h3, h4, h5, h6, h7⟩ := h
  subst h0 h1 h2 h3 h4 h5 h6 h7
  funext i
  have hi : i = ix3 (n0 := 2) (n1 := 16640) (n2 := 256) (i 0) (i 1) (i 2) := (ix3_eta (n0 := 2) (n1 := 16640) (n2 := 256) i).symm
  rw [hi]
  exact (Reference4Ideal.Read.main_v68_at _ _ _ _ _ _ _ _ (i 0) (i 1) (i 2)).trans (Kernel4Ideal.Value.out2_at m c (i 0) (i 1) (i 2)).symm

theorem equal4_3 (h : Same4 m c x0 x1 x2 x3 x4 x5 x6 x7) :
    Reference4Ideal.Read.val_main_v70 (F := Ideal) x0 x1 x2 x3 x4 x5 x6 x7 = (Kernel4Ideal.Gen.dats m 0 c).arrAt 15 Kernel4Ideal.cfg0.N := by
  obtain ⟨h0, h1, h2, h3, h4, h5, h6, h7⟩ := h
  subst h0 h1 h2 h3 h4 h5 h6 h7
  funext i
  have hi : i = ix3 (n0 := 2) (n1 := 16640) (n2 := 128) (i 0) (i 1) (i 2) := (ix3_eta (n0 := 2) (n1 := 16640) (n2 := 128) i).symm
  rw [hi]
  exact (Reference4Ideal.Read.main_v70_at _ _ _ _ _ _ _ _ (i 0) (i 1) (i 2)).trans (Kernel4Ideal.Value.out3_at m c (i 0) (i 1) (i 2)).symm

theorem equal4_4 (h : Same4 m c x0 x1 x2 x3 x4 x5 x6 x7) :
    Reference4Ideal.Read.val_main_v71 (F := Ideal) x0 x1 x2 x3 x4 x5 x6 x7 = (Kernel4Ideal.Gen.dats m 0 c).arrAt 16 Kernel4Ideal.cfg0.N := by
  obtain ⟨h0, h1, h2, h3, h4, h5, h6, h7⟩ := h
  subst h0 h1 h2 h3 h4 h5 h6 h7
  funext i
  have hi : i = ix3 (n0 := 2) (n1 := 16640) (n2 := 1024) (i 0) (i 1) (i 2) := (ix3_eta (n0 := 2) (n1 := 16640) (n2 := 1024) i).symm
  rw [hi]
  exact (Reference4Ideal.Read.main_v71_at _ _ _ _ _ _ _ _ (i 0) (i 1) (i 2)).trans (Kernel4Ideal.Value.out4_at m c (i 0) (i 1) (i 2)).symm

theorem equal4_5 (h : Same4 m c x0 x1 x2 x3 x4 x5 x6 x7) :
    Reference4Ideal.Read.val_main_v72 (F := Ideal) x0 x1 x2 x3 x4 x5 x6 x7 = (Kernel4Ideal.Gen.dats m 0 c).arrAt 17 Kernel4Ideal.cfg0.N := by
  obtain ⟨h0, h1, h2, h3, h4, h5, h6, h7⟩ := h
  subst h0 h1 h2 h3 h4 h5 h6 h7
  funext i
  have hi : i = ix3 (n0 := 2) (n1 := 16640) (n2 := 512) (i 0) (i 1) (i 2) := (ix3_eta (n0 := 2) (n1 := 16640) (n2 := 512) i).symm
  rw [hi]
  exact (Reference4Ideal.Read.main_v72_at _ _ _ _ _ _ _ _ (i 0) (i 1) (i 2)).trans (Kernel4Ideal.Value.out5_at m c (i 0) (i 1) (i 2)).symm

theorem equal4_6 (h : Same4 m c x0 x1 x2 x3 x4 x5 x6 x7) :
    Reference4Ideal.Read.val_main_v73 (F := Ideal) x0 x1 x2 x3 x4 x5 x6 x7 = (Kernel4Ideal.Gen.dats m 0 c).arrAt 18 Kernel4Ideal.cfg0.N := by
  obtain ⟨h0, h1, h2, h3, h4, h5, h6, h7⟩ := h
  subst h0 h1 h2 h3 h4 h5 h6 h7
  funext i
  have hi : i = ix3 (n0 := 2) (n1 := 16640) (n2 := 512) (i 0) (i 1) (i 2) := (ix3_eta (n0 := 2) (n1 := 16640) (n2 := 512) i).symm
  rw [hi]
  exact (Reference4Ideal.Read.main_v73_at _ _ _ _ _ _ _ _ (i 0) (i 1) (i 2)).trans (Kernel4Ideal.Value.out6_at m c (i 0) (i 1) (i 2)).symm

theorem equal4_7 (h : Same4 m c x0 x1 x2 x3 x4 x5 x6 x7) :
    Reference4Ideal.Read.val_main_v75 (F := Ideal) x0 x1 x2 x3 x4 x5 x6 x7 = (Kernel4Ideal.Gen.dats m 0 c).arrAt 19 Kernel4Ideal.cfg0.N := by
  obtain ⟨h0, h1, h2, h3, h4, h5, h6, h7⟩ := h
  subst h0 h1 h2 h3 h4 h5 h6 h7
  funext i
  have hi : i = ix3 (n0 := 2) (n1 := 16640) (n2 := 128) (i 0) (i 1) (i 2) := (ix3_eta (n0 := 2) (n1 := 16640) (n2 := 128) i).symm
  rw [hi]
  exact (Reference4Ideal.Read.main_v75_at _ _ _ _ _ _ _ _ (i 0) (i 1) (i 2)).trans (Kernel4Ideal.Value.out7_at m c (i 0) (i 1) (i 2)).symm

end Outputs

set_option maxHeartbeats 2000000 in
/-- The projections equal the plain mathematics. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => (Kernel4Ideal.Gen.dats m 0 c).arrAt 12 Kernel4Ideal.cfg0.N, fun c => (Kernel4Ideal.Gen.dats m 0 c).arrAt 13 Kernel4Ideal.cfg0.N, fun c => (Kernel4Ideal.Gen.dats m 0 c).arrAt 14 Kernel4Ideal.cfg0.N, fun c => (Kernel4Ideal.Gen.dats m 0 c).arrAt 15 Kernel4Ideal.cfg0.N, fun c => (Kernel4Ideal.Gen.dats m 0 c).arrAt 16 Kernel4Ideal.cfg0.N, fun c => (Kernel4Ideal.Gen.dats m 0 c).arrAt 17 Kernel4Ideal.cfg0.N, fun c => (Kernel4Ideal.Gen.dats m 0 c).arrAt 18 Kernel4Ideal.cfg0.N, fun c => (Kernel4Ideal.Gen.dats m 0 c).arrAt 19 Kernel4Ideal.cfg0.N, Kernel4Ideal.Value.run_blocks m g, ?_⟩
  refine (θ_run _ _ _).mono (fun r h c => ?_) (Cert.Reference4Ideal.Value.run m' g')
  obtain ⟨hv0, hv1, hv2, hv3, hv4, hv5, hv6, hv7, hrest⟩ := h c
  obtain ⟨a0, a1, a2, a3, a4, a5, a6, a7⟩ := hargs c
  have same := Same4.mk (m := m) (c := c) a0 a1 a2 a3 a4 a5 a6 a7
  exact ⟨hv0.trans ((Reference4Ideal.Read.val_main_v66_eq m' c).trans (equal4_0 m c _ _ _ _ _ _ _ _ same)), hv1.trans ((Reference4Ideal.Read.val_main_v67_eq m' c).trans (equal4_1 m c _ _ _ _ _ _ _ _ same)), hv2.trans ((Reference4Ideal.Read.val_main_v68_eq m' c).trans (equal4_2 m c _ _ _ _ _ _ _ _ same)), hv3.trans ((Reference4Ideal.Read.val_main_v70_eq m' c).trans (equal4_3 m c _ _ _ _ _ _ _ _ same)), hv4.trans ((Reference4Ideal.Read.val_main_v71_eq m' c).trans (equal4_4 m c _ _ _ _ _ _ _ _ same)), hv5.trans ((Reference4Ideal.Read.val_main_v72_eq m' c).trans (equal4_5 m c _ _ _ _ _ _ _ _ same)), hv6.trans ((Reference4Ideal.Read.val_main_v73_eq m' c).trans (equal4_6 m c _ _ _ _ _ _ _ _ same)), hv7.trans ((Reference4Ideal.Read.val_main_v75_eq m' c).trans (equal4_7 m c _ _ _ _ _ _ _ _ same)), hrest⟩

end Cert.Layer

end
-- ==== Proof.ColumnsArray.lean ====
/- The arrays the column-major projections' call leaves. -/
module

public import proofs.«01_k».proof.Proof.Gen.Kernel5Ideal.Frame
public import proofs.«01_k».proof.Proof.Projection
public import proofs.«01_k».proof.Proof.WideArray
public import Idealize.ShloMosaic.Lib.Pipeline.ValueKit

@[expose] public section

set_option maxRecDepth 16384

noncomputable section

namespace Cert.Kernel5Ideal.Value

open Idealize.ShloMosaic Idealize.ShloMosaic.TcCoe Idealize.SL.Sem Cert.Layer
open Idealize.ShloMosaic.Pipeline (Dat)
open Cert.Kernel5Ideal Cert.Kernel5Ideal.Gen

variable (m : (ℓ : Loc nD τ sig) → Buf (Elt Ideal) ℓ)

/-- The modulated norm the body projects, at row `r`, column `k`. -/
theorem modded_at (x : FVec Ideal S1x256x1024 .f32) (gain : FVec Ideal S1x1024 .f32) (sc sh : FVec Ideal S1x1x1x1024 .f32)
    (r : Fin 256) (k : Fin 1024) :
    k0_pay5 (F := Ideal) x gain sc sh (ix2 r k)
      = moddedRow (fun k => x (ix3 (0 : Fin 1) r k)) (fun k => gain (ix2 (0 : Fin 1) k))
          (fun k => sh (ix4 (0 : Fin 1) (0 : Fin 1) (0 : Fin 1) k)) (fun k => sc (ix4 (0 : Fin 1) (0 : Fin 1) (0 : Fin 1) k)) k := by
  exact Cert.Kernel3Ideal.Value.modded_at x gain sc sh r k

/-- Where the windows sit at a grid point. -/
theorem idx : ∀ t : Fin cfg0.N, win0_0.index t = ![t.val / 65, t.val % 65, 0]
    ∧ win0_1.index t = ![t.val / 65, 1 - t.val % 65, 0, 0]
    ∧ win0_2.index t = ![t.val / 65, 1 - t.val % 65, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val / 65, t.val % 65, 0]
    ∧ win0_10.index t = ![t.val / 65, t.val % 65, 0]
    ∧ win0_11.index t = ![t.val / 65, t.val % 65, 0]
    ∧ win0_12.index t = ![t.val / 65, t.val % 65, 0]
    ∧ win0_13.index t = ![t.val / 65, t.val % 65, 0] :=
  (by decide +kernel : ∀ t : Fin grid0.N, _)

/-- The body's modulated norm at a point is the array's there: row `r` of the point's tile is token `T` of sample `b`. -/
theorem rows (xc : FVec Ideal S2x16640x1024 .f32) (sh sc : FVec Ideal S2x2x1x1024 .f32) (gain : FVec Ideal S1x1024 .f32) (t : Fin cfg0.N)
    (r : Fin 256) (k : Fin 1024) (b : Fin 2) (T : Fin 16640) (hb : b.val = t.val / 65) (hT : T.val = t.val % 65 * 256 + r.val) :
    k0_pay5 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh) (ix2 r k)
      = moddedRow (fun k => xc (ix3 b T k)) (fun k => gain (ix2 (0 : Fin 1) k)) (fun k => sh (ix4 b (side T.val) (0 : Fin 1) k))
          (fun k => sc (ix4 b (side T.val) (0 : Fin 1) k)) k := by
  rw [modded_at]
  refine congrFun (congr (congr (congr (congrArg moddedRow (funext fun k => ?_)) (funext fun k => ?_)) (funext fun k => ?_)) (funext fun k => ?_)) k
  · blk_ext [idx t]
  · blk_ext [idx t]
  · blk_ext [idx t, side]
  · blk_ext [idx t, side]

set_option maxHeartbeats 1000000 in
/-- What the body stores to output 0 at a point is the array's rows there, whatever the operands hold. -/
theorem point0 (xc : FVec Ideal S2x16640x1024 .f32) (sh sc : FVec Ideal S2x2x1x1024 .f32) (gain : FVec Ideal S1x1024 .f32)
    (w : FVec Ideal S1024x512 .bf16) (t : Fin cfg0.N) (y : S1x256x512.Idx) :
    k0_pay6 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh)
        (((cfg0.win 4).blk t).view.read (Elt Ideal) w) y
      = projRows xc sh sc gain (fun k j => w (ix2 k j)) ((((cfg0.win 9).blk t).view.emb y) 0)
          ((((cfg0.win 9).blk t).view.emb y) 1) ((((cfg0.win 9).blk t).view.emb y) 2) := by
  obtain ⟨z, r, d, rfl⟩ : ∃ (z : Fin 1) (r : Fin 256) (d : Fin 512), y = ix3 z r d := ⟨y 0, y 1, y 2, eq_ix3 y⟩
  obtain rfl : z = 0 := Subsingleton.elim _ _
  pointwise [k0_pay6]
  refine Finset.sum_congr rfl fun k _ => Ideal.mul_congr ?_ ?_
  · exact rows xc sh sc gain t r k _ _ (by blk_simp [idx t]; rfl) (by blk_simp [idx t])
  · blk_ext [idx t]

/-- Output 0, whole, after the call. -/
theorem final0 (c : Dev nD) : (dats m 0 c).arrAt 9 (cfgs 0).N = fun i : S2x16640x512.Idx =>
    projRows (V m c main_v32) (V m c main_v15) (V m c main_v17) (V m c main_v38) (fun k j => V m c main_v33 (ix2 k j)) (i 0) (i 1) (i 2) := by
  refine (dats m 0 c).arrAt_eq_of_covers 9 _ (by decide +kernel) fun t _ y => ?_
  blk_simp
  rw [after0_9]; unfold_out out0_9; frame_out
  exact point0 (V m c main_v32) (V m c main_v15) (V m c main_v17) (V m c main_v38) (V m c main_v33) t y

set_option maxHeartbeats 1000000 in
/-- What the body stores to output 1 at a point is the array's rows there, whatever the operands hold. -/
theorem point1 (xc : FVec Ideal S2x16640x1024 .f32) (sh sc : FVec Ideal S2x2x1x1024 .f32) (gain : FVec Ideal S1x1024 .f32)
    (w : FVec Ideal S1024x512 .bf16) (t : Fin cfg0.N) (y : S1x256x512.Idx) :
    k0_pay1 (F := Ideal) (k0_pay5 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 5).blk t).view.read (Elt Ideal) w) y
      = projRows xc sh sc gain (fun k j => w (ix2 k j)) ((((cfg0.win 10).blk t).view.emb y) 0)
          ((((cfg0.win 10).blk t).view.emb y) 1) ((((cfg0.win 10).blk t).view.emb y) 2) := by
  obtain ⟨z, r, d, rfl⟩ : ∃ (z : Fin 1) (r : Fin 256) (d : Fin 512), y = ix3 z r d := ⟨y 0, y 1, y 2, eq_ix3 y⟩
  obtain rfl : z = 0 := Subsingleton.elim _ _
  pointwise [k0_pay1]
  refine Finset.sum_congr rfl fun k _ => Ideal.mul_congr ?_ ?_
  · exact rows xc sh sc gain t r k _ _ (by blk_simp [idx t]; rfl) (by blk_simp [idx t])
  · blk_ext [idx t]

/-- Output 1, whole, after the call. -/
theorem final1 (c : Dev nD) : (dats m 0 c).arrAt 10 (cfgs 0).N = fun i : S2x16640x512.Idx =>
    projRows (V m c main_v32) (V m c main_v15) (V m c main_v17) (V m c main_v38) (fun k j => V m c main_v34 (ix2 k j)) (i 0) (i 1) (i 2) := by
  refine (dats m 0 c).arrAt_eq_of_covers 10 _ (by decide +kernel) fun t _ y => ?_
  blk_simp
  rw [after0_10]; unfold_out out0_10; frame_out
  exact point1 (V m c main_v32) (V m c main_v15) (V m c main_v17) (V m c main_v38) (V m c main_v34) t y

set_option maxHeartbeats 1000000 in
/-- What the body stores to output 2 at a point is the array's rows there, whatever the operands hold. -/
theorem point2 (xc : FVec Ideal S2x16640x1024 .f32) (sh sc : FVec Ideal S2x2x1x1024 .f32) (gain : FVec Ideal S1x1024 .f32)
    (w : FVec Ideal S1024x512 .bf16) (t : Fin cfg0.N) (y : S1x256x512.Idx) :
    k0_pay2 (F := Ideal) (k0_pay5 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 6).blk t).view.read (Elt Ideal) w) y
      = projRows xc sh sc gain (fun k j => w (ix2 k j)) ((((cfg0.win 11).blk t).view.emb y) 0)
          ((((cfg0.win 11).blk t).view.emb y) 1) ((((cfg0.win 11).blk t).view.emb y) 2) := by
  obtain ⟨z, r, d, rfl⟩ : ∃ (z : Fin 1) (r : Fin 256) (d : Fin 512), y = ix3 z r d := ⟨y 0, y 1, y 2, eq_ix3 y⟩
  obtain rfl : z = 0 := Subsingleton.elim _ _
  pointwise [k0_pay2]
  refine Finset.sum_congr rfl fun k _ => Ideal.mul_congr ?_ ?_
  · exact rows xc sh sc gain t r k _ _ (by blk_simp [idx t]; rfl) (by blk_simp [idx t])
  · blk_ext [idx t]

/-- Output 2, whole, after the call. -/
theorem final2 (c : Dev nD) : (dats m 0 c).arrAt 11 (cfgs 0).N = fun i : S2x16640x512.Idx =>
    projRows (V m c main_v32) (V m c main_v15) (V m c main_v17) (V m c main_v38) (fun k j => V m c main_v35 (ix2 k j)) (i 0) (i 1) (i 2) := by
  refine (dats m 0 c).arrAt_eq_of_covers 11 _ (by decide +kernel) fun t _ y => ?_
  blk_simp
  rw [after0_11]; unfold_out out0_11; frame_out
  exact point2 (V m c main_v32) (V m c main_v15) (V m c main_v17) (V m c main_v38) (V m c main_v35) t y

set_option maxHeartbeats 1000000 in
/-- What the body stores to output 3 at a point is the array's rows there, whatever the operands hold. -/
theorem point3 (xc : FVec Ideal S2x16640x1024 .f32) (sh sc : FVec Ideal S2x2x1x1024 .f32) (gain : FVec Ideal S1x1024 .f32)
    (w : FVec Ideal S1024x512 .bf16) (t : Fin cfg0.N) (y : S1x256x512.Idx) :
    k0_pay3 (F := Ideal) (k0_pay5 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 7).blk t).view.read (Elt Ideal) w) y
      = projRows xc sh sc gain (fun k j => w (ix2 k j)) ((((cfg0.win 12).blk t).view.emb y) 0)
          ((((cfg0.win 12).blk t).view.emb y) 1) ((((cfg0.win 12).blk t).view.emb y) 2) := by
  obtain ⟨z, r, d, rfl⟩ : ∃ (z : Fin 1) (r : Fin 256) (d : Fin 512), y = ix3 z r d := ⟨y 0, y 1, y 2, eq_ix3 y⟩
  obtain rfl : z = 0 := Subsingleton.elim _ _
  pointwise [k0_pay3]
  refine Finset.sum_congr rfl fun k _ => Ideal.mul_congr ?_ ?_
  · exact rows xc sh sc gain t r k _ _ (by blk_simp [idx t]; rfl) (by blk_simp [idx t])
  · blk_ext [idx t]

/-- Output 3, whole, after the call. -/
theorem final3 (c : Dev nD) : (dats m 0 c).arrAt 12 (cfgs 0).N = fun i : S2x16640x512.Idx =>
    projRows (V m c main_v32) (V m c main_v15) (V m c main_v17) (V m c main_v38) (fun k j => V m c main_v36 (ix2 k j)) (i 0) (i 1) (i 2) := by
  refine (dats m 0 c).arrAt_eq_of_covers 12 _ (by decide +kernel) fun t _ y => ?_
  blk_simp
  rw [after0_12]; unfold_out out0_12; frame_out
  exact point3 (V m c main_v32) (V m c main_v15) (V m c main_v17) (V m c main_v38) (V m c main_v36) t y

set_option maxHeartbeats 1000000 in
/-- What the body stores to output 4 at a point is the array's rows there, whatever the operands hold. -/
theorem point4 (xc : FVec Ideal S2x16640x1024 .f32) (sh sc : FVec Ideal S2x2x1x1024 .f32) (gain : FVec Ideal S1x1024 .f32)
    (w : FVec Ideal S1024x512 .bf16) (t : Fin cfg0.N) (y : S1x256x512.Idx) :
    k0_pay4 (F := Ideal) (k0_pay5 (F := Ideal) (((cfg0.win 0).blk t).view.read (Elt Ideal) xc) (((cfg0.win 3).blk t).view.read (Elt Ideal) gain)
        (((cfg0.win 2).blk t).view.read (Elt Ideal) sc) (((cfg0.win 1).blk t).view.read (Elt Ideal) sh))
        (((cfg0.win 8).blk t).view.read (Elt Ideal) w) y
      = projRows xc sh sc gain (fun k j => w (ix2 k j)) ((((cfg0.win 13).blk t).view.emb y) 0)
          ((((cfg0.win 13).blk t).view.emb y) 1) ((((cfg0.win 13).blk t).view.emb y) 2) := by
  obtain ⟨z, r, d, rfl⟩ : ∃ (z : Fin 1) (r : Fin 256) (d : Fin 512), y = ix3 z r d := ⟨y 0, y 1, y 2, eq_ix3 y⟩
  obtain rfl : z = 0 := Subsingleton.elim _ _
  pointwise [k0_pay4]
  refine Finset.sum_congr rfl fun k _ => Ideal.mul_congr ?_ ?_
  · exact rows xc sh sc gain t r k _ _ (by blk_simp [idx t]; rfl) (by blk_simp [idx t])
  · blk_ext [idx t]

/-- Output 4, whole, after the call. -/
theorem final4 (c : Dev nD) : (dats m 0 c).arrAt 13 (cfgs 0).N = fun i : S2x16640x512.Idx =>
    projRows (V m c main_v32) (V m c main_v15) (V m c main_v17) (V m c main_v38) (fun k j => V m c main_v37 (ix2 k j)) (i 0) (i 1) (i 2) := by
  refine (dats m 0 c).arrAt_eq_of_covers 13 _ (by decide +kernel) fun t _ y => ?_
  blk_simp
  rw [after0_13]; unfold_out out0_13; frame_out
  exact point4 (V m c main_v32) (V m c main_v15) (V m c main_v17) (V m c main_v38) (V m c main_v37) t y

end Cert.Kernel5Ideal.Value

end
-- ==== Proof.ColumnMajor.lean ====
/- The column-major order of the latents: the grid of 256 rows by 64 columns read column after column. -/
module

public import proofs.«01_k».proof.Proof.Projection
public import proofs.«01_k».proof.Proof.Gen.Kernel5Ideal
public import Idealize.ShloMosaic.Lib.Pipeline.Value
public import Idealize.ShloMosaic.Lib.Pointwise

@[expose] public section

set_option maxRecDepth 16384

noncomputable section

namespace Cert.Layer

open Idealize.ShloMosaic

/-- The latent a place of the column-major order holds. -/
def latentPlace (u : Fin 16384) : Fin 16384 := ⟨u.val % 256 * 64 + u.val / 256, by omega⟩

/-- The token a place of the column-major order holds: the context stays in front. -/
def place (t : Fin 16640) : Fin 16640 :=
  if t.val < 256 then t else ⟨256 + ((t.val - 256) % 256 * 64 + (t.val - 256) / 256), by omega⟩

theorem place_context (t : Fin 16640) (ht : t.val < 256) : place t = t := if_pos ht

theorem place_latent (t : Fin 16640) (ht : ¬ t.val < 256) :
    (place t).val = 256 + (latentPlace (⟨t.val - 256, by omega⟩ : Fin 16384)).val := by
  unfold place
  rw [if_neg ht]
  rfl

theorem place_lt (t : Fin 16640) : (place t).val < 256 ↔ t.val < 256 := by
  by_cases ht : t.val < 256
  · rw [place_context t ht]
  · rw [place_latent t ht]
    omega

/-- Cutting the latents into the grid, exchanging its axes and laying it out again. -/
theorem columnMajor_at {n : ℕ} (y : FVec Ideal ⟨3, ![2, 16384, n]⟩ .f32)
    (h1 : Shape.ShapeCasts ⟨3, ![2, 16384, n]⟩ ⟨4, ![2, 256, 64, n]⟩)
    (h2 : Shape.Transposes ⟨4, ![2, 256, 64, n]⟩ [0, 2, 1, 3] ⟨4, ![2, 64, 256, n]⟩)
    (h3 : Shape.ShapeCasts ⟨4, ![2, 64, 256, n]⟩ ⟨3, ![2, 16384, n]⟩)
    (b : Fin 2) (u : Fin 16384) (k : Fin n) :
    shapeCast ⟨3, ![2, 16384, n]⟩ (transpose ⟨4, ![2, 64, 256, n]⟩ [0, 2, 1, 3] (shapeCast ⟨4, ![2, 256, 64, n]⟩ y h1) h2) h3 (ix3 b u k)
      = y (ix3 b (latentPlace u) k) := by
  have e3 := shapeCast_apply (transpose ⟨4, ![2, 64, 256, n]⟩ [0, 2, 1, 3] (shapeCast ⟨4, ![2, 256, 64, n]⟩ y h1) h2) h3 (ix3 b u k)
    (ix4 b (⟨u.val / 256, by omega⟩ : Fin 64) (⟨u.val % 256, by omega⟩ : Fin 256) k) (by
      rewrite [Shape.rowMajor_val_four, Shape.rowMajor_val_three]
      show ((b.val * 64 + u.val / 256) * 256 + u.val % 256) * n + k.val = (b.val * 16384 + u.val) * n + k.val
      have : (b.val * 64 + u.val / 256) * 256 + u.val % 256 = b.val * 16384 + u.val := by omega
      rw [this])
  have e2 := transpose_apply [0, 2, 1, 3] (shapeCast ⟨4, ![2, 256, 64, n]⟩ y h1) h2
    (ix4 b (⟨u.val / 256, by omega⟩ : Fin 64) (⟨u.val % 256, by omega⟩ : Fin 256) k)
    (ix4 b (⟨u.val % 256, by omega⟩ : Fin 256) (⟨u.val / 256, by omega⟩ : Fin 64) k) (fun a => match a with
      | ⟨0, _⟩ => rfl
      | ⟨1, _⟩ => rfl
      | ⟨2, _⟩ => rfl
      | ⟨3, _⟩ => rfl)
  have e1 := shapeCast_apply y h1 (ix4 b (⟨u.val % 256, by omega⟩ : Fin 256) (⟨u.val / 256, by omega⟩ : Fin 64) k) (ix3 b (latentPlace u) k) (by
      rewrite [Shape.rowMajor_val_three, Shape.rowMajor_val_four]
      show (b.val * 16384 + (u.val % 256 * 64 + u.val / 256)) * n + k.val = ((b.val * 256 + u.val % 256) * 64 + u.val / 256) * n + k.val
      have : b.val * 16384 + (u.val % 256 * 64 + u.val / 256) = (b.val * 256 + u.val % 256) * 64 + u.val / 256 := by omega
      rw [this])
  exact e3.trans (e2.trans e1)

section Shapes

open Cert.Kernel5Ideal Cert.Kernel5Ideal.Gen

variable (x : FVec Ideal S2x16384x1024 .f32) (ctx : FVec Ideal S2x256x1024 .f32) (a : FVec Ideal S2x1024 .f32) (ac : FVec Ideal S1024 .f32)
  (w : FVec Ideal S1024x6144 .f32) (v : FVec Ideal S6144 .f32) (g : FVec Ideal S1024 .f32) (win : FVec Ideal S1024x11552 .f32)

/-- The kernel's tokens in column-major order. -/
def columnTokens : FVec Ideal S2x16640x1024 .f32 :=
  concatenate S2x16640x1024 1
    [⟨S2x256x1024, extractStridedSlice S2x256x1024 ![0, 0, 0] (tokens x ctx) slices_S2x16640x1024_S2x256x1024_0_0_0⟩,
      ⟨S2x16384x1024, shapeCast S2x16384x1024
        (transpose S2x64x256x1024 [0, 2, 1, 3]
          (shapeCast S2x256x64x1024
            (extractStridedSlice S2x16384x1024 ![0, 256, 0] (tokens x ctx) slices_S2x16640x1024_S2x16384x1024_0_256_0)
            shapeCasts_S2x16384x1024_S2x256x64x1024) transposes_S2x256x64x1024_S2x64x256x1024_0_2_1_3)
        shapeCasts_S2x64x256x1024_S2x16384x1024⟩] concatenates_S2x256x1024_S2x16384x1024_S2x16640x1024_d1

theorem columnTokens_at (b : Fin 2) (t : Fin 16640) (k : Fin 1024) : columnTokens x ctx (ix3 b t k) = token x ctx b (place t) k := by
  refine (after_context _ _ _ b t k).trans ?_
  rw [← tokens_at x ctx b (place t) k]
  generalize tokens x ctx = z
  by_cases ht : t.val < 256
  · rw [dif_pos ht, place_context t ht]
    pointwise
  · rw [dif_neg ht]
    refine (columnMajor_at _ _ _ _ b (⟨t.val - 256, by omega⟩ : Fin 16384) k).trans ?_
    have hp : place t = ⟨256 + (latentPlace (⟨t.val - 256, by omega⟩ : Fin 16384)).val, by omega⟩ := Fin.ext (place_latent t ht)
    rw [hp]
    pointwise

/-- A place holds a context token when the place is the context's, so the condition is the token's own. -/
theorem condition_place (b : Fin 2) (t : Fin 16640) : condition a ac b (place t) = condition a ac b t := by
  by_cases ht : t.val < 256
  · rw [place_context t ht]
  · rw [condition_latent a ac b t ht, condition_latent a ac b (place t) (fun h => ht ((place_lt t).mp h))]

theorem projected_place (b : Fin 2) (t : Fin 16640) (col : Fin 11552) :
    projected w v g win (token x ctx b (place t)) (condition a ac b t) col = layerColumn x ctx a ac w v g win b (place t) col := by
  unfold layerColumn
  rw [condition_place]

end Shapes

end Cert.Layer

end
-- ==== Proof.ColumnsResult.lean ====
/- What the column-major projections' program returns, as the layer's columns. -/
module

public import proofs.«01_k».proof.Proof.ColumnsArray
public import proofs.«01_k».proof.Proof.ColumnMajor
public import proofs.«01_k».proof.Proof.Gen.Kernel5Ideal.Value
public import Idealize.ShloMosaic.Lib.KernelVsHost
public import Idealize.ShloMosaic.Lib.Claim

@[expose] public section

set_option maxRecDepth 16384

noncomputable section

namespace Cert.Kernel5Ideal.Value

open Idealize.ShloMosaic Idealize.ShloMosaic.TcCoe Idealize.SL.Sem Cert.Layer
open Cert.Kernel5Ideal Cert.Kernel5Ideal.Gen

variable (m : (ℓ : Loc nD τ sig) → Buf (Elt Ideal) ℓ)

/-- An argument's contents at launch. -/
abbrev arg (c : Dev nD) (b : Ref sig .tc) : Buf (Elt Ideal) ((c.tc : Thread nD τ).loc b) := m ((c.tc : Thread nD τ).loc b)

/-- The token array. -/
theorem entry_tokens (c : Dev nD) : V m c main_v32
    = columnTokens (arg m c main_arg0) (arg m c main_arg1) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  unfold columnTokens
  refine congrArg₂ (fun a b => concatenate S2x16640x1024 1 [⟨S2x256x1024, a⟩, ⟨S2x16384x1024, b⟩]
    concatenates_S2x256x1024_S2x16384x1024_S2x16640x1024_d1) ?_ ?_
  · after_results_simp
    rfl
  · after_results_simp
    rfl

/-- The shift's table. -/
theorem entry_shift (c : Dev nD) : V m c main_v15
    = shiftTable (arg m c main_arg2) (arg m c main_arg3) (arg m c main_arg4) (arg m c main_arg5) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The scale's table. -/
theorem entry_scale (c : Dev nD) : V m c main_v17
    = scaleTable (arg m c main_arg2) (arg m c main_arg3) (arg m c main_arg4) (arg m c main_arg5) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The gain. -/
theorem entry_gain (c : Dev nD) : V m c main_v38
    = shapeCast S1x1024 (arg m c main_arg6) shapeCasts_S1024_S1x1024 := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- Weight 0: columns from 4896. -/
theorem entry_weight0 (c : Dev nD) : V m c main_v33
    = (extractStridedSlice S1024x512 ![0, 4896] (truncf (F := Ideal) .bf16 (arg m c main_arg7) bitsLt_bf16_f32) slices_S1024x11552_S1024x512_0_4896 : FVec Ideal S1024x512 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 1: columns from 5408. -/
theorem entry_weight1 (c : Dev nD) : V m c main_v34
    = (extractStridedSlice S1024x512 ![0, 5408] (truncf (F := Ideal) .bf16 (arg m c main_arg7) bitsLt_bf16_f32) slices_S1024x11552_S1024x512_0_5408 : FVec Ideal S1024x512 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 2: columns from 5920. -/
theorem entry_weight2 (c : Dev nD) : V m c main_v35
    = (extractStridedSlice S1024x512 ![0, 5920] (truncf (F := Ideal) .bf16 (arg m c main_arg7) bitsLt_bf16_f32) slices_S1024x11552_S1024x512_0_5920 : FVec Ideal S1024x512 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 3: columns from 6432. -/
theorem entry_weight3 (c : Dev nD) : V m c main_v36
    = (extractStridedSlice S1024x512 ![0, 6432] (truncf (F := Ideal) .bf16 (arg m c main_arg7) bitsLt_bf16_f32) slices_S1024x11552_S1024x512_0_6432 : FVec Ideal S1024x512 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- Weight 4: columns from 6944. -/
theorem entry_weight4 (c : Dev nD) : V m c main_v37
    = (extractStridedSlice S1024x512 ![0, 6944] (truncf (F := Ideal) .bf16 (arg m c main_arg7) bitsLt_bf16_f32) slices_S1024x11552_S1024x512_0_6944 : FVec Ideal S1024x512 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

theorem tokens_read (c : Dev nD) (b : Fin 2) (t : Fin 16640) (k : Fin 1024) :
    V m c main_v32 (ix3 b t k) = token (arg m c main_arg0) (arg m c main_arg1) b (place t) k := by
  rw [entry_tokens]
  exact columnTokens_at _ _ b t k

/-- Output 0 at sample `b`, token `t`, column `d`. -/
theorem out0_at (c : Dev nD) (b : Fin 2) (t : Fin 16640) (d : Fin 512) :
    ((dats m 0 c).arrAt 9 (cfgs 0).N : FVec Ideal S2x16640x512 .f32) (ix3 b t d)
      = layerColumn (arg m c main_arg0) (arg m c main_arg1) (arg m c main_arg2) (arg m c main_arg3) (arg m c main_arg4) (arg m c main_arg5) (arg m c main_arg6) (arg m c main_arg7) b (place t) (⟨4896 + d.val, by omega⟩ : Fin 11552) := by
  rw [final0]
  show projRows (V m c main_v32) (V m c main_v15) (V m c main_v17) (V m c main_v38) (fun k j => V m c main_v33 (ix2 k j)) b t d = _
  rw [entry_shift, entry_scale, entry_gain, entry_weight0]
  refine (projRows_eq (arg m c main_arg2) (arg m c main_arg3) (arg m c main_arg4) (arg m c main_arg5) (arg m c main_arg6) (arg m c main_arg7) _ _ b t d (token (arg m c main_arg0) (arg m c main_arg1) b (place t)) (⟨4896 + d.val, by omega⟩ : Fin 11552) ?_ ?_).trans (projected_place _ _ _ _ _ _ _ _ b t _)
  · intro k
    exact tokens_read m c b t k
  · intro k
    generalize arg m c main_arg7 = w
    pointwise

/-- Output 1 at sample `b`, token `t`, column `d`. -/
theorem out1_at (c : Dev nD) (b : Fin 2) (t : Fin 16640) (d : Fin 512) :
    ((dats m 0 c).arrAt 10 (cfgs 0).N : FVec Ideal S2x16640x512 .f32) (ix3 b t d)
      = layerColumn (arg m c main_arg0) (arg m c main_arg1) (arg m c main_arg2) (arg m c main_arg3) (arg m c main_arg4) (arg m c main_arg5) (arg m c main_arg6) (arg m c main_arg7) b (place t) (⟨5408 + d.val, by omega⟩ : Fin 11552) := by
  rw [final1]
  show projRows (V m c main_v32) (V m c main_v15) (V m c main_v17) (V m c main_v38) (fun k j => V m c main_v34 (ix2 k j)) b t d = _
  rw [entry_shift, entry_scale, entry_gain, entry_weight1]
  refine (projRows_eq (arg m c main_arg2) (arg m c main_arg3) (arg m c main_arg4) (arg m c main_arg5) (arg m c main_arg6) (arg m c main_arg7) _ _ b t d (token (arg m c main_arg0) (arg m c main_arg1) b (place t)) (⟨5408 + d.val, by omega⟩ : Fin 11552) ?_ ?_).trans (projected_place _ _ _ _ _ _ _ _ b t _)
  · intro k
    exact tokens_read m c b t k
  · intro k
    generalize arg m c main_arg7 = w
    pointwise

/-- Output 2 at sample `b`, token `t`, column `d`. -/
theorem out2_at (c : Dev nD) (b : Fin 2) (t : Fin 16640) (d : Fin 512) :
    ((dats m 0 c).arrAt 11 (cfgs 0).N : FVec Ideal S2x16640x512 .f32) (ix3 b t d)
      = layerColumn (arg m c main_arg0) (arg m c main_arg1) (arg m c main_arg2) (arg m c main_arg3) (arg m c main_arg4) (arg m c main_arg5) (arg m c main_arg6) (arg m c main_arg7) b (place t) (⟨5920 + d.val, by omega⟩ : Fin 11552) := by
  rw [final2]
  show projRows (V m c main_v32) (V m c main_v15) (V m c main_v17) (V m c main_v38) (fun k j => V m c main_v35 (ix2 k j)) b t d = _
  rw [entry_shift, entry_scale, entry_gain, entry_weight2]
  refine (projRows_eq (arg m c main_arg2) (arg m c main_arg3) (arg m c main_arg4) (arg m c main_arg5) (arg m c main_arg6) (arg m c main_arg7) _ _ b t d (token (arg m c main_arg0) (arg m c main_arg1) b (place t)) (⟨5920 + d.val, by omega⟩ : Fin 11552) ?_ ?_).trans (projected_place _ _ _ _ _ _ _ _ b t _)
  · intro k
    exact tokens_read m c b t k
  · intro k
    generalize arg m c main_arg7 = w
    pointwise

/-- Output 3 at sample `b`, token `t`, column `d`. -/
theorem out3_at (c : Dev nD) (b : Fin 2) (t : Fin 16640) (d : Fin 512) :
    ((dats m 0 c).arrAt 12 (cfgs 0).N : FVec Ideal S2x16640x512 .f32) (ix3 b t d)
      = layerColumn (arg m c main_arg0) (arg m c main_arg1) (arg m c main_arg2) (arg m c main_arg3) (arg m c main_arg4) (arg m c main_arg5) (arg m c main_arg6) (arg m c main_arg7) b (place t) (⟨6432 + d.val, by omega⟩ : Fin 11552) := by
  rw [final3]
  show projRows (V m c main_v32) (V m c main_v15) (V m c main_v17) (V m c main_v38) (fun k j => V m c main_v36 (ix2 k j)) b t d = _
  rw [entry_shift, entry_scale, entry_gain, entry_weight3]
  refine (projRows_eq (arg m c main_arg2) (arg m c main_arg3) (arg m c main_arg4) (arg m c main_arg5) (arg m c main_arg6) (arg m c main_arg7) _ _ b t d (token (arg m c main_arg0) (arg m c main_arg1) b (place t)) (⟨6432 + d.val, by omega⟩ : Fin 11552) ?_ ?_).trans (projected_place _ _ _ _ _ _ _ _ b t _)
  · intro k
    exact tokens_read m c b t k
  · intro k
    generalize arg m c main_arg7 = w
    pointwise

/-- Output 4 at sample `b`, token `t`, column `d`. -/
theorem out4_at (c : Dev nD) (b : Fin 2) (t : Fin 16640) (d : Fin 512) :
    ((dats m 0 c).arrAt 13 (cfgs 0).N : FVec Ideal S2x16640x512 .f32) (ix3 b t d)
      = layerColumn (arg m c main_arg0) (arg m c main_arg1) (arg m c main_arg2) (arg m c main_arg3) (arg m c main_arg4) (arg m c main_arg5) (arg m c main_arg6) (arg m c main_arg7) b (place t) (⟨6944 + d.val, by omega⟩ : Fin 11552) := by
  rw [final4]
  show projRows (V m c main_v32) (V m c main_v15) (V m c main_v17) (V m c main_v38) (fun k j => V m c main_v37 (ix2 k j)) b t d = _
  rw [entry_shift, entry_scale, entry_gain, entry_weight4]
  refine (projRows_eq (arg m c main_arg2) (arg m c main_arg3) (arg m c main_arg4) (arg m c main_arg5) (arg m c main_arg6) (arg m c main_arg7) _ _ b t d (token (arg m c main_arg0) (arg m c main_arg1) b (place t)) (⟨6944 + d.val, by omega⟩ : Fin 11552) ?_ ?_).trans (projected_place _ _ _ _ _ _ _ _ b t _)
  · intro k
    exact tokens_read m c b t k
  · intro k
    generalize arg m c main_arg7 = w
    pointwise

end Cert.Kernel5Ideal.Value

end
-- ==== Proof.ReferenceColumns.lean ====
/- The fifth reference program: the column-major mixers' columns of the projection, read at an index. -/
module

public import proofs.«01_k».proof.Proof.ReferenceProjection
public import proofs.«01_k».proof.Proof.ColumnMajor
public import proofs.«01_k».proof.Proof.Gen.Reference5Ideal.Read
public import Idealize.ShloMosaic.Lib.KernelVsHost
public import Idealize.ShloMosaic.Lib.Pointwise

@[expose] public section

set_option maxRecDepth 16384

noncomputable section

namespace Cert.Reference5Ideal.Read

open Idealize.ShloMosaic Idealize.ShloMosaic.TcCoe Idealize.SL.Sem Cert.Layer
open Cert.Reference5Ideal

variable (x0 : FVec Ideal S2x16384x1024 .f32) (x1 : FVec Ideal S2x256x1024 .f32) (x2 : FVec Ideal S2x1024 .f32) (x3 : FVec Ideal S1024 .f32)
  (x4 : FVec Ideal S1024x6144 .f32) (x5 : FVec Ideal S6144 .f32) (x6 : FVec Ideal S1024 .f32) (x7 : FVec Ideal S1024x11552 .f32)

/-- The projections of the latents and of the context are the third program's. -/
theorem latents_eq : val_main_v61 (F := Ideal) x0 x2 x4 x5 x6 x7 = Reference3Ideal.Read.val_main_v61 (F := Ideal) x0 x2 x4 x5 x6 x7 := rfl

theorem contexts_eq : val_main_v62 (F := Ideal) x1 x3 x4 x5 x6 x7 = Reference3Ideal.Read.val_main_v62 (F := Ideal) x1 x3 x4 x5 x6 x7 := rfl

/-- The five groups of columns, in column-major order. -/
theorem columns_at (b : Fin 2) (t : Fin 16640) (d : Fin 2560) :
    val_main_v68 (F := Ideal) x0 x1 x2 x3 x4 x5 x6 x7 (ix3 b t d) = layerColumn x0 x1 x2 x3 x4 x5 x6 x7 b (place t) (⟨4896 + d.val, by omega⟩ : Fin 11552) := by
  rw [← projected_place]
  unfold val_main_v68
  refine (after_context _ _ _ b t d).trans ?_
  by_cases ht : t.val < 256
  · rw [dif_pos ht, place_context t ht, token_context x0 x1 b t ht, condition_context x2 x3 b t ht]
    rw [← Reference3Ideal.Read.context_column_at, ← contexts_eq]
    pointwise [val_main_v64]
  · rw [dif_neg ht, condition_latent x2 x3 b t ht]
    have hn : ¬ (place t).val < 256 := fun h => ht ((place_lt t).mp h)
    rw [token_latent x0 x1 b (place t) hn]
    have hp : (⟨(place t).val - 256, by omega⟩ : Fin 16384) = latentPlace (⟨t.val - 256, by omega⟩ : Fin 16384) :=
      Fin.ext (by show (place t).val - 256 = _; rw [place_latent t ht]; omega)
    rw [hp]
    unfold val_main_v67 val_main_v66 val_main_v65
    refine (columnMajor_at _ _ _ _ b (⟨t.val - 256, by omega⟩ : Fin 16384) d).trans ?_
    rw [← Reference3Ideal.Read.latent_column_at, ← latents_eq]
    pointwise [val_main_v63]

theorem main_v69_at (b : Fin 2) (t : Fin 16640) (d : Fin 512) :
    val_main_v69 (F := Ideal) x0 x1 x2 x3 x4 x5 x6 x7 (ix3 b t d) = layerColumn x0 x1 x2 x3 x4 x5 x6 x7 b (place t) (⟨4896 + d.val, by omega⟩ : Fin 11552) := by
  have e : val_main_v69 (F := Ideal) x0 x1 x2 x3 x4 x5 x6 x7 (ix3 b t d) = val_main_v68 (F := Ideal) x0 x1 x2 x3 x4 x5 x6 x7 (ix3 b t (⟨0 + d.val, by omega⟩ : Fin 2560)) := by
    pointwise [val_main_v69]
  rw [e, columns_at]
  exact congrArg (layerColumn x0 x1 x2 x3 x4 x5 x6 x7 b (place t)) (Fin.ext (by show 4896 + (0 + d.val) = 4896 + d.val; omega))

theorem main_v70_at (b : Fin 2) (t : Fin 16640) (d : Fin 512) :
    val_main_v70 (F := Ideal) x0 x1 x2 x3 x4 x5 x6 x7 (ix3 b t d) = layerColumn x0 x1 x2 x3 x4 x5 x6 x7 b (place t) (⟨5408 + d.val, by omega⟩ : Fin 11552) := by
  have e : val_main_v70 (F := Ideal) x0 x1 x2 x3 x4 x5 x6 x7 (ix3 b t d) = val_main_v68 (F := Ideal) x0 x1 x2 x3 x4 x5 x6 x7 (ix3 b t (⟨512 + d.val, by omega⟩ : Fin 2560)) := by
    pointwise [val_main_v70]
  rw [e, columns_at]
  exact congrArg (layerColumn x0 x1 x2 x3 x4 x5 x6 x7 b (place t)) (Fin.ext (by show 4896 + (512 + d.val) = 5408 + d.val; omega))

theorem main_v71_at (b : Fin 2) (t : Fin 16640) (d : Fin 512) :
    val_main_v71 (F := Ideal) x0 x1 x2 x3 x4 x5 x6 x7 (ix3 b t d) = layerColumn x0 x1 x2 x3 x4 x5 x6 x7 b (place t) (⟨5920 + d.val, by omega⟩ : Fin 11552) := by
  have e : val_main_v71 (F := Ideal) x0 x1 x2 x3 x4 x5 x6 x7 (ix3 b t d) = val_main_v68 (F := Ideal) x0 x1 x2 x3 x4 x5 x6 x7 (ix3 b t (⟨1024 + d.val, by omega⟩ : Fin 2560)) := by
    pointwise [val_main_v71]
  rw [e, columns_at]
  exact congrArg (layerColumn x0 x1 x2 x3 x4 x5 x6 x7 b (place t)) (Fin.ext (by show 4896 + (1024 + d.val) = 5920 + d.val; omega))

theorem main_v72_at (b : Fin 2) (t : Fin 16640) (d : Fin 512) :
    val_main_v72 (F := Ideal) x0 x1 x2 x3 x4 x5 x6 x7 (ix3 b t d) = layerColumn x0 x1 x2 x3 x4 x5 x6 x7 b (place t) (⟨6432 + d.val, by omega⟩ : Fin 11552) := by
  have e : val_main_v72 (F := Ideal) x0 x1 x2 x3 x4 x5 x6 x7 (ix3 b t d) = val_main_v68 (F := Ideal) x0 x1 x2 x3 x4 x5 x6 x7 (ix3 b t (⟨1536 + d.val, by omega⟩ : Fin 2560)) := by
    pointwise [val_main_v72]
  rw [e, columns_at]
  exact congrArg (layerColumn x0 x1 x2 x3 x4 x5 x6 x7 b (place t)) (Fin.ext (by show 4896 + (1536 + d.val) = 6432 + d.val; omega))

theorem main_v73_at (b : Fin 2) (t : Fin 16640) (d : Fin 512) :
    val_main_v73 (F := Ideal) x0 x1 x2 x3 x4 x5 x6 x7 (ix3 b t d) = layerColumn x0 x1 x2 x3 x4 x5 x6 x7 b (place t) (⟨6944 + d.val, by omega⟩ : Fin 11552) := by
  have e : val_main_v73 (F := Ideal) x0 x1 x2 x3 x4 x5 x6 x7 (ix3 b t d) = val_main_v68 (F := Ideal) x0 x1 x2 x3 x4 x5 x6 x7 (ix3 b t (⟨2048 + d.val, by omega⟩ : Fin 2560)) := by
    pointwise [val_main_v73]
  rw [e, columns_at]
  exact congrArg (layerColumn x0 x1 x2 x3 x4 x5 x6 x7 b (place t)) (Fin.ext (by show 4896 + (2048 + d.val) = 6944 + d.val; omega))

end Cert.Reference5Ideal.Read

end
-- ==== Proof.ColumnsClaims.lean ====
/- The claims about the column-major projections' program. -/
module

public import proofs.«01_k».proof.Defs
public import proofs.«01_k».proof.Proof.ColumnsResult
public import proofs.«01_k».proof.Proof.ReferenceColumns
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import Idealize.ShloMosaic.Lib.Quiescent

@[expose] public section

noncomputable section

namespace Cert.Layer

open Idealize.ShloMosaic Idealize.ShloMosaic.TcCoe Idealize.SL.Sem

/-- The reference runs, leaves its arguments and ends with no counter raised: it has no semaphore. -/
theorem quiescent5 : Cert.quiescent_Reference5Ideal (hReference5Ideal := Cert.Reference5Ideal.Gen.facts) := fun m ρ _ =>
  (θ_run _ _ _).mono (fun r h => ⟨fun c => (h c).2.2.2.2.2, sem_eq_zero_of_no_sems rfl r.2⟩) (Cert.Reference5Ideal.Value.run m ρ)

/-- The arrays of the reference's arguments are the kernel's. -/
structure Same5 (m : (ℓ : Loc Kernel5Ideal.nD Kernel5Ideal.τ Kernel5Ideal.sig) → Buf (Elt Ideal) ℓ) (c : Dev Kernel5Ideal.nD)
    (x0 : FVec Ideal Reference5Ideal.S2x16384x1024 .f32) (x1 : FVec Ideal Reference5Ideal.S2x256x1024 .f32) (x2 : FVec Ideal Reference5Ideal.S2x1024 .f32)
    (x3 : FVec Ideal Reference5Ideal.S1024 .f32) (x4 : FVec Ideal Reference5Ideal.S1024x6144 .f32) (x5 : FVec Ideal Reference5Ideal.S6144 .f32)
    (x6 : FVec Ideal Reference5Ideal.S1024 .f32) (x7 : FVec Ideal Reference5Ideal.S1024x11552 .f32) : Prop where
  h0 : x0 = Kernel5Ideal.Value.arg m c Kernel5Ideal.main_arg0
  h1 : x1 = Kernel5Ideal.Value.arg m c Kernel5Ideal.main_arg1
  h2 : x2 = Kernel5Ideal.Value.arg m c Kernel5Ideal.main_arg2
  h3 : x3 = Kernel5Ideal.Value.arg m c Kernel5Ideal.main_arg3
  h4 : x4 = Kernel5Ideal.Value.arg m c Kernel5Ideal.main_arg4
  h5 : x5 = Kernel5Ideal.Value.arg m c Kernel5Ideal.main_arg5
  h6 : x6 = Kernel5Ideal.Value.arg m c Kernel5Ideal.main_arg6
  h7 : x7 = Kernel5Ideal.Value.arg m c Kernel5Ideal.main_arg7

section Outputs

variable (m : (ℓ : Loc Kernel5Ideal.nD Kernel5Ideal.τ Kernel5Ideal.sig) → Buf (Elt Ideal) ℓ) (c : Dev Kernel5Ideal.nD)
    (x0 : FVec Ideal Reference5Ideal.S2x16384x1024 .f32) (x1 : FVec Ideal Reference5Ideal.S2x256x1024 .f32) (x2 : FVec Ideal Reference5Ideal.S2x1024 .f32)
    (x3 : FVec Ideal Reference5Ideal.S1024 .f32) (x4 : FVec Ideal Reference5Ideal.S1024x6144 .f32) (x5 : FVec Ideal Reference5Ideal.S6144 .f32)
    (x6 : FVec Ideal Reference5Ideal.S1024 .f32) (x7 : FVec Ideal Reference5Ideal.S1024x11552 .f32)

theorem equal5_0 (h : Same5 m c x0 x1 x2 x3 x4 x5 x6 x7) :
    Reference5Ideal.Read.val_main_v69 (F := Ideal) x0 x1 x2 x3 x4 x5 x6 x7 = (Kernel5Ideal.Gen.dats m 0 c).arrAt 9 Kernel5Ideal.cfg0.N := by
  obtain ⟨h0, h1, h2, h3, h4, h5, h6, h7⟩ := h
  subst h0 h1 h2 h3 h4 h5 h6 h7
  funext i
  have hi : i = ix3 (n0 := 2) (n1 := 16640) (n2 := 512) (i 0) (i 1) (i 2) := (ix3_eta (n0 := 2) (n1 := 16640) (n2 := 512) i).symm
  rw [hi]
  exact (Reference5Ideal.Read.main_v69_at _ _ _ _ _ _ _ _ (i 0) (i 1) (i 2)).trans (Kernel5Ideal.Value.out0_at m c (i 0) (i 1) (i 2)).symm

theorem equal5_1 (h : Same5 m c x0 x1 x2 x3 x4 x5 x6 x7) :
    Reference5Ideal.Read.val_main_v70 (F := Ideal) x0 x1 x2 x3 x4 x5 x6 x7 = (Kernel5Ideal.Gen.dats m 0 c).arrAt 10 Kernel5Ideal.cfg0.N := by
  obtain ⟨h0, h1, h2, h3, h4, h5, h6, h7⟩ := h
  subst h0 h1 h2 h3 h4 h5 h6 h7
  funext i
  have hi : i = ix3 (n0 := 2) (n1 := 16640) (n2 := 512) (i 0) (i 1) (i 2) := (ix3_eta (n0 := 2) (n1 := 16640) (n2 := 512) i).symm
  rw [hi]
  exact (Reference5Ideal.Read.main_v70_at _ _ _ _ _ _ _ _ (i 0) (i 1) (i 2)).trans (Kernel5Ideal.Value.out1_at m c (i 0) (i 1) (i 2)).symm

theorem equal5_2 (h : Same5 m c x0 x1 x2 x3 x4 x5 x6 x7) :
    Reference5Ideal.Read.val_main_v71 (F := Ideal) x0 x1 x2 x3 x4 x5 x6 x7 = (Kernel5Ideal.Gen.dats m 0 c).arrAt 11 Kernel5Ideal.cfg0.N := by
  obtain ⟨h0, h1, h2, h3, h4, h5, h6, h7⟩ := h
  subst h0 h1 h2 h3 h4 h5 h6 h7
  funext i
  have hi : i = ix3 (n0 := 2) (n1 := 16640) (n2 := 512) (i 0) (i 1) (i 2) := (ix3_eta (n0 := 2) (n1 := 16640) (n2 := 512) i).symm
  rw [hi]
  exact (Reference5Ideal.Read.main_v71_at _ _ _ _ _ _ _ _ (i 0) (i 1) (i 2)).trans (Kernel5Ideal.Value.out2_at m c (i 0) (i 1) (i 2)).symm

theorem equal5_3 (h : Same5 m c x0 x1 x2 x3 x4 x5 x6 x7) :
    Reference5Ideal.Read.val_main_v72 (F := Ideal) x0 x1 x2 x3 x4 x5 x6 x7 = (Kernel5Ideal.Gen.dats m 0 c).arrAt 12 Kernel5Ideal.cfg0.N := by
  obtain ⟨h0, h1, h2, h3, h4, h5, h6, h7⟩ := h
  subst h0 h1 h2 h3 h4 h5 h6 h7
  funext i
  have hi : i = ix3 (n0 := 2) (n1 := 16640) (n2 := 512) (i 0) (i 1) (i 2) := (ix3_eta (n0 := 2) (n1 := 16640) (n2 := 512) i).symm
  rw [hi]
  exact (Reference5Ideal.Read.main_v72_at _ _ _ _ _ _ _ _ (i 0) (i 1) (i 2)).trans (Kernel5Ideal.Value.out3_at m c (i 0) (i 1) (i 2)).symm

theorem equal5_4 (h : Same5 m c x0 x1 x2 x3 x4 x5 x6 x7) :
    Reference5Ideal.Read.val_main_v73 (F := Ideal) x0 x1 x2 x3 x4 x5 x6 x7 = (Kernel5Ideal.Gen.dats m 0 c).arrAt 13 Kernel5Ideal.cfg0.N := by
  obtain ⟨h0, h1, h2, h3, h4, h5, h6, h7⟩ := h
  subst h0 h1 h2 h3 h4 h5 h6 h7
  funext i
  have hi : i = ix3 (n0 := 2) (n1 := 16640) (n2 := 512) (i 0) (i 1) (i 2) := (ix3_eta (n0 := 2) (n1 := 16640) (n2 := 512) i).symm
  rw [hi]
  exact (Reference5Ideal.Read.main_v73_at _ _ _ _ _ _ _ _ (i 0) (i 1) (i 2)).trans (Kernel5Ideal.Value.out4_at m c (i 0) (i 1) (i 2)).symm

end Outputs

/-- The projections equal the plain mathematics. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => (Kernel5Ideal.Gen.dats m 0 c).arrAt 9 Kernel5Ideal.cfg0.N, fun c => (Kernel5Ideal.Gen.dats m 0 c).arrAt 10 Kernel5Ideal.cfg0.N, fun c => (Kernel5Ideal.Gen.dats m 0 c).arrAt 11 Kernel5Ideal.cfg0.N, fun c => (Kernel5Ideal.Gen.dats m 0 c).arrAt 12 Kernel5Ideal.cfg0.N, fun c => (Kernel5Ideal.Gen.dats m 0 c).arrAt 13 Kernel5Ideal.cfg0.N, Kernel5Ideal.Value.run_blocks m g, ?_⟩
  refine (θ_run _ _ _).mono (fun r h c => ?_) (Cert.Reference5Ideal.Value.run m' g')
  obtain ⟨hv0, hv1, hv2, hv3, hv4, hrest⟩ := h c
  obtain ⟨a0, a1, a2, a3, a4, a5, a6, a7⟩ := hargs c
  have same := Same5.mk (m := m) (c := c) a0 a1 a2 a3 a4 a5 a6 a7
  exact ⟨hv0.trans ((Reference5Ideal.Read.val_main_v69_eq m' c).trans (equal5_0 m c _ _ _ _ _ _ _ _ same)), hv1.trans ((Reference5Ideal.Read.val_main_v70_eq m' c).trans (equal5_1 m c _ _ _ _ _ _ _ _ same)), hv2.trans ((Reference5Ideal.Read.val_main_v71_eq m' c).trans (equal5_2 m c _ _ _ _ _ _ _ _ same)), hv3.trans ((Reference5Ideal.Read.val_main_v72_eq m' c).trans (equal5_3 m c _ _ _ _ _ _ _ _ same)), hv4.trans ((Reference5Ideal.Read.val_main_v73_eq m' c).trans (equal5_4 m c _ _ _ _ _ _ _ _ same)), hrest⟩

end Cert.Layer

end
-- ==== Proof.Merge.lean ====
/- The layer's merge: four branches, each scaled by the logistic function of its gates and multiplied by its matrix,
   summed, multiplied by the output matrix and added to the token; and the modulated norm of what comes of it. -/
module

public import proofs.«01_k».proof.Proof.Projection

@[expose] public section

set_option maxRecDepth 16384

noncomputable section

namespace Cert.Layer

open Idealize.ShloMosaic

/-- A gate: the logistic function of a gate's column. -/
def gate (x : EReal) : EReal := Ideal.div 1 (1 + Ideal.exp (-x))

/-- Entry `d` of the four gated branches' sum: `g i` is branch `i`'s gates, `y i` its row, `wb i` its matrix. -/
def mergedRow (g : Fin 4 → Fin 1024 → EReal) (y : Fin 4 → Fin 512 → EReal) (wb : Fin 4 → Fin 512 → Fin 1024 → EReal) (d : Fin 1024) : EReal :=
  gate (g 0 d) * (∑ j : Fin 512, y 0 j * wb 0 j d) + gate (g 1 d) * (∑ j : Fin 512, y 1 j * wb 1 j d)
    + gate (g 2 d) * (∑ j : Fin 512, y 2 j * wb 2 j d) + gate (g 3 d) * (∑ j : Fin 512, y 3 j * wb 3 j d)

/-- Entry `d` of the first residual: the token plus its gated output projection. -/
def residualRow (x g1 merged : Fin 1024 → EReal) (wo : Fin 1024 → Fin 1024 → EReal) (d : Fin 1024) : EReal :=
  x d + g1 d * ∑ k : Fin 1024, merged k * wo k d

section Shapes

open Cert.Kernel3Ideal Cert.Kernel3Ideal.Gen

variable (a : FVec Ideal S2x1024 .f32) (ac : FVec Ideal S1024 .f32) (w : FVec Ideal S1024x6144 .f32) (v : FVec Ideal S6144 .f32)

/-- Branch `i`'s gates of token `t`: columns `1024 i` and on. -/
def gatesOf (g : FVec Ideal S2x16640x4096 .f32) (b : Fin 2) (t : Fin 16640) (i : Fin 4) (d : Fin 1024) : EReal :=
  g (ix3 b t (⟨i.val * 1024 + d.val, by omega⟩ : Fin 4096))

/-- The four branches' rows of token `t`. -/
def rowsOf (ya yb yc yd : FVec Ideal ⟨3, ![2, 16640, 512]⟩ .bf16) (b : Fin 2) (t : Fin 16640) (i : Fin 4) (j : Fin 512) : EReal :=
  match i with
  | ⟨0, _⟩ => ya (ix3 b t j)
  | ⟨1, _⟩ => yb (ix3 b t j)
  | ⟨2, _⟩ => yc (ix3 b t j)
  | ⟨3, _⟩ => yd (ix3 b t j)

/-- The layer's first residual at token `t` of sample `b`. -/
def firstResidual (ya yb yc yd : FVec Ideal ⟨3, ![2, 16640, 512]⟩ .bf16) (g : FVec Ideal S2x16640x4096 .f32)
    (x : FVec Ideal S2x16384x1024 .f32) (ctx : FVec Ideal S2x256x1024 .f32) (wb : FVec Ideal ⟨3, ![4, 512, 1024]⟩ .f32)
    (wo : FVec Ideal ⟨2, ![1024, 1024]⟩ .f32) (b : Fin 2) (t : Fin 16640) : Fin 1024 → EReal :=
  residualRow (token x ctx b t) (modRow w v (condition a ac b t) 2)
    (mergedRow (gatesOf g b t) (rowsOf ya yb yc yd b t) fun i j d => wb (ix3 i j d)) fun k d => wo (ix2 k d)

/-- The residual's gate, the modulation's third row, as the kernels take it from the table. -/
def gateTable : FVec Ideal S2x2x1x1024 .f32 :=
  shapeCast S2x2x1x1024 (extractStridedSlice S2x2x1x1x1024 ![0, 0, 2, 0, 0] (modTable a ac w v) (by decide))
    shapeCasts_S2x2x1x1x1024_S2x2x1x1024

/-- The second norm's shift, the modulation's fourth row. -/
def shiftTable2 : FVec Ideal S2x2x1x1024 .f32 :=
  shapeCast S2x2x1x1024 (extractStridedSlice S2x2x1x1x1024 ![0, 0, 3, 0, 0] (modTable a ac w v) (by decide))
    shapeCasts_S2x2x1x1x1024_S2x2x1x1024

/-- The second norm's scale, the modulation's fifth row. -/
def scaleTable2 : FVec Ideal S2x2x1x1024 .f32 :=
  shapeCast S2x2x1x1024 (extractStridedSlice S2x2x1x1x1024 ![0, 0, 4, 0, 0] (modTable a ac w v) (by decide))
    shapeCasts_S2x2x1x1x1024_S2x2x1x1024

theorem gateTable_at (b : Fin 2) (t : Fin 16640) (k : Fin 1024) :
    gateTable a ac w v (ix4 b (side t.val) (0 : Fin 1) k) = modRow w v (condition a ac b t) 2 k := by
  unfold modRow condition
  generalize side t.val = s
  pointwise [gateTable, modTable_at]

theorem shiftTable2_at (b : Fin 2) (t : Fin 16640) (k : Fin 1024) :
    shiftTable2 a ac w v (ix4 b (side t.val) (0 : Fin 1) k) = modRow w v (condition a ac b t) 3 k := by
  unfold modRow condition
  generalize side t.val = s
  pointwise [shiftTable2, modTable_at]

theorem scaleTable2_at (b : Fin 2) (t : Fin 16640) (k : Fin 1024) :
    scaleTable2 a ac w v (ix4 b (side t.val) (0 : Fin 1) k) = modRow w v (condition a ac b t) 4 k := by
  unfold modRow condition
  generalize side t.val = s
  pointwise [scaleTable2, modTable_at]

end Shapes

end Cert.Layer

end
-- ==== Proof.MergeArray.lean ====
/- The arrays the merge's call leaves: the first residual and its modulated norm. -/
module

public import proofs.«01_k».proof.Proof.Gen.Kernel6Ideal.Frame
public import proofs.«01_k».proof.Proof.Merge
public import Idealize.ShloMosaic.Lib.Pipeline.ValueKit

@[expose] public section

set_option maxRecDepth 16384

noncomputable section

namespace Cert.Kernel6Ideal.Value

open Idealize.ShloMosaic Idealize.ShloMosaic.TcCoe Idealize.SL.Sem Cert.Layer
open Idealize.ShloMosaic.Pipeline (Dat)
open Cert.Kernel6Ideal Cert.Kernel6Ideal.Gen

variable (m : (ℓ : Loc nD τ sig) → Buf (Elt Ideal) ℓ)

/-- Where the windows sit at a grid point. -/
theorem idx : ∀ t : Fin cfg0.N, win0_0.index t = ![t.val / 65, t.val % 65, 0]
    ∧ win0_1.index t = ![t.val / 65, t.val % 65, 0]
    ∧ win0_2.index t = ![t.val / 65, t.val % 65, 0]
    ∧ win0_3.index t = ![t.val / 65, t.val % 65, 0]
    ∧ win0_4.index t = ![t.val / 65, t.val % 65, 0]
    ∧ win0_5.index t = ![t.val / 65, t.val % 65, 0]
    ∧ win0_6.index t = ![t.val / 65, 1 - t.val % 65, 0, 0]
    ∧ win0_7.index t = ![t.val / 65, 1 - t.val % 65, 0, 0]
    ∧ win0_8.index t = ![t.val / 65, 1 - t.val % 65, 0, 0]
    ∧ win0_9.index t = ![0, 0]
    ∧ win0_10.index t = ![0, 0, 0]
    ∧ win0_11.index t = ![0, 0]
    ∧ win0_13.index t = ![t.val / 65, t.val % 65, 0]
    ∧ win0_14.index t = ![t.val / 65, t.val % 65, 0] :=
  (by decide +kernel : ∀ t : Fin grid0.N, _)

/-- The gated branches' sum the body forms, at row `r`, column `d`. -/
theorem merged_at (g0 g1 g2 g3 : FVec Ideal S1x256x1024 .f32) (ya yb yc yd : FVec Ideal S1x256x512 .bf16)
    (w0 w1 w2 w3 : FVec Ideal S1x512x1024 .bf16) (r : Fin 256) (d : Fin 1024) :
    k0_pay3 (F := Ideal) (k0_pay2 (F := Ideal) g0 ya w0 g1 yb w1) g2 yc w2 g3 yd w3 (ix2 r d)
      = mergedRow (![fun d => g0 (ix3 (0 : Fin 1) r d), fun d => g1 (ix3 (0 : Fin 1) r d), fun d => g2 (ix3 (0 : Fin 1) r d), fun d => g3 (ix3 (0 : Fin 1) r d)])
          (![fun j => ya (ix3 (0 : Fin 1) r j), fun j => yb (ix3 (0 : Fin 1) r j), fun j => yc (ix3 (0 : Fin 1) r j), fun j => yd (ix3 (0 : Fin 1) r j)])
          (![fun j d => w0 (ix3 (0 : Fin 1) j d), fun j d => w1 (ix3 (0 : Fin 1) j d), fun j d => w2 (ix3 (0 : Fin 1) j d), fun j d => w3 (ix3 (0 : Fin 1) j d)]) d := by
  unfold mergedRow gate
  pointwise [k0_pay3, k0_pay2]
  simp only [logistic_bits]

/-- The residual the body forms. -/
theorem residual_at (mg : FVec Ideal S256x1024 .f32) (x : FVec Ideal S1x256x1024 .f32) (g : FVec Ideal S1x1x1x1024 .f32)
    (wo : FVec Ideal S1024x1024 .bf16) (r : Fin 256) (d : Fin 1024) :
    k0_pay4 (F := Ideal) mg x g wo (ix2 r d)
      = residualRow (fun k => x (ix3 (0 : Fin 1) r k)) (fun k => g (ix4 (0 : Fin 1) (0 : Fin 1) (0 : Fin 1) k)) (fun k => mg (ix2 r k))
          (fun k d => wo (ix2 k d)) d := by
  unfold residualRow
  pointwise [k0_pay4]

/-- The modulated norm the body stores, over its residual. -/
theorem normed_at (mg : FVec Ideal S256x1024 .f32) (x : FVec Ideal S1x256x1024 .f32) (g sc sh : FVec Ideal S1x1x1x1024 .f32)
    (wo : FVec Ideal S1024x1024 .bf16) (gain : FVec Ideal S1x1024 .f32) (r : Fin 256) (d : Fin 1024) :
    k0_pay8 (F := Ideal) (k0_pay6 (F := Ideal) mg x g wo gain sc) sh (ix3 (0 : Fin 1) r d)
      = moddedRow (fun k => k0_pay4 (F := Ideal) mg x g wo (ix2 r k)) (fun k => gain (ix2 (0 : Fin 1) k))
          (fun k => sh (ix4 (0 : Fin 1) (0 : Fin 1) (0 : Fin 1) k)) (fun k => sc (ix4 (0 : Fin 1) (0 : Fin 1) (0 : Fin 1) k)) d := by
  unfold moddedRow normed
  pointwise [k0_pay8, k0_pay7, k0_pay6]

/-- Branch 0's gates, read from the gates' tile. -/
theorem gate_read0 (x : FVec Ideal S1x256x4096 .f32) (r : Fin 256) (d : Fin 1024) :
    View.ld (Val := Elt Ideal) (e' := .f32) x r0_0 (ix3 (0 : Fin 1) r d) = x (ix3 (0 : Fin 1) r (⟨0 * 1024 + d.val, by omega⟩ : Fin 4096)) := by
  refine congrArg x (funext fun a => Fin.ext ?_)
  match a with
  | ⟨0, _⟩ => rfl
  | ⟨1, _⟩ => simp
  | ⟨2, _⟩ => simp

/-- Branch 0's matrix, read from the four. -/
theorem matrix_read0 (x : FVec Ideal S4x512x1024 .bf16) (j : Fin 512) (d : Fin 1024) :
    View.ld (Val := Elt Ideal) (e' := .bf16) x r0_2 (ix3 (0 : Fin 1) j d) = x (ix3 (0 : Fin 4) j d) := by
  refine congrArg x (funext fun a => Fin.ext ?_)
  match a with
  | ⟨0, _⟩ => rfl
  | ⟨1, _⟩ => simp
  | ⟨2, _⟩ => simp

/-- Branch 1's gates, read from the gates' tile. -/
theorem gate_read1 (x : FVec Ideal S1x256x4096 .f32) (r : Fin 256) (d : Fin 1024) :
    View.ld (Val := Elt Ideal) (e' := .f32) x r0_3 (ix3 (0 : Fin 1) r d) = x (ix3 (0 : Fin 1) r (⟨1 * 1024 + d.val, by omega⟩ : Fin 4096)) := by
  refine congrArg x (funext fun a => Fin.ext ?_)
  match a with
  | ⟨0, _⟩ => rfl
  | ⟨1, _⟩ => simp
  | ⟨2, _⟩ => simp

/-- Branch 1's matrix, read from the four. -/
theorem matrix_read1 (x : FVec Ideal S4x512x1024 .bf16) (j : Fin 512) (d : Fin 1024) :
    View.ld (Val := Elt Ideal) (e' := .bf16) x r0_4 (ix3 (0 : Fin 1) j d) = x (ix3 (1 : Fin 4) j d) := by
  refine congrArg x (funext fun a => Fin.ext ?_)
  match a with
  | ⟨0, _⟩ => rfl
  | ⟨1, _⟩ => simp
  | ⟨2, _⟩ => simp

/-- Branch 2's gates, read from the gates' tile. -/
theorem gate_read2 (x : FVec Ideal S1x256x4096 .f32) (r : Fin 256) (d : Fin 1024) :
    View.ld (Val := Elt Ideal) (e' := .f32) x r0_5 (ix3 (0 : Fin 1) r d) = x (ix3 (0 : Fin 1) r (⟨2 * 1024 + d.val, by omega⟩ : Fin 4096)) := by
  refine congrArg x (funext fun a => Fin.ext ?_)
  match a with
  | ⟨0, _⟩ => rfl
  | ⟨1, _⟩ => simp
  | ⟨2, _⟩ => simp

/-- Branch 2's matrix, read from the four. -/
theorem matrix_read2 (x : FVec Ideal S4x512x1024 .bf16) (j : Fin 512) (d : Fin 1024) :
    View.ld (Val := Elt Ideal) (e' := .bf16) x r0_6 (ix3 (0 : Fin 1) j d) = x (ix3 (2 : Fin 4) j d) := by
  refine congrArg x (funext fun a => Fin.ext ?_)
  match a with
  | ⟨0, _⟩ => rfl
  | ⟨1, _⟩ => simp
  | ⟨2, _⟩ => simp

/-- Branch 3's gates, read from the gates' tile. -/
theorem gate_read3 (x : FVec Ideal S1x256x4096 .f32) (r : Fin 256) (d : Fin 1024) :
    View.ld (Val := Elt Ideal) (e' := .f32) x r0_7 (ix3 (0 : Fin 1) r d) = x (ix3 (0 : Fin 1) r (⟨3 * 1024 + d.val, by omega⟩ : Fin 4096)) := by
  refine congrArg x (funext fun a => Fin.ext ?_)
  match a with
  | ⟨0, _⟩ => rfl
  | ⟨1, _⟩ => simp
  | ⟨2, _⟩ => simp

/-- Branch 3's matrix, read from the four. -/
theorem matrix_read3 (x : FVec Ideal S4x512x1024 .bf16) (j : Fin 512) (d : Fin 1024) :
    View.ld (Val := Elt Ideal) (e' := .bf16) x r0_8 (ix3 (0 : Fin 1) j d) = x (ix3 (3 : Fin 4) j d) := by
  refine congrArg x (funext fun a => Fin.ext ?_)
  match a with
  | ⟨0, _⟩ => rfl
  | ⟨1, _⟩ => simp
  | ⟨2, _⟩ => simp

set_option maxHeartbeats 2000000 in
/-- The body's sum of the gated branches at a point is the array's there: row `r` of the point's tile is token `T` of sample `b`. -/
theorem merged_rows (ya yb yc yd : FVec Ideal S2x16640x512 .bf16) (gp : FVec Ideal S2x16640x4096 .f32) (wb : FVec Ideal S4x512x1024 .bf16) (t : Fin cfg0.N) (r : Fin 256) (k : Fin 1024) (b : Fin 2) (T : Fin 16640)
    (hb : b.val = t.val / 65) (hT : T.val = t.val % 65 * 256 + r.val) :
    (k0_pay3 (F := Ideal) (k0_pay2 (F := Ideal) (View.ld (Val := Elt Ideal) (((cfg0.win 4).blk t).view.read (Elt Ideal) gp) r0_0) (((cfg0.win 0).blk t).view.read (Elt Ideal) ya) (View.ld (Val := Elt Ideal) (((cfg0.win 10).blk t).view.read (Elt Ideal) wb) r0_2)
        (View.ld (Val := Elt Ideal) (((cfg0.win 4).blk t).view.read (Elt Ideal) gp) r0_3) (((cfg0.win 1).blk t).view.read (Elt Ideal) yb) (View.ld (Val := Elt Ideal) (((cfg0.win 10).blk t).view.read (Elt Ideal) wb) r0_4))
        (View.ld (Val := Elt Ideal) (((cfg0.win 4).blk t).view.read (Elt Ideal) gp) r0_5) (((cfg0.win 2).blk t).view.read (Elt Ideal) yc) (View.ld (Val := Elt Ideal) (((cfg0.win 10).blk t).view.read (Elt Ideal) wb) r0_6)
        (View.ld (Val := Elt Ideal) (((cfg0.win 4).blk t).view.read (Elt Ideal) gp) r0_7) (((cfg0.win 3).blk t).view.read (Elt Ideal) yd) (View.ld (Val := Elt Ideal) (((cfg0.win 10).blk t).view.read (Elt Ideal) wb) r0_8)) (ix2 r k)
      = mergedRow (gatesOf gp b T) (rowsOf ya yb yc yd b T) (fun i j d => wb (ix3 i j d)) k := by
  rw [merged_at]
  refine congrFun (congr (congr (congrArg mergedRow (funext fun i => funext fun d => ?_)) (funext fun i => funext fun j => ?_))
    (funext fun i => funext fun j => funext fun d => ?_)) k
  · match i with
    | ⟨0, _⟩ =>
      refine (gate_read0 (((cfg0.win 4).blk t).view.read (Elt Ideal) gp) r d).trans ?_
      unfold gatesOf
      blk_ext [idx t]
    | ⟨1, _⟩ =>
      refine (gate_read1 (((cfg0.win 4).blk t).view.read (Elt Ideal) gp) r d).trans ?_
      unfold gatesOf
      blk_ext [idx t]
    | ⟨2, _⟩ =>
      refine (gate_read2 (((cfg0.win 4).blk t).view.read (Elt Ideal) gp) r d).trans ?_
      unfold gatesOf
      blk_ext [idx t]
    | ⟨3, _⟩ =>
      refine (gate_read3 (((cfg0.win 4).blk t).view.read (Elt Ideal) gp) r d).trans ?_
      unfold gatesOf
      blk_ext [idx t]
  · match i with
    | ⟨0, _⟩ =>
      show ((cfg0.win 0).blk t).view.read (Elt Ideal) ya (ix3 (0 : Fin 1) r j) = ya (ix3 b T j)
      blk_ext [idx t]
    | ⟨1, _⟩ =>
      show ((cfg0.win 1).blk t).view.read (Elt Ideal) yb (ix3 (0 : Fin 1) r j) = yb (ix3 b T j)
      blk_ext [idx t]
    | ⟨2, _⟩ =>
      show ((cfg0.win 2).blk t).view.read (Elt Ideal) yc (ix3 (0 : Fin 1) r j) = yc (ix3 b T j)
      blk_ext [idx t]
    | ⟨3, _⟩ =>
      show ((cfg0.win 3).blk t).view.read (Elt Ideal) yd (ix3 (0 : Fin 1) r j) = yd (ix3 b T j)
      blk_ext [idx t]
  · match i with
    | ⟨0, _⟩ =>
      refine (matrix_read0 (((cfg0.win 10).blk t).view.read (Elt Ideal) wb) j d).trans ?_
      blk_ext [idx t]
    | ⟨1, _⟩ =>
      refine (matrix_read1 (((cfg0.win 10).blk t).view.read (Elt Ideal) wb) j d).trans ?_
      blk_ext [idx t]
    | ⟨2, _⟩ =>
      refine (matrix_read2 (((cfg0.win 10).blk t).view.read (Elt Ideal) wb) j d).trans ?_
      blk_ext [idx t]
    | ⟨3, _⟩ =>
      refine (matrix_read3 (((cfg0.win 10).blk t).view.read (Elt Ideal) wb) j d).trans ?_
      blk_ext [idx t]

/-- The first residual the call leaves, from its operands' arrays. -/
def residualRows (ya yb yc yd : FVec Ideal S2x16640x512 .bf16) (gp : FVec Ideal S2x16640x4096 .f32) (wb : FVec Ideal S4x512x1024 .bf16) (xc : FVec Ideal S2x16640x1024 .f32) (g1 : FVec Ideal S2x2x1x1024 .f32)
    (wo : FVec Ideal S1024x1024 .bf16) (b : Fin 2) (T : Fin 16640) : Fin 1024 → EReal :=
  residualRow (fun k => xc (ix3 b T k)) (fun k => g1 (ix4 b (side T.val) (0 : Fin 1) k))
    (mergedRow (gatesOf gp b T) (rowsOf ya yb yc yd b T) fun i j d => wb (ix3 i j d)) fun k d => wo (ix2 k d)

set_option maxHeartbeats 1000000 in
/-- The body's residual at a point is the array's there. -/
theorem residual_rows (ya yb yc yd : FVec Ideal S2x16640x512 .bf16) (gp : FVec Ideal S2x16640x4096 .f32) (wb : FVec Ideal S4x512x1024 .bf16) (xc : FVec Ideal S2x16640x1024 .f32) (g1 : FVec Ideal S2x2x1x1024 .f32)
    (wo : FVec Ideal S1024x1024 .bf16) (t : Fin cfg0.N) (r : Fin 256) (d : Fin 1024) (b : Fin 2) (T : Fin 16640)
    (hb : b.val = t.val / 65) (hT : T.val = t.val % 65 * 256 + r.val) :
    k0_pay4 (F := Ideal) (k0_pay3 (F := Ideal) (k0_pay2 (F := Ideal) (View.ld (Val := Elt Ideal) (((cfg0.win 4).blk t).view.read (Elt Ideal) gp) r0_0) (((cfg0.win 0).blk t).view.read (Elt Ideal) ya) (View.ld (Val := Elt Ideal) (((cfg0.win 10).blk t).view.read (Elt Ideal) wb) r0_2)
        (View.ld (Val := Elt Ideal) (((cfg0.win 4).blk t).view.read (Elt Ideal) gp) r0_3) (((cfg0.win 1).blk t).view.read (Elt Ideal) yb) (View.ld (Val := Elt Ideal) (((cfg0.win 10).blk t).view.read (Elt Ideal) wb) r0_4))
        (View.ld (Val := Elt Ideal) (((cfg0.win 4).blk t).view.read (Elt Ideal) gp) r0_5) (((cfg0.win 2).blk t).view.read (Elt Ideal) yc) (View.ld (Val := Elt Ideal) (((cfg0.win 10).blk t).view.read (Elt Ideal) wb) r0_6)
        (View.ld (Val := Elt Ideal) (((cfg0.win 4).blk t).view.read (Elt Ideal) gp) r0_7) (((cfg0.win 3).blk t).view.read (Elt Ideal) yd) (View.ld (Val := Elt Ideal) (((cfg0.win 10).blk t).view.read (Elt Ideal) wb) r0_8))
        (((cfg0.win 5).blk t).view.read (Elt Ideal) xc) (((cfg0.win 6).blk t).view.read (Elt Ideal) g1) (((cfg0.win 11).blk t).view.read (Elt Ideal) wo) (ix2 r d)
      = residualRows ya yb yc yd gp wb xc g1 wo b T d := by
  rw [residual_at]
  unfold residualRows
  refine congrFun (congr (congr (congr (congrArg residualRow (funext fun k => ?_)) (funext fun k => ?_)) (funext fun k => ?_))
    (funext fun k => funext fun d => ?_)) d
  · blk_ext [idx t]
  · blk_ext [idx t, side]
  · exact merged_rows ya yb yc yd gp wb t r k b T hb hT
  · blk_ext [idx t]

set_option maxHeartbeats 1000000 in
/-- What the body stores to its first output at a point is the array's rows there. -/
theorem point0 (ya yb yc yd : FVec Ideal S2x16640x512 .bf16) (gp : FVec Ideal S2x16640x4096 .f32) (wb : FVec Ideal S4x512x1024 .bf16) (xc : FVec Ideal S2x16640x1024 .f32) (g1 : FVec Ideal S2x2x1x1024 .f32)
    (wo : FVec Ideal S1024x1024 .bf16) (t : Fin cfg0.N) (y : S1x256x1024.Idx) :
    k0_pay5 (F := Ideal) (k0_pay3 (F := Ideal) (k0_pay2 (F := Ideal) (View.ld (Val := Elt Ideal) (((cfg0.win 4).blk t).view.read (Elt Ideal) gp) r0_0) (((cfg0.win 0).blk t).view.read (Elt Ideal) ya) (View.ld (Val := Elt Ideal) (((cfg0.win 10).blk t).view.read (Elt Ideal) wb) r0_2)
        (View.ld (Val := Elt Ideal) (((cfg0.win 4).blk t).view.read (Elt Ideal) gp) r0_3) (((cfg0.win 1).blk t).view.read (Elt Ideal) yb) (View.ld (Val := Elt Ideal) (((cfg0.win 10).blk t).view.read (Elt Ideal) wb) r0_4))
        (View.ld (Val := Elt Ideal) (((cfg0.win 4).blk t).view.read (Elt Ideal) gp) r0_5) (((cfg0.win 2).blk t).view.read (Elt Ideal) yc) (View.ld (Val := Elt Ideal) (((cfg0.win 10).blk t).view.read (Elt Ideal) wb) r0_6)
        (View.ld (Val := Elt Ideal) (((cfg0.win 4).blk t).view.read (Elt Ideal) gp) r0_7) (((cfg0.win 3).blk t).view.read (Elt Ideal) yd) (View.ld (Val := Elt Ideal) (((cfg0.win 10).blk t).view.read (Elt Ideal) wb) r0_8))
        (((cfg0.win 5).blk t).view.read (Elt Ideal) xc) (((cfg0.win 6).blk t).view.read (Elt Ideal) g1) (((cfg0.win 11).blk t).view.read (Elt Ideal) wo) y
      = residualRows ya yb yc yd gp wb xc g1 wo ((((cfg0.win 13).blk t).view.emb y) 0) ((((cfg0.win 13).blk t).view.emb y) 1)
          ((((cfg0.win 13).blk t).view.emb y) 2) := by
  obtain ⟨z, r, d, rfl⟩ : ∃ (z : Fin 1) (r : Fin 256) (d : Fin 1024), y = ix3 z r d := ⟨y 0, y 1, y 2, eq_ix3 y⟩
  obtain rfl : z = 0 := Subsingleton.elim _ _
  have hd : (((cfg0.win 13).blk t).view.emb (ix3 (0 : Fin 1) r d)) 2 = d := Fin.ext (by blk_simp [idx t])
  refine Eq.trans ?_ ((residual_rows ya yb yc yd gp wb xc g1 wo t r d _ _ (by blk_simp [idx t]; rfl) (by blk_simp [idx t])).trans
    (congrArg (residualRows ya yb yc yd gp wb xc g1 wo _ _) hd.symm))
  pointwise [k0_pay5]

/-- The first output, whole, after the call. -/
theorem final0 (c : Dev nD) : (dats m 0 c).arrAt 13 (cfgs 0).N = fun i : S2x16640x1024.Idx =>
    residualRows (V m c main_arg0) (V m c main_arg1) (V m c main_arg2) (V m c main_arg3) (V m c main_arg4) (V m c main_v34) (V m c main_v0)
      (V m c main_v19) (V m c main_v35) (i 0) (i 1) (i 2) := by
  refine (dats m 0 c).arrAt_eq_of_covers 13 _ (by decide +kernel) fun t _ y => ?_
  blk_simp
  rw [after0_13]; unfold_out out0_13; frame_out
  exact point0 (V m c main_arg0) (V m c main_arg1) (V m c main_arg2) (V m c main_arg3) (V m c main_arg4) (V m c main_v34) (V m c main_v0)
    (V m c main_v19) (V m c main_v35) t y

/-- The first residual's modulated norm, as the call leaves it from its operands' arrays. -/
def normRows (ya yb yc yd : FVec Ideal S2x16640x512 .bf16) (gp : FVec Ideal S2x16640x4096 .f32) (wb : FVec Ideal S4x512x1024 .bf16) (xc : FVec Ideal S2x16640x1024 .f32) (g1 sh sc : FVec Ideal S2x2x1x1024 .f32)
    (wo : FVec Ideal S1024x1024 .bf16) (gain : FVec Ideal S1x1024 .f32) (b : Fin 2) (T : Fin 16640) : Fin 1024 → EReal :=
  moddedRow (residualRows ya yb yc yd gp wb xc g1 wo b T) (fun k => gain (ix2 (0 : Fin 1) k))
    (fun k => sh (ix4 b (side T.val) (0 : Fin 1) k)) (fun k => sc (ix4 b (side T.val) (0 : Fin 1) k))

set_option maxHeartbeats 1000000 in
/-- What the body stores to its second output at a point is the array's rows' modulated norm. -/
theorem point1 (ya yb yc yd : FVec Ideal S2x16640x512 .bf16) (gp : FVec Ideal S2x16640x4096 .f32) (wb : FVec Ideal S4x512x1024 .bf16) (xc : FVec Ideal S2x16640x1024 .f32) (g1 sh sc : FVec Ideal S2x2x1x1024 .f32)
    (wo : FVec Ideal S1024x1024 .bf16) (gain : FVec Ideal S1x1024 .f32) (t : Fin cfg0.N) (y : S1x256x1024.Idx) :
    k0_pay8 (F := Ideal) (k0_pay6 (F := Ideal) (k0_pay3 (F := Ideal) (k0_pay2 (F := Ideal) (View.ld (Val := Elt Ideal) (((cfg0.win 4).blk t).view.read (Elt Ideal) gp) r0_0) (((cfg0.win 0).blk t).view.read (Elt Ideal) ya) (View.ld (Val := Elt Ideal) (((cfg0.win 10).blk t).view.read (Elt Ideal) wb) r0_2)
        (View.ld (Val := Elt Ideal) (((cfg0.win 4).blk t).view.read (Elt Ideal) gp) r0_3) (((cfg0.win 1).blk t).view.read (Elt Ideal) yb) (View.ld (Val := Elt Ideal) (((cfg0.win 10).blk t).view.read (Elt Ideal) wb) r0_4))
        (View.ld (Val := Elt Ideal) (((cfg0.win 4).blk t).view.read (Elt Ideal) gp) r0_5) (((cfg0.win 2).blk t).view.read (Elt Ideal) yc) (View.ld (Val := Elt Ideal) (((cfg0.win 10).blk t).view.read (Elt Ideal) wb) r0_6)
        (View.ld (Val := Elt Ideal) (((cfg0.win 4).blk t).view.read (Elt Ideal) gp) r0_7) (((cfg0.win 3).blk t).view.read (Elt Ideal) yd) (View.ld (Val := Elt Ideal) (((cfg0.win 10).blk t).view.read (Elt Ideal) wb) r0_8))
        (((cfg0.win 5).blk t).view.read (Elt Ideal) xc) (((cfg0.win 6).blk t).view.read (Elt Ideal) g1) (((cfg0.win 11).blk t).view.read (Elt Ideal) wo)
        (((cfg0.win 9).blk t).view.read (Elt Ideal) gain) (((cfg0.win 8).blk t).view.read (Elt Ideal) sc)) (((cfg0.win 7).blk t).view.read (Elt Ideal) sh) y
      = normRows ya yb yc yd gp wb xc g1 sh sc wo gain ((((cfg0.win 14).blk t).view.emb y) 0) ((((cfg0.win 14).blk t).view.emb y) 1)
          ((((cfg0.win 14).blk t).view.emb y) 2) := by
  obtain ⟨z, r, d, rfl⟩ : ∃ (z : Fin 1) (r : Fin 256) (d : Fin 1024), y = ix3 z r d := ⟨y 0, y 1, y 2, eq_ix3 y⟩
  obtain rfl : z = 0 := Subsingleton.elim _ _
  rw [normed_at]
  have hd : (((cfg0.win 14).blk t).view.emb (ix3 (0 : Fin 1) r d)) 2 = d := Fin.ext (by blk_simp [idx t])
  rw [hd]
  unfold normRows
  refine congrFun (congr (congr (congr (congrArg moddedRow (funext fun k => ?_)) (funext fun k => ?_)) (funext fun k => ?_)) (funext fun k => ?_)) d
  · exact residual_rows ya yb yc yd gp wb xc g1 wo t r k _ _ (by blk_simp [idx t]; rfl) (by blk_simp [idx t])
  · blk_ext [idx t]
  · blk_ext [idx t, side]
  · blk_ext [idx t, side]

set_option maxHeartbeats 4000000 in
/-- The second output, whole, after the call. -/
theorem final1 (c : Dev nD) : (dats m 0 c).arrAt 14 (cfgs 0).N = fun i : S2x16640x1024.Idx =>
    normRows (V m c main_arg0) (V m c main_arg1) (V m c main_arg2) (V m c main_arg3) (V m c main_arg4) (V m c main_v34) (V m c main_v0)
      (V m c main_v19) (V m c main_v21) (V m c main_v23) (V m c main_v35) (V m c main_v36) (i 0) (i 1) (i 2) := by
  refine (dats m 0 c).arrAt_eq_of_covers 14 _ (by decide +kernel) fun t _ y => ?_
  blk_simp
  rw [after0_14]; unfold_out out0_14; frame_out
  exact point1 (V m c main_arg0) (V m c main_arg1) (V m c main_arg2) (V m c main_arg3) (V m c main_arg4) (V m c main_v34) (V m c main_v0)
    (V m c main_v19) (V m c main_v21) (V m c main_v23) (V m c main_v35) (V m c main_v36) t y

end Cert.Kernel6Ideal.Value

end
-- ==== Proof.MergeResult.lean ====
/- What the merge's program returns, as the layer's first residual and its modulated norm. -/
module

public import proofs.«01_k».proof.Proof.MergeArray
public import proofs.«01_k».proof.Proof.Gen.Kernel6Ideal.Value
public import Idealize.ShloMosaic.Lib.KernelVsHost
public import Idealize.ShloMosaic.Lib.Claim

@[expose] public section

set_option maxRecDepth 16384

noncomputable section

namespace Cert.Kernel6Ideal.Value

open Idealize.ShloMosaic Idealize.ShloMosaic.TcCoe Idealize.SL.Sem Cert.Layer
open Cert.Kernel6Ideal Cert.Kernel6Ideal.Gen

variable (m : (ℓ : Loc nD τ sig) → Buf (Elt Ideal) ℓ)

/-- An argument's contents at launch. -/
abbrev arg (c : Dev nD) (b : Ref sig .tc) : Buf (Elt Ideal) ((c.tc : Thread nD τ).loc b) := m ((c.tc : Thread nD τ).loc b)

/-- The token array. -/
theorem entry_tokens (c : Dev nD) : V m c main_v0
    = tokens (arg m c main_arg5) (arg m c main_arg6) := by
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The residual's gate's table. -/
theorem entry_gate (c : Dev nD) : V m c main_v19
    = gateTable (arg m c main_arg7) (arg m c main_arg8) (arg m c main_arg9) (arg m c main_arg10) := by
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The second norm's shift's table. -/
theorem entry_shift (c : Dev nD) : V m c main_v21
    = shiftTable2 (arg m c main_arg7) (arg m c main_arg8) (arg m c main_arg9) (arg m c main_arg10) := by
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The second norm's scale's table. -/
theorem entry_scale (c : Dev nD) : V m c main_v23
    = scaleTable2 (arg m c main_arg7) (arg m c main_arg8) (arg m c main_arg9) (arg m c main_arg10) := by
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The second norm's gain. -/
theorem entry_gain (c : Dev nD) : V m c main_v36
    = shapeCast S1x1024 (arg m c main_arg11) shapeCasts_S1024_S1x1024 := by
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  rfl

/-- The branches' matrices. -/
theorem entry_branches (c : Dev nD) : V m c main_v34
    = (truncf (F := Ideal) .bf16 (arg m c main_arg12) bitsLt_bf16_f32 : FVec Ideal S4x512x1024 .bf16) := by
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- The output matrix. -/
theorem entry_output (c : Dev nD) : V m c main_v35
    = (truncf (F := Ideal) .bf16 (arg m c main_arg13) bitsLt_bf16_f32 : FVec Ideal S1024x1024 .bf16) := by
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp

/-- The residual the call leaves is the layer's. -/
theorem residualRows_eq (c : Dev nD) (b : Fin 2) (t : Fin 16640) :
    residualRows (V m c main_arg0) (V m c main_arg1) (V m c main_arg2) (V m c main_arg3) (V m c main_arg4) (V m c main_v34) (V m c main_v0)
      (V m c main_v19) (V m c main_v35) b t
      = firstResidual (arg m c main_arg7) (arg m c main_arg8) (arg m c main_arg9) (arg m c main_arg10) (arg m c main_arg0) (arg m c main_arg1) (arg m c main_arg2) (arg m c main_arg3) (arg m c main_arg4) (arg m c main_arg5) (arg m c main_arg6) (arg m c main_arg12) (arg m c main_arg13) b t := by
  rw [V_main_arg0, V_main_arg1, V_main_arg2, V_main_arg3, V_main_arg4, entry_branches, entry_tokens, entry_gate, entry_output]
  unfold residualRows firstResidual
  refine congr (congr (congrArg₂ residualRow (funext fun k => tokens_at _ _ b t k) (funext fun k => gateTable_at _ _ _ _ b t k)) rfl) rfl

/-- The first output at sample `b`, token `t`, column `d`. -/
theorem out0_at (c : Dev nD) (b : Fin 2) (t : Fin 16640) (d : Fin 1024) :
    ((dats m 0 c).arrAt 13 (cfgs 0).N : FVec Ideal S2x16640x1024 .f32) (ix3 b t d) = firstResidual (arg m c main_arg7) (arg m c main_arg8) (arg m c main_arg9) (arg m c main_arg10) (arg m c main_arg0) (arg m c main_arg1) (arg m c main_arg2) (arg m c main_arg3) (arg m c main_arg4) (arg m c main_arg5) (arg m c main_arg6) (arg m c main_arg12) (arg m c main_arg13) b t d := by
  rw [final0]
  exact congrFun (residualRows_eq m c b t) d

/-- The second output at sample `b`, token `t`, column `d`. -/
theorem out1_at (c : Dev nD) (b : Fin 2) (t : Fin 16640) (d : Fin 1024) :
    ((dats m 0 c).arrAt 14 (cfgs 0).N : FVec Ideal S2x16640x1024 .bf16) (ix3 b t d)
      = moddedRow (firstResidual (arg m c main_arg7) (arg m c main_arg8) (arg m c main_arg9) (arg m c main_arg10) (arg m c main_arg0) (arg m c main_arg1) (arg m c main_arg2) (arg m c main_arg3) (arg m c main_arg4) (arg m c main_arg5) (arg m c main_arg6) (arg m c main_arg12) (arg m c main_arg13) b t) (fun k => (arg m c main_arg11) (ix1 k))
          (modRow (arg m c main_arg9) (arg m c main_arg10) (condition (arg m c main_arg7) (arg m c main_arg8) b t) 3)
          (modRow (arg m c main_arg9) (arg m c main_arg10) (condition (arg m c main_arg7) (arg m c main_arg8) b t) 4) d := by
  rw [final1]
  unfold normRows
  refine congrFun (congr (congr (congr (congrArg moddedRow (residualRows_eq m c b t)) (funext fun k => ?_)) (funext fun k => ?_)) (funext fun k => ?_)) d
  · rw [entry_gain]
    generalize arg m c main_arg11 = g
    pointwise
  · rw [entry_shift]
    exact shiftTable2_at _ _ _ _ b t k
  · rw [entry_scale]
    exact scaleTable2_at _ _ _ _ b t k

end Cert.Kernel6Ideal.Value

end
-- ==== Proof.ReferenceMerge.lean ====
/- The sixth reference program: the merge's residual and its modulated norm, read at an index. -/
module

public import proofs.«01_k».proof.Proof.Merge
public import proofs.«01_k».proof.Proof.Gen.Reference6Ideal.Read
public import Idealize.ShloMosaic.Lib.Pointwise

@[expose] public section

set_option maxRecDepth 16384

noncomputable section

namespace Cert.Reference6Ideal.Read

open Idealize.ShloMosaic Idealize.ShloMosaic.TcCoe Idealize.SL.Sem Cert.Layer
open Cert.Reference6Ideal

variable (x0 x1 x2 x3 : FVec Ideal S2x16640x512 .bf16) (x4 : FVec Ideal S2x16640x4096 .f32) (x5 : FVec Ideal S2x16384x1024 .f32)
  (x6 : FVec Ideal S2x256x1024 .f32) (x7 : FVec Ideal S2x1024 .f32) (x8 : FVec Ideal S1024 .f32) (x9 : FVec Ideal S1024x6144 .f32)
  (x10 : FVec Ideal S6144 .f32) (x11 : FVec Ideal S1024 .f32) (x12 : FVec Ideal S4x512x1024 .f32) (x13 : FVec Ideal S1024x1024 .f32)

/-- The modulation of a sample, before it is cut into rows. -/
theorem sample_at (b : Fin 2) (j : Fin 6144) :
    val_main_v8 (F := Ideal) x7 x9 x10 (ix3 b (0 : Fin 1) j)
      = modEntry (fun k => x7 (ix2 b k)) (fun i => x9 (ix2 i j)) (x10 (ix1 j)) := by
  pointwise [val_main_v8, val_main_v4, val_main_v1, val_main_v0, val_main_call0_v5, val_main_call0_v4, val_main_call0_cst_0,
    val_main_call0_v3, val_main_call0_v2, val_main_call0_cst, val_main_call0_v1, val_main_call0_v0, val_main_v3, val_main_v2]
  rfl

/-- The context's modulation, before it is cut into rows. -/
theorem context_row_at (j : Fin 6144) :
    val_main_v7 (F := Ideal) x8 x9 x10 (ix1 j) = modEntry (fun k => x8 (ix1 k)) (fun i => x9 (ix2 i j)) (x10 (ix1 j)) := by
  pointwise [val_main_v7, val_main_v6, val_main_v5, val_main_call1_v5, val_main_call1_v4, val_main_call1_cst_0, val_main_call1_v3,
    val_main_call1_v2, val_main_call1_cst, val_main_call1_v1, val_main_call1_v0]
  rfl

/-- The latent tokens' gates. -/
theorem latent_gate_at (b : Fin 2) (n : Fin 16384) (j : Fin 4096) :
    val_main_v31 (F := Ideal) x4 (ix3 b n j) = gate (x4 (ix3 b (⟨256 + n.val, by omega⟩ : Fin 16640) j)) := by
  unfold gate
  pointwise [val_main_v31, val_main_v30, val_main_cst_0, val_main_v29, val_main_v28, val_main_cst, val_main_v27, val_main_v26, val_main_v25]

/-- Branch 0, gated, of the latent tokens. -/
theorem latent_branch0_at (b : Fin 2) (n : Fin 16384) (d : Fin 1024) :
    val_main_v39 (F := Ideal) x0 x4 x12 (ix3 b n d)
      = gate (gatesOf x4 b (⟨256 + n.val, by omega⟩ : Fin 16640) 0 d) * ∑ j : Fin 512, x0 (ix3 b (⟨256 + n.val, by omega⟩ : Fin 16640) j) * x12 (ix3 (0 : Fin 4) j d) := by
  unfold gatesOf
  pointwise [val_main_v39, val_main_v34, val_main_v33, val_main_v32, val_main_v38, val_main_v35, val_main_v21, val_main_v37, val_main_v36,
    latent_gate_at]

/-- Branch 1, gated, of the latent tokens. -/
theorem latent_branch1_at (b : Fin 2) (n : Fin 16384) (d : Fin 1024) :
    val_main_v46 (F := Ideal) x1 x4 x12 (ix3 b n d)
      = gate (gatesOf x4 b (⟨256 + n.val, by omega⟩ : Fin 16640) 1 d) * ∑ j : Fin 512, x1 (ix3 b (⟨256 + n.val, by omega⟩ : Fin 16640) j) * x12 (ix3 (1 : Fin 4) j d) := by
  unfold gatesOf
  pointwise [val_main_v46, val_main_v41, val_main_v40, val_main_v32, val_main_v45, val_main_v42, val_main_v22, val_main_v44, val_main_v43,
    latent_gate_at]

/-- Branch 2, gated, of the latent tokens. -/
theorem latent_branch2_at (b : Fin 2) (n : Fin 16384) (d : Fin 1024) :
    val_main_v54 (F := Ideal) x2 x4 x12 (ix3 b n d)
      = gate (gatesOf x4 b (⟨256 + n.val, by omega⟩ : Fin 16640) 2 d) * ∑ j : Fin 512, x2 (ix3 b (⟨256 + n.val, by omega⟩ : Fin 16640) j) * x12 (ix3 (2 : Fin 4) j d) := by
  unfold gatesOf
  pointwise [val_main_v54, val_main_v49, val_main_v48, val_main_v32, val_main_v53, val_main_v50, val_main_v23, val_main_v52, val_main_v51,
    latent_gate_at]

/-- Branch 3, gated, of the latent tokens. -/
theorem latent_branch3_at (b : Fin 2) (n : Fin 16384) (d : Fin 1024) :
    val_main_v62 (F := Ideal) x3 x4 x12 (ix3 b n d)
      = gate (gatesOf x4 b (⟨256 + n.val, by omega⟩ : Fin 16640) 3 d) * ∑ j : Fin 512, x3 (ix3 b (⟨256 + n.val, by omega⟩ : Fin 16640) j) * x12 (ix3 (3 : Fin 4) j d) := by
  unfold gatesOf
  pointwise [val_main_v62, val_main_v57, val_main_v56, val_main_v32, val_main_v61, val_main_v58, val_main_v24, val_main_v60, val_main_v59,
    latent_gate_at]

/-- The latent tokens' gated branches, summed. -/
theorem latent_merged_at (b : Fin 2) (n : Fin 16384) (d : Fin 1024) :
    val_main_v63 (F := Ideal) x0 x1 x2 x3 x4 x12 (ix3 b n d)
      = mergedRow (gatesOf x4 b (⟨256 + n.val, by omega⟩ : Fin 16640)) (rowsOf x0 x1 x2 x3 b (⟨256 + n.val, by omega⟩ : Fin 16640)) (fun i j d => x12 (ix3 i j d)) d := by
  unfold mergedRow
  pointwise [val_main_v63, val_main_v55, val_main_v47, latent_branch0_at, latent_branch1_at, latent_branch2_at, latent_branch3_at]
  rfl

/-- The latent tokens' residual. -/
theorem latent_residual_at (b : Fin 2) (n : Fin 16384) (d : Fin 1024) :
    val_main_v111 (F := Ideal) x0 x1 x2 x3 x4 x5 x7 x9 x10 x12 x13 (ix3 b n d)
      = residualRow (fun k => x5 (ix3 b n k)) (modRow x9 x10 (fun k => x7 (ix2 b k)) 2)
          (mergedRow (gatesOf x4 b (⟨256 + n.val, by omega⟩ : Fin 16640)) (rowsOf x0 x1 x2 x3 b (⟨256 + n.val, by omega⟩ : Fin 16640)) fun i j d => x12 (ix3 i j d)) (fun k d => x13 (ix2 k d)) d := by
  unfold residualRow modRow
  pointwise [val_main_v111, val_main_v110, val_main_v109, val_main_v11, val_main_v64, sample_at, latent_merged_at]

/-- The latent tokens' modulated norm. -/
theorem latent_norm_at (b : Fin 2) (n : Fin 16384) (d : Fin 1024) :
    val_main_v134 (F := Ideal) x0 x1 x2 x3 x4 x5 x7 x9 x10 x11 x12 x13 (ix3 b n d)
      = moddedRow (fun k => val_main_v111 (F := Ideal) x0 x1 x2 x3 x4 x5 x7 x9 x10 x12 x13 (ix3 b n k))
          (fun k => x11 (ix1 k)) (modRow x9 x10 (fun k => x7 (ix2 b k)) 3) (modRow x9 x10 (fun k => x7 (ix2 b k)) 4) d := by
  unfold moddedRow normed modRow
  pointwise [val_main_v134, val_main_v132, val_main_v128, val_main_v125, val_main_v124, val_main_v123, val_main_v122, val_main_v120,
    val_main_v118, val_main_v117, val_main_v116, val_main_cst_3, val_main_v119, val_main_cst_4, val_main_v121, val_main_cst_5,
    val_main_v127, val_main_v126, val_main_v131, val_main_v130, val_main_v129, val_main_cst_6, val_main_v13, val_main_v133, val_main_v12,
    sample_at]

/-- The context tokens' gates. -/
theorem context_gate_at (b : Fin 2) (n : Fin 256) (j : Fin 4096) :
    val_main_v75 (F := Ideal) x4 (ix3 b n j) = gate (x4 (ix3 b (⟨n.val, by omega⟩ : Fin 16640) j)) := by
  unfold gate
  pointwise [val_main_v75, val_main_v74, val_main_cst_2, val_main_v73, val_main_v72, val_main_cst_1, val_main_v71, val_main_v70,
    val_main_v69]

/-- Branch 0, gated, of the context tokens. -/
theorem context_branch0_at (b : Fin 2) (n : Fin 256) (d : Fin 1024) :
    val_main_v83 (F := Ideal) x0 x4 x12 (ix3 b n d)
      = gate (gatesOf x4 b (⟨n.val, by omega⟩ : Fin 16640) 0 d) * ∑ j : Fin 512, x0 (ix3 b (⟨n.val, by omega⟩ : Fin 16640) j) * x12 (ix3 (0 : Fin 4) j d) := by
  unfold gatesOf
  pointwise [val_main_v83, val_main_v78, val_main_v77, val_main_v76, val_main_v82, val_main_v79, val_main_v65, val_main_v81, val_main_v80,
    context_gate_at]

/-- Branch 1, gated, of the context tokens. -/
theorem context_branch1_at (b : Fin 2) (n : Fin 256) (d : Fin 1024) :
    val_main_v90 (F := Ideal) x1 x4 x12 (ix3 b n d)
      = gate (gatesOf x4 b (⟨n.val, by omega⟩ : Fin 16640) 1 d) * ∑ j : Fin 512, x1 (ix3 b (⟨n.val, by omega⟩ : Fin 16640) j) * x12 (ix3 (1 : Fin 4) j d) := by
  unfold gatesOf
  pointwise [val_main_v90, val_main_v85, val_main_v84, val_main_v76, val_main_v89, val_main_v86, val_main_v66, val_main_v88, val_main_v87,
    context_gate_at]

/-- Branch 2, gated, of the context tokens. -/
theorem context_branch2_at (b : Fin 2) (n : Fin 256) (d : Fin 1024) :
    val_main_v98 (F := Ideal) x2 x4 x12 (ix3 b n d)
      = gate (gatesOf x4 b (⟨n.val, by omega⟩ : Fin 16640) 2 d) * ∑ j : Fin 512, x2 (ix3 b (⟨n.val, by omega⟩ : Fin 16640) j) * x12 (ix3 (2 : Fin 4) j d) := by
  unfold gatesOf
  pointwise [val_main_v98, val_main_v93, val_main_v92, val_main_v76, val_main_v97, val_main_v94, val_main_v67, val_main_v96, val_main_v95,
    context_gate_at]

/-- Branch 3, gated, of the context tokens. -/
theorem context_branch3_at (b : Fin 2) (n : Fin 256) (d : Fin 1024) :
    val_main_v106 (F := Ideal) x3 x4 x12 (ix3 b n d)
      = gate (gatesOf x4 b (⟨n.val, by omega⟩ : Fin 16640) 3 d) * ∑ j : Fin 512, x3 (ix3 b (⟨n.val, by omega⟩ : Fin 16640) j) * x12 (ix3 (3 : Fin 4) j d) := by
  unfold gatesOf
  pointwise [val_main_v106, val_main_v101, val_main_v100, val_main_v76, val_main_v105, val_main_v102, val_main_v68, val_main_v104,
    val_main_v103, context_gate_at]

/-- The context tokens' gated branches, summed. -/
theorem context_merged_at (b : Fin 2) (n : Fin 256) (d : Fin 1024) :
    val_main_v107 (F := Ideal) x0 x1 x2 x3 x4 x12 (ix3 b n d)
      = mergedRow (gatesOf x4 b (⟨n.val, by omega⟩ : Fin 16640)) (rowsOf x0 x1 x2 x3 b (⟨n.val, by omega⟩ : Fin 16640)) (fun i j d => x12 (ix3 i j d)) d := by
  unfold mergedRow
  pointwise [val_main_v107, val_main_v99, val_main_v91, context_branch0_at, context_branch1_at, context_branch2_at, context_branch3_at]
  rfl

/-- The context tokens' residual. -/
theorem context_residual_at (b : Fin 2) (n : Fin 256) (d : Fin 1024) :
    val_main_v115 (F := Ideal) x0 x1 x2 x3 x4 x6 x8 x9 x10 x12 x13 (ix3 b n d)
      = residualRow (fun k => x6 (ix3 b n k)) (modRow x9 x10 (fun k => x8 (ix1 k)) 2)
          (mergedRow (gatesOf x4 b (⟨n.val, by omega⟩ : Fin 16640)) (rowsOf x0 x1 x2 x3 b (⟨n.val, by omega⟩ : Fin 16640)) fun i j d => x12 (ix3 i j d)) (fun k d => x13 (ix2 k d)) d := by
  unfold residualRow modRow
  pointwise [val_main_v115, val_main_v114, val_main_v113, val_main_v112, val_main_v17, val_main_v108, context_row_at, context_merged_at]

/-- The context tokens' modulated norm. -/
theorem context_norm_at (b : Fin 2) (n : Fin 256) (d : Fin 1024) :
    val_main_v155 (F := Ideal) x0 x1 x2 x3 x4 x6 x8 x9 x10 x11 x12 x13 (ix3 b n d)
      = moddedRow (fun k => val_main_v115 (F := Ideal) x0 x1 x2 x3 x4 x6 x8 x9 x10 x12 x13 (ix3 b n k))
          (fun k => x11 (ix1 k)) (modRow x9 x10 (fun k => x8 (ix1 k)) 3) (modRow x9 x10 (fun k => x8 (ix1 k)) 4) d := by
  unfold moddedRow normed modRow
  pointwise [val_main_v155, val_main_v152, val_main_v147, val_main_v144, val_main_v143, val_main_v142, val_main_v141, val_main_v139,
    val_main_v137, val_main_v136, val_main_v135, val_main_cst_7, val_main_v138, val_main_cst_8, val_main_v140, val_main_cst_9,
    val_main_v146, val_main_v145, val_main_v151, val_main_v150, val_main_v149, val_main_v148, val_main_cst_10, val_main_v19, val_main_v154,
    val_main_v153, val_main_v18, context_row_at]

/-- Token `t`'s residual, context or latent. -/
theorem context_first (b : Fin 2) (t : Fin 16640) (ht : t.val < 256) :
    (fun d : Fin 1024 => val_main_v115 (F := Ideal) x0 x1 x2 x3 x4 x6 x8 x9 x10 x12 x13 (ix3 b (⟨t.val, ht⟩ : Fin 256) d))
      = firstResidual x7 x8 x9 x10 x0 x1 x2 x3 x4 x5 x6 x12 x13 b t := by
  funext d
  rw [context_residual_at]
  unfold firstResidual
  rw [token_context x5 x6 b t ht, condition_context x7 x8 b t ht]

theorem latent_first (b : Fin 2) (t : Fin 16640) (ht : ¬ t.val < 256) :
    (fun d : Fin 1024 => val_main_v111 (F := Ideal) x0 x1 x2 x3 x4 x5 x7 x9 x10 x12 x13 (ix3 b (⟨t.val - 256, by omega⟩ : Fin 16384) d))
      = firstResidual x7 x8 x9 x10 x0 x1 x2 x3 x4 x5 x6 x12 x13 b t := by
  funext d
  have e : (⟨256 + (t.val - 256), by omega⟩ : Fin 16640) = t := Fin.ext (by show 256 + (t.val - 256) = t.val; omega)
  rw [latent_residual_at]
  unfold firstResidual
  rw [token_latent x5 x6 b t ht, condition_latent x7 x8 b t ht]
  simp only [e]

/- The results. -/

theorem main_v156_at (b : Fin 2) (t : Fin 16640) (d : Fin 1024) :
    val_main_v156 (F := Ideal) x0 x1 x2 x3 x4 x5 x6 x7 x8 x9 x10 x12 x13 (ix3 b t d) = firstResidual x7 x8 x9 x10 x0 x1 x2 x3 x4 x5 x6 x12 x13 b t d := by
  unfold val_main_v156
  refine (after_context _ _ _ b t d).trans ?_
  by_cases ht : t.val < 256
  · rw [dif_pos ht]
    exact congrFun (context_first x0 x1 x2 x3 x4 x5 x6 x7 x8 x9 x10 x12 x13 b t ht) d
  · rw [dif_neg ht]
    exact congrFun (latent_first x0 x1 x2 x3 x4 x5 x6 x7 x8 x9 x10 x12 x13 b t ht) d

theorem main_v158_at (b : Fin 2) (t : Fin 16640) (d : Fin 1024) :
    val_main_v158 (F := Ideal) x0 x1 x2 x3 x4 x5 x6 x7 x8 x9 x10 x11 x12 x13 (ix3 b t d)
      = moddedRow (firstResidual x7 x8 x9 x10 x0 x1 x2 x3 x4 x5 x6 x12 x13 b t) (fun k => x11 (ix1 k))
          (modRow x9 x10 (condition x7 x8 b t) 3) (modRow x9 x10 (condition x7 x8 b t) 4) d := by
  show val_main_v157 (F := Ideal) x0 x1 x2 x3 x4 x5 x6 x7 x8 x9 x10 x11 x12 x13 (ix3 b t d) = _
  unfold val_main_v157
  refine (after_context _ _ _ b t d).trans ?_
  by_cases ht : t.val < 256
  · rw [dif_pos ht, context_norm_at, condition_context x7 x8 b t ht, context_first x0 x1 x2 x3 x4 x5 x6 x7 x8 x9 x10 x12 x13 b t ht]
  · rw [dif_neg ht, latent_norm_at, condition_latent x7 x8 b t ht, latent_first x0 x1 x2 x3 x4 x5 x6 x7 x8 x9 x10 x12 x13 b t ht]

end Cert.Reference6Ideal.Read

end
-- ==== Proof.MergeClaims.lean ====
/- The claims about the merge's program. -/
module

public import proofs.«01_k».proof.Defs
public import proofs.«01_k».proof.Proof.MergeResult
public import proofs.«01_k».proof.Proof.ReferenceMerge
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import Idealize.ShloMosaic.Lib.Quiescent

@[expose] public section

noncomputable section

namespace Cert.Layer

open Idealize.ShloMosaic Idealize.ShloMosaic.TcCoe Idealize.SL.Sem

/-- The reference runs, leaves its arguments and ends with no counter raised: it has no semaphore. -/
theorem quiescent6 : Cert.quiescent_Reference6Ideal (hReference6Ideal := Cert.Reference6Ideal.Gen.facts) := fun m ρ _ =>
  (θ_run _ _ _).mono (fun r h => ⟨fun c => (h c).2.2, sem_eq_zero_of_no_sems rfl r.2⟩) (Cert.Reference6Ideal.Value.run m ρ)

/-- The arrays of the reference's arguments are the kernel's. -/
structure Same6 (m : (ℓ : Loc Kernel6Ideal.nD Kernel6Ideal.τ Kernel6Ideal.sig) → Buf (Elt Ideal) ℓ) (c : Dev Kernel6Ideal.nD)
    (x0 : FVec Ideal Reference6Ideal.S2x16640x512 .bf16)
    (x1 : FVec Ideal Reference6Ideal.S2x16640x512 .bf16)
    (x2 : FVec Ideal Reference6Ideal.S2x16640x512 .bf16)
    (x3 : FVec Ideal Reference6Ideal.S2x16640x512 .bf16)
    (x4 : FVec Ideal Reference6Ideal.S2x16640x4096 .f32)
    (x5 : FVec Ideal Reference6Ideal.S2x16384x1024 .f32)
    (x6 : FVec Ideal Reference6Ideal.S2x256x1024 .f32)
    (x7 : FVec Ideal Reference6Ideal.S2x1024 .f32)
    (x8 : FVec Ideal Reference6Ideal.S1024 .f32)
    (x9 : FVec Ideal Reference6Ideal.S1024x6144 .f32)
    (x10 : FVec Ideal Reference6Ideal.S6144 .f32)
    (x11 : FVec Ideal Reference6Ideal.S1024 .f32)
    (x12 : FVec Ideal Reference6Ideal.S4x512x1024 .f32)
    (x13 : FVec Ideal Reference6Ideal.S1024x1024 .f32) : Prop where
  h0 : x0 = Kernel6Ideal.Value.arg m c Kernel6Ideal.main_arg0
  h1 : x1 = Kernel6Ideal.Value.arg m c Kernel6Ideal.main_arg1
  h2 : x2 = Kernel6Ideal.Value.arg m c Kernel6Ideal.main_arg2
  h3 : x3 = Kernel6Ideal.Value.arg m c Kernel6Ideal.main_arg3
  h4 : x4 = Kernel6Ideal.Value.arg m c Kernel6Ideal.main_arg4
  h5 : x5 = Kernel6Ideal.Value.arg m c Kernel6Ideal.main_arg5
  h6 : x6 = Kernel6Ideal.Value.arg m c Kernel6Ideal.main_arg6
  h7 : x7 = Kernel6Ideal.Value.arg m c Kernel6Ideal.main_arg7
  h8 : x8 = Kernel6Ideal.Value.arg m c Kernel6Ideal.main_arg8
  h9 : x9 = Kernel6Ideal.Value.arg m c Kernel6Ideal.main_arg9
  h10 : x10 = Kernel6Ideal.Value.arg m c Kernel6Ideal.main_arg10
  h11 : x11 = Kernel6Ideal.Value.arg m c Kernel6Ideal.main_arg11
  h12 : x12 = Kernel6Ideal.Value.arg m c Kernel6Ideal.main_arg12
  h13 : x13 = Kernel6Ideal.Value.arg m c Kernel6Ideal.main_arg13

section Outputs

variable (m : (ℓ : Loc Kernel6Ideal.nD Kernel6Ideal.τ Kernel6Ideal.sig) → Buf (Elt Ideal) ℓ) (c : Dev Kernel6Ideal.nD)
    (x0 : FVec Ideal Reference6Ideal.S2x16640x512 .bf16)
    (x1 : FVec Ideal Reference6Ideal.S2x16640x512 .bf16)
    (x2 : FVec Ideal Reference6Ideal.S2x16640x512 .bf16)
    (x3 : FVec Ideal Reference6Ideal.S2x16640x512 .bf16)
    (x4 : FVec Ideal Reference6Ideal.S2x16640x4096 .f32)
    (x5 : FVec Ideal Reference6Ideal.S2x16384x1024 .f32)
    (x6 : FVec Ideal Reference6Ideal.S2x256x1024 .f32)
    (x7 : FVec Ideal Reference6Ideal.S2x1024 .f32)
    (x8 : FVec Ideal Reference6Ideal.S1024 .f32)
    (x9 : FVec Ideal Reference6Ideal.S1024x6144 .f32)
    (x10 : FVec Ideal Reference6Ideal.S6144 .f32)
    (x11 : FVec Ideal Reference6Ideal.S1024 .f32)
    (x12 : FVec Ideal Reference6Ideal.S4x512x1024 .f32)
    (x13 : FVec Ideal Reference6Ideal.S1024x1024 .f32)

theorem equal6_0 (h : Same6 m c x0 x1 x2 x3 x4 x5 x6 x7 x8 x9 x10 x11 x12 x13) :
    Reference6Ideal.Read.val_main_v156 (F := Ideal) x0 x1 x2 x3 x4 x5 x6 x7 x8 x9 x10 x12 x13 = (Kernel6Ideal.Gen.dats m 0 c).arrAt 13 Kernel6Ideal.cfg0.N := by
  obtain ⟨h0, h1, h2, h3, h4, h5, h6, h7, h8, h9, h10, h11, h12, h13⟩ := h
  subst h0 h1 h2 h3 h4 h5 h6 h7 h8 h9 h10 h11 h12 h13
  funext i
  have hi : i = ix3 (n0 := 2) (n1 := 16640) (n2 := 1024) (i 0) (i 1) (i 2) := (ix3_eta (n0 := 2) (n1 := 16640) (n2 := 1024) i).symm
  rw [hi]
  exact (Reference6Ideal.Read.main_v156_at _ _ _ _ _ _ _ _ _ _ _ _ _ (i 0) (i 1) (i 2)).trans (Kernel6Ideal.Value.out0_at m c (i 0) (i 1) (i 2)).symm

theorem equal6_1 (h : Same6 m c x0 x1 x2 x3 x4 x5 x6 x7 x8 x9 x10 x11 x12 x13) :
    Reference6Ideal.Read.val_main_v158 (F := Ideal) x0 x1 x2 x3 x4 x5 x6 x7 x8 x9 x10 x11 x12 x13 = (Kernel6Ideal.Gen.dats m 0 c).arrAt 14 Kernel6Ideal.cfg0.N := by
  obtain ⟨h0, h1, h2, h3, h4, h5, h6, h7, h8, h9, h10, h11, h12, h13⟩ := h
  subst h0 h1 h2 h3 h4 h5 h6 h7 h8 h9 h10 h11 h12 h13
  funext i
  have hi : i = ix3 (n0 := 2) (n1 := 16640) (n2 := 1024) (i 0) (i 1) (i 2) := (ix3_eta (n0 := 2) (n1 := 16640) (n2 := 1024) i).symm
  rw [hi]
  exact (Reference6Ideal.Read.main_v158_at _ _ _ _ _ _ _ _ _ _ _ _ _ _ (i 0) (i 1) (i 2)).trans (Kernel6Ideal.Value.out1_at m c (i 0) (i 1) (i 2)).symm

end Outputs

set_option maxHeartbeats 2000000 in
/-- The merge's residual and its modulated norm equal the plain mathematics. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => (Kernel6Ideal.Gen.dats m 0 c).arrAt 13 Kernel6Ideal.cfg0.N, fun c => (Kernel6Ideal.Gen.dats m 0 c).arrAt 14 Kernel6Ideal.cfg0.N,
    (θ_run _ _ _).mono (fun r h c => ⟨(h c).1, (h c).2.1, (h c).2.2.2⟩) (Kernel6Ideal.Value.run_blocks m g), ?_⟩
  refine (θ_run _ _ _).mono (fun r h c => ?_) (Cert.Reference6Ideal.Value.run m' g')
  obtain ⟨hv0, hv1, hrest⟩ := h c
  obtain ⟨a0, a1, a2, a3, a4, a5, a6, a7, a8, a9, a10, a11, a12, a13, _⟩ := hargs c
  have same := Same6.mk (m := m) (c := c) a0 a1 a2 a3 a4 a5 a6 a7 a8 a9 a10 a11 a12 a13
  exact ⟨hv0.trans ((Reference6Ideal.Read.val_main_v156_eq _).trans (equal6_0 m c _ _ _ _ _ _ _ _ _ _ _ _ _ _ same)),
    hv1.trans ((Reference6Ideal.Read.val_main_v158_eq _).trans (equal6_1 m c _ _ _ _ _ _ _ _ _ _ _ _ _ _ same)), hrest⟩

end Cert.Layer

end
-- ==== Proof.lean ====
/- The proof of the claims. Each part has its modules under Proof/; here they are put in the claims' order. -/
module

public import proofs.«01_k».proof.Defs
public import proofs.«01_k».proof.Proof.ExpertsClaims
public import proofs.«01_k».proof.Proof.ResidualClaims
public import proofs.«01_k».proof.Proof.WideClaims
public import proofs.«01_k».proof.Proof.NarrowClaims
public import proofs.«01_k».proof.Proof.ColumnsClaims
public import proofs.«01_k».proof.Proof.MergeClaims
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal

@[expose] public section

noncomputable section

namespace Cert.Proof

open Idealize.ShloMosaic Idealize.SL.Sem

/-- Everything claimed: the frames of every program, then each kernel's idealization and its equality with the reference. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    fun m ρ _ => Cert.Kernel.Gen.frame m ρ, fun m ρ _ => Cert.KernelIdeal.Gen.frame m ρ, Cert.Layer.quiescent1,
    fun m ρ _ => Cert.Kernel2.Gen.frame m ρ, fun m ρ _ => Cert.Kernel2Ideal.Gen.frame m ρ, Cert.Layer.quiescent2,
    fun m ρ _ => Cert.Kernel3.Gen.frame m ρ, fun m ρ _ => Cert.Kernel3Ideal.Gen.frame m ρ, Cert.Layer.quiescent3,
    fun m ρ _ => Cert.Kernel4.Gen.frame m ρ, fun m ρ _ => Cert.Kernel4Ideal.Gen.frame m ρ, Cert.Layer.quiescent4,
    fun m ρ _ => Cert.Kernel5.Gen.frame m ρ, fun m ρ _ => Cert.Kernel5Ideal.Gen.frame m ρ, Cert.Layer.quiescent5,
    fun m ρ _ => Cert.Kernel6.Gen.frame m ρ, fun m ρ _ => Cert.Kernel6Ideal.Gen.frame m ρ, Cert.Layer.quiescent6,
    trivial, Cert.Layer.algebraic1,
    trivial, Cert.Layer.algebraic2,
    trivial, Cert.Layer.algebraic3,
    trivial, Cert.Layer.algebraic4,
    trivial, Cert.Layer.algebraic5,
    trivial, Cert.Layer.algebraic6⟩

end Cert.Proof

end
